-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v11)) (v1 : (c : Dev Cert.KernelIdeal.nD) → Buf (Elt Ideal) ((c.tc : Thread Cert.KernelIdeal.nD Cert.KernelIdeal.τ).loc Cert.KernelIdeal.main_v12)) (v2 : (c : Dev Cert.KernelIdeal.nD) → Buf (Elt Ideal) ((c.tc : Thread Cert.KernelIdeal.nD Cert.KernelIdeal.τ).loc Cert.KernelIdeal.main_v13)) (v3 : (c : Dev Cert.KernelIdeal.nD) → Buf (Elt Ideal) ((c.tc : Thread Cert.KernelIdeal.nD Cert.KernelIdeal.τ).loc Cert.KernelIdeal.main_v10_3)) (v4 : (c : Dev Cert.KernelIdeal.nD) → Buf (Elt Ideal) ((c.tc : Thread Cert.KernelIdeal.nD Cert.KernelIdeal.τ).loc Cert.KernelIdeal.main_v10_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v11) = v0 c
          ∧ r.2.mem ((c.tc : Thread Cert.KernelIdeal.nD Cert.KernelIdeal.τ).loc Cert.KernelIdeal.main_v12) = v1 c
          ∧ r.2.mem ((c.tc : Thread Cert.KernelIdeal.nD Cert.KernelIdeal.τ).loc Cert.KernelIdeal.main_v13) = v2 c
          ∧ r.2.mem ((c.tc : Thread Cert.KernelIdeal.nD Cert.KernelIdeal.τ).loc Cert.KernelIdeal.main_v10_3) = v3 c
          ∧ r.2.mem ((c.tc : Thread Cert.KernelIdeal.nD Cert.KernelIdeal.τ).loc Cert.KernelIdeal.main_v10_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_v43) = v1 c
          ∧ r.2.mem ((c.tc : Thread Cert.ReferenceIdeal.nD Cert.ReferenceIdeal.τ).loc Cert.ReferenceIdeal.main_v15) = v2 c
          ∧ r.2.mem ((c.tc : Thread Cert.ReferenceIdeal.nD Cert.ReferenceIdeal.τ).loc Cert.ReferenceIdeal.main_v71) = v3 c
          ∧ r.2.mem ((c.tc : Thread Cert.ReferenceIdeal.nD Cert.ReferenceIdeal.τ).loc Cert.ReferenceIdeal.main_v55) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S12x768x2048 : Shape := ⟨3, ![12, 768, 2048]⟩
abbrev S6144x2048 : Shape := ⟨2, ![6144, 2048]⟩
abbrev S6144x16 : Shape := ⟨2, ![6144, 16]⟩
abbrev S_ : Shape := ⟨0, ![]⟩

class Facts : Prop where
  bitsLt_bf16_f32 : FTy.bits .bf16 < FTy.bits .f32
  bcast_S_S12x768x2048 : S_.BroadcastsInDim S12x768x2048 (![] : Fin 0 → Fin S12x768x2048.rank)
  reducesTo_S12x768x2048_S_d0_1_2 : S12x768x2048.ReducesTo [0, 1, 2] S_
  h_S_ : 0 < S_.numel
  bcast_S_S6144x2048 : S_.BroadcastsInDim S6144x2048 (![] : Fin 0 → Fin S6144x2048.rank)
  reducesTo_S6144x2048_S_d0_1 : S6144x2048.ReducesTo [0, 1] S_

variable [Facts]

def fn {F : FTy → Type} [FloatOps F] (main_arg0 : FVec F S12x768x2048 .bf16) (main_arg1 : FVec F S6144x2048 .bf16) (main_arg2 : IVec S6144x16 32) : IVec S_ 1 :=
  let main_v0 : FVec F S12x768x2048 .f32 := (extf .f32 · bitsLt_bf16_f32) main_arg0
  let main_v1 : FVec F S12x768x2048 .f32 := Host.absf main_v0
  let main_cst : FVec F S_ .f32 := constant S_ .f32 0x7F800000#32
  let main_v2 : FVec F S12x768x2048 .f32 := broadcastInDim S12x768x2048 ![] bcast_S_S12x768x2048 main_cst
  let main_v3 : IVec S12x768x2048 1 := cmpf .olt main_v1 main_v2
  let main_c : IVec S_ 1 := constantI S_ 1 1#1
  let main_v4 : IVec S_ 1 := (fun x v => Host.reduce IntOp.andi x v reducesTo_S12x768x2048_S_d0_1_2 h_S_) main_v3 main_c
  let main_v5 : FVec F S6144x2048 .f32 := (extf .f32 · bitsLt_bf16_f32) main_arg1
  let main_v6 : FVec F S6144x2048 .f32 := Host.absf main_v5
  let main_cst_0 : FVec F S_ .f32 := constant S_ .f32 0x7F800000#32
  let main_v7 : FVec F S6144x2048 .f32 := broadcastInDim S6144x2048 ![] bcast_S_S6144x2048 main_cst_0
  let main_v8 : IVec S6144x2048 1 := cmpf .olt main_v6 main_v7
  let main_c_1 : IVec S_ 1 := constantI S_ 1 1#1
  let main_v9 : IVec S_ 1 := (fun x v => Host.reduce IntOp.andi x v reducesTo_S6144x2048_S_d0_1 h_S_) main_v8 main_c_1
  let main_v10 : IVec S_ 1 := andi main_v4 main_v9
  main_v10
-- ==== Kernel.lean ====
abbrev S12x768x2048 : Shape := ⟨3, ![12, 768, 2048]⟩
abbrev S6144x2048 : Shape := ⟨2, ![6144, 2048]⟩
abbrev S6144x16 : Shape := ⟨2, ![6144, 16]⟩
abbrev S20 : Shape := ⟨1, ![20]⟩
abbrev S24 : Shape := ⟨1, ![24]⟩
abbrev S24x128 : Shape := ⟨2, ![24, 128]⟩
abbrev S8x2 : Shape := ⟨2, ![8, 2]⟩
abbrev S9216x2048 : Shape := ⟨2, ![9216, 2048]⟩
abbrev S16x128x128 : Shape := ⟨3, ![16, 128, 128]⟩
abbrev S2304x2048 : Shape := ⟨2, ![2304, 2048]⟩
abbrev S2304x128 : Shape := ⟨2, ![2304, 128]⟩
abbrev S1x128x128 : Shape := ⟨3, ![1, 128, 128]⟩
abbrev S128x128 : Shape := ⟨2, ![128, 128]⟩
abbrev S16x6144 : Shape := ⟨2, ![16, 6144]⟩
abbrev S128x8x2x128 : Shape := ⟨4, ![128, 8, 2, 128]⟩
abbrev S1x8x2x1 : Shape := ⟨4, ![1, 8, 2, 1]⟩
abbrev S_ : Shape := ⟨0, ![]⟩
abbrev S1024x256 : Shape := ⟨2, ![1024, 256]⟩
abbrev S20x16x6144 : Shape := ⟨3, ![20, 16, 6144]⟩
abbrev S16x20x64x6144 : Shape := ⟨4, ![16, 20, 64, 6144]⟩
abbrev S2048x768 : Shape := ⟨2, ![2048, 768]⟩
abbrev S1024x128 : Shape := ⟨2, ![1024, 128]⟩
abbrev S8x1024 : Shape := ⟨2, ![8, 1024]⟩
abbrev S20x8x1024 : Shape := ⟨3, ![20, 8, 1024]⟩
abbrev S1x20x64x1024 : Shape := ⟨4, ![1, 20, 64, 1024]⟩
abbrev S8x20x128x384 : Shape := ⟨4, ![8, 20, 128, 384]⟩
abbrev S128x1024 : Shape := ⟨2, ![128, 1024]⟩
abbrev S24x1024 : Shape := ⟨2, ![24, 1024]⟩
abbrev S128x384 : Shape := ⟨2, ![128, 384]⟩
abbrev S1x1x128x384 : Shape := ⟨4, ![1, 1, 128, 384]⟩
abbrev S1024 : Shape := ⟨1, ![1024]⟩
abbrev S1x1024 : Shape := ⟨2, ![1, 1024]⟩
abbrev S24x1 : Shape := ⟨2, ![24, 1]⟩
abbrev S384x1024 : Shape := ⟨2, ![384, 1024]⟩
abbrev S128x256 : Shape := ⟨2, ![128, 256]⟩
abbrev S1x1x1024 : Shape := ⟨3, ![1, 1, 1024]⟩
abbrev S1x256 : Shape := ⟨2, ![1, 256]⟩
abbrev S64x2x256 : Shape := ⟨3, ![64, 2, 256]⟩
abbrev S64x1x256 : Shape := ⟨3, ![64, 1, 256]⟩
abbrev S64x256 : Shape := ⟨2, ![64, 256]⟩
abbrev S1x1x64x256 : Shape := ⟨4, ![1, 1, 64, 256]⟩
abbrev S384x256 : Shape := ⟨2, ![384, 256]⟩
abbrev S256 : Shape := ⟨1, ![256]⟩
abbrev S1x1x256 : Shape := ⟨3, ![1, 1, 256]⟩
abbrev S6144x16x20 : Shape := ⟨3, ![6144, 16, 20]⟩
abbrev S6144x16x20x64 : Shape := ⟨4, ![6144, 16, 20, 64]⟩

abbrev nBuf : Space → Nat
  | .hbm => 27
  | .vmem => 27
  | .smem => 1
  | _ => 0

abbrev bufTy : (tb : Table) → Fin (tcTables nBuf tb) → BufTy
  | .hbm, ⟨0, _⟩ => ⟨S12x768x2048, .bf16⟩
  | .hbm, ⟨1, _⟩ => ⟨S6144x2048, .bf16⟩
  | .hbm, ⟨2, _⟩ => ⟨S6144x16, .i32⟩
  | .hbm, ⟨3, _⟩ => ⟨S20, .f32⟩
  | .hbm, ⟨4, _⟩ => ⟨S24, .f32⟩
  | .hbm, ⟨5, _⟩ => ⟨S24x128, .f32⟩
  | .hbm, ⟨6, _⟩ => ⟨S8x2, .bf16⟩
  | .hbm, ⟨7, _⟩ => ⟨S9216x2048, .bf16⟩
  | .hbm, ⟨8, _⟩ => ⟨S16x128x128, .f32⟩
  | .hbm, ⟨9, _⟩ => ⟨S16x6144, .i32⟩
  | .hbm, ⟨10, _⟩ => ⟨S128x8x2x128, .i32⟩
  | .hbm, ⟨11, _⟩ => ⟨S128x8x2x128, .i32⟩
  | .hbm, ⟨12, _⟩ => ⟨S128x8x2x128, .i1⟩
  | .hbm, ⟨13, _⟩ => ⟨S1x8x2x1, .bf16⟩
  | .hbm, ⟨14, _⟩ => ⟨S_, .bf16⟩
  | .hbm, ⟨15, _⟩ => ⟨S128x8x2x128, .bf16⟩
  | .hbm, ⟨16, _⟩ => ⟨S128x8x2x128, .bf16⟩
  | .hbm, ⟨17, _⟩ => ⟨S128x8x2x128, .bf16⟩
  | .hbm, ⟨18, _⟩ => ⟨S1024x256, .bf16⟩
  | .hbm, ⟨19, _⟩ => ⟨S20x16x6144, .f32⟩
  | .hbm, ⟨20, _⟩ => ⟨S16x20x64x6144, .i8⟩
  | .hbm, ⟨21, _⟩ => ⟨S20x16x6144, .f32⟩
  | .hbm, ⟨22, _⟩ => ⟨S2048x768, .i32⟩
  | .hbm, ⟨23, _⟩ => ⟨S16x6144, .f32⟩
  | .hbm, ⟨24, _⟩ => ⟨S6144x16x20, .f32⟩
  | .hbm, ⟨25, _⟩ => ⟨S6144x16x20x64, .i8⟩
  | .hbm, ⟨26, _⟩ => ⟨S6144x16x20, .f32⟩
  | .local _ .vmem, ⟨0, _⟩ => ⟨S2304x2048, .bf16⟩
  | .local _ .vmem, ⟨1, _⟩ => ⟨S2304x2048, .bf16⟩
  | .local _ .vmem, ⟨2, _⟩ => ⟨S16x128x128, .f32⟩
  | .local _ .vmem, ⟨3, _⟩ => ⟨S24x128, .f32⟩
  | .local _ .vmem, ⟨4, _⟩ => ⟨S1024x128, .bf16⟩
  | .local _ .vmem, ⟨5, _⟩ => ⟨S1024x128, .bf16⟩
  | .local _ .vmem, ⟨6, _⟩ => ⟨S8x1024, .i32⟩
  | .local _ .vmem, ⟨7, _⟩ => ⟨S8x1024, .i32⟩
  | .local _ .vmem, ⟨8, _⟩ => ⟨S1x128x128, .f32⟩
  | .local _ .vmem, ⟨9, _⟩ => ⟨S1x128x128, .f32⟩
  | .local _ .vmem, ⟨10, _⟩ => ⟨S1024x256, .bf16⟩
  | .local _ .vmem, ⟨11, _⟩ => ⟨S20x8x1024, .f32⟩
  | .local _ .vmem, ⟨12, _⟩ => ⟨S20x8x1024, .f32⟩
  | .local _ .vmem, ⟨13, _⟩ => ⟨S1x20x64x1024, .i8⟩
  | .local _ .vmem, ⟨14, _⟩ => ⟨S1x20x64x1024, .i8⟩
  | .local _ .vmem, ⟨15, _⟩ => ⟨S20x8x1024, .f32⟩
  | .local _ .vmem, ⟨16, _⟩ => ⟨S20x8x1024, .f32⟩
  | .local _ .vmem, ⟨17, _⟩ => ⟨S128x128, .i32⟩
  | .local _ .vmem, ⟨18, _⟩ => ⟨S128x128, .i32⟩
  | .local _ .vmem, ⟨19, _⟩ => ⟨S8x1024, .f32⟩
  | .local _ .vmem, ⟨20, _⟩ => ⟨S8x1024, .f32⟩
  | .local _ .vmem, ⟨21, _⟩ => ⟨S8x20x128x384, .bf16⟩
  | .local _ .vmem, ⟨22, _⟩ => ⟨S128x1024, .f32⟩
  | .local _ .vmem, ⟨23, _⟩ => ⟨S128x1024, .f32⟩
  | .local _ .vmem, ⟨24, _⟩ => ⟨S24x1024, .f32⟩
  | .local _ .vmem, ⟨25, _⟩ => ⟨S24x1024, .f32⟩
  | .local _ .vmem, ⟨26, _⟩ => ⟨S24x1024, .f32⟩
  | .local _ .smem, ⟨0, _⟩ => ⟨S20, .f32⟩
  | _, _ => ⟨S12x768x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .smem, ⟨0, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_cst_0 : Ref sig .tc := ⟨.hbm, 4, rfl⟩
abbrev main_v0 : Ref sig .tc := ⟨.hbm, 5, rfl⟩
abbrev main_cst_1 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_v7 : Ref sig .tc := ⟨.hbm, 13, rfl⟩
abbrev main_cst_2 : Ref sig .tc := ⟨.hbm, 14, rfl⟩
abbrev main_call0_v0 : Ref sig .tc := ⟨.hbm, 15, rfl⟩
abbrev main_call0_v1 : Ref sig .tc := ⟨.hbm, 16, rfl⟩
abbrev main_v8 : Ref sig .tc := ⟨.hbm, 17, rfl⟩
abbrev main_v9 : Ref sig .tc := ⟨.hbm, 18, rfl⟩
abbrev main_v10_0 : Ref sig .tc := ⟨.hbm, 19, rfl⟩
abbrev main_v10_1 : Ref sig .tc := ⟨.hbm, 20, rfl⟩
abbrev main_v10_2 : Ref sig .tc := ⟨.hbm, 21, rfl⟩
abbrev main_v10_3 : Ref sig .tc := ⟨.hbm, 22, rfl⟩
abbrev main_v10_4 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc1_stg1_0 : Ref sig .tc := ⟨.vmem, 3, rfl⟩
abbrev cc1_stg2_0 : Ref sig .tc := ⟨.vmem, 4, rfl⟩
abbrev cc1_stg2_1 : Ref sig .tc := ⟨.vmem, 5, rfl⟩
abbrev cc1_stg3_0 : Ref sig .tc := ⟨.vmem, 6, rfl⟩
abbrev cc1_stg3_1 : Ref sig .tc := ⟨.vmem, 7, rfl⟩
abbrev cc1_stg4_0 : Ref sig .tc := ⟨.vmem, 8, rfl⟩
abbrev cc1_stg4_1 : Ref sig .tc := ⟨.vmem, 9, rfl⟩
abbrev cc1_stg5_0 : Ref sig .tc := ⟨.vmem, 10, rfl⟩
abbrev cc1_stg6_0 : Ref sig .tc := ⟨.vmem, 11, rfl⟩
abbrev cc1_stg6_1 : Ref sig .tc := ⟨.vmem, 12, rfl⟩
abbrev cc1_stg7_0 : Ref sig .tc := ⟨.vmem, 13, rfl⟩
abbrev cc1_stg7_1 : Ref sig .tc := ⟨.vmem, 14, rfl⟩
abbrev cc1_stg8_0 : Ref sig .tc := ⟨.vmem, 15, rfl⟩
abbrev cc1_stg8_1 : Ref sig .tc := ⟨.vmem, 16, rfl⟩
abbrev cc1_stg9_0 : Ref sig .tc := ⟨.vmem, 17, rfl⟩
abbrev cc1_stg9_1 : Ref sig .tc := ⟨.vmem, 18, rfl⟩
abbrev cc1_stg10_0 : Ref sig .tc := ⟨.vmem, 19, rfl⟩
abbrev cc1_stg10_1 : Ref sig .tc := ⟨.vmem, 20, rfl⟩
abbrev cc1_scratch0 : Ref sig .tc := ⟨.vmem, 21, rfl⟩
abbrev cc1_scratch1 : Ref sig .tc := ⟨.vmem, 22, rfl⟩
abbrev cc1_scratch2 : Ref sig .tc := ⟨.vmem, 23, rfl⟩
abbrev cc1_scratch3 : Ref sig .tc := ⟨.vmem, 24, rfl⟩
abbrev cc1_scratch4 : Ref sig .tc := ⟨.vmem, 25, rfl⟩
abbrev cc1_scratch5 : Ref sig .tc := ⟨.vmem, 26, rfl⟩
abbrev cc1_stg0_0 : Ref sig .tc := ⟨.smem, 0, rfl⟩
abbrev cc0_sem0_0 : DmaSem sig := 0
abbrev cc0_sem0_1 : DmaSem sig := 1
abbrev cc0_sem1_0 : DmaSem sig := 2
abbrev cc1_sem0_0 : DmaSem sig := 3
abbrev cc1_sem1_0 : DmaSem sig := 4
abbrev cc1_sem2_0 : DmaSem sig := 5
abbrev cc1_sem2_1 : DmaSem sig := 6
abbrev cc1_sem3_0 : DmaSem sig := 7
abbrev cc1_sem3_1 : DmaSem sig := 8
abbrev cc1_sem4_0 : DmaSem sig := 9
abbrev cc1_sem4_1 : DmaSem sig := 10
abbrev cc1_sem5_0 : DmaSem sig := 11
abbrev cc1_sem6_0 : DmaSem sig := 12
abbrev cc1_sem6_1 : DmaSem sig := 13
abbrev cc1_sem7_0 : DmaSem sig := 14
abbrev cc1_sem7_1 : DmaSem sig := 15
abbrev cc1_sem8_0 : DmaSem sig := 16
abbrev cc1_sem8_1 : DmaSem sig := 17
abbrev cc1_sem9_0 : DmaSem sig := 18
abbrev cc1_sem9_1 : DmaSem sig := 19
abbrev cc1_sem10_0 : DmaSem sig := 20
abbrev cc1_sem10_1 : DmaSem sig := 21

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S2304x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S16x128x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev grid1 : Pipeline.Grid := ⟨3, ![2, 6, 8], ![false, false, false]⟩

def k1_cond1 (i : grid1.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def k1_off1 (i : grid1.Coords) : Fin 4 → Nat :=
  let arg2 : BitVec 32 := BitVec.ofNat 32 (i 2).val
  let v118 : Index := Scalar.indexCast arg2
  let c0_46 : Index := 0#32
  let c0_47 : Index := 0#32
  let c0_48 : Index := 0#32
  ![v118.toNat, 0, 0, 0]
def k1_off2 (i : grid1.Coords) : Fin 4 → Nat :=
  let arg2 : BitVec 32 := BitVec.ofNat 32 (i 2).val
  let v132 : Index := Scalar.indexCast arg2
  let c1 : Index := 1#32
  let c0_50 : Index := 0#32
  let c0_51 : Index := 0#32
  ![v132.toNat, 1, 0, 0]
def k1_off3 (i : grid1.Coords) : Fin 4 → Nat :=
  let arg2 : BitVec 32 := BitVec.ofNat 32 (i 2).val
  let v146 : Index := Scalar.indexCast arg2
  let c2 : Index := 2#32
  let c0_53 : Index := 0#32
  let c0_54 : Index := 0#32
  ![v146.toNat, 2, 0, 0]
def k1_off4 (i : grid1.Coords) : Fin 4 → Nat :=
  let arg2 : BitVec 32 := BitVec.ofNat 32 (i 2).val
  let v160 : Index := Scalar.indexCast arg2
  let c3 : Index := 3#32
  let c0_56 : Index := 0#32
  let c0_57 : Index := 0#32
  ![v160.toNat, 3, 0, 0]
def k1_off5 (i : grid1.Coords) : Fin 4 → Nat :=
  let arg2 : BitVec 32 := BitVec.ofNat 32 (i 2).val
  let v174 : Index := Scalar.indexCast arg2
  let c4 : Index := 4#32
  let c0_59 : Index := 0#32
  let c0_60 : Index := 0#32
  ![v174.toNat, 4, 0, 0]
def k1_off6 (i : grid1.Coords) : Fin 4 → Nat :=
  let arg2 : BitVec 32 := BitVec.ofNat 32 (i 2).val
  let v188 : Index := Scalar.indexCast arg2
  let c5 : Index := 5#32
  let c0_62 : Index := 0#32
  let c0_63 : Index := 0#32
  ![v188.toNat, 5, 0, 0]
def k1_off7 (i : grid1.Coords) : Fin 4 → Nat :=
  let arg2 : BitVec 32 := BitVec.ofNat 32 (i 2).val
  let v202 : Index := Scalar.indexCast arg2
  let c6 : Index := 6#32
  let c0_65 : Index := 0#32
  let c0_66 : Index := 0#32
  ![v202.toNat, 6, 0, 0]
def k1_off8 (i : grid1.Coords) : Fin 4 → Nat :=
  let arg2 : BitVec 32 := BitVec.ofNat 32 (i 2).val
  let v216 : Index := Scalar.indexCast arg2
  let c7 : Index := 7#32
  let c0_68 : Index := 0#32
  let c0_69 : Index := 0#32
  ![v216.toNat, 7, 0, 0]
def k1_off9 (i : grid1.Coords) : Fin 4 → Nat :=
  let arg2 : BitVec 32 := BitVec.ofNat 32 (i 2).val
  let v230 : Index := Scalar.indexCast arg2
  let c8 : Index := 8#32
  let c0_71 : Index := 0#32
  let c0_72 : Index := 0#32
  ![v230.toNat, 8, 0, 0]
def k1_off10 (i : grid1.Coords) : Fin 4 → Nat :=
  let arg2 : BitVec 32 := BitVec.ofNat 32 (i 2).val
  let v244 : Index := Scalar.indexCast arg2
  let c9 : Index := 9#32
  let c0_74 : Index := 0#32
  let c0_75 : Index := 0#32
  ![v244.toNat, 9, 0, 0]
def k1_off11 (i : grid1.Coords) : Fin 4 → Nat :=
  let arg2 : BitVec 32 := BitVec.ofNat 32 (i 2).val
  let v258 : Index := Scalar.indexCast arg2
  let c10 : Index := 10#32
  let c0_77 : Index := 0#32
  let c0_78 : Index := 0#32
  ![v258.toNat, 10, 0, 0]
def k1_off12 (i : grid1.Coords) : Fin 4 → Nat :=
  let arg2 : BitVec 32 := BitVec.ofNat 32 (i 2).val
  let v272 : Index := Scalar.indexCast arg2
  let c11 : Index := 11#32
  let c0_80 : Index := 0#32
  let c0_81 : Index := 0#32
  ![v272.toNat, 11, 0, 0]
def k1_off13 (i : grid1.Coords) : Fin 4 → Nat :=
  let arg2 : BitVec 32 := BitVec.ofNat 32 (i 2).val
  let v286 : Index := Scalar.indexCast arg2
  let c12 : Index := 12#32
  let c0_83 : Index := 0#32
  let c0_84 : Index := 0#32
  ![v286.toNat, 12, 0, 0]
def k1_off14 (i : grid1.Coords) : Fin 4 → Nat :=
  let arg2 : BitVec 32 := BitVec.ofNat 32 (i 2).val
  let v300 : Index := Scalar.indexCast arg2
  let c13 : Index := 13#32
  let c0_86 : Index := 0#32
  let c0_87 : Index := 0#32
  ![v300.toNat, 13, 0, 0]
def k1_off15 (i : grid1.Coords) : Fin 4 → Nat :=
  let arg2 : BitVec 32 := BitVec.ofNat 32 (i 2).val
  let v314 : Index := Scalar.indexCast arg2
  let c14 : Index := 14#32
  let c0_89 : Index := 0#32
  let c0_90 : Index := 0#32
  ![v314.toNat, 14, 0, 0]
def k1_off16 (i : grid1.Coords) : Fin 4 → Nat :=
  let arg2 : BitVec 32 := BitVec.ofNat 32 (i 2).val
  let v328 : Index := Scalar.indexCast arg2
  let c15 : Index := 15#32
  let c0_92 : Index := 0#32
  let c0_93 : Index := 0#32
  ![v328.toNat, 15, 0, 0]
def k1_off17 (i : grid1.Coords) : Fin 4 → Nat :=
  let arg2 : BitVec 32 := BitVec.ofNat 32 (i 2).val
  let v342 : Index := Scalar.indexCast arg2
  let c16 : Index := 16#32
  let c0_95 : Index := 0#32
  let c0_96 : Index := 0#32
  ![v342.toNat, 16, 0, 0]
def k1_off18 (i : grid1.Coords) : Fin 4 → Nat :=
  let arg2 : BitVec 32 := BitVec.ofNat 32 (i 2).val
  let v356 : Index := Scalar.indexCast arg2
  let c17 : Index := 17#32
  let c0_98 : Index := 0#32
  let c0_99 : Index := 0#32
  ![v356.toNat, 17, 0, 0]
def k1_off19 (i : grid1.Coords) : Fin 4 → Nat :=
  let arg2 : BitVec 32 := BitVec.ofNat 32 (i 2).val
  let v370 : Index := Scalar.indexCast arg2
  let c18 : Index := 18#32
  let c0_101 : Index := 0#32
  let c0_102 : Index := 0#32
  ![v370.toNat, 18, 0, 0]
def k1_off20 (i : grid1.Coords) : Fin 4 → Nat :=
  let arg2 : BitVec 32 := BitVec.ofNat 32 (i 2).val
  let v384 : Index := Scalar.indexCast arg2
  let c19 : Index := 19#32
  let c0_104 : Index := 0#32
  let c0_105 : Index := 0#32
  ![v384.toNat, 19, 0, 0]
def k1_off21 (i : grid1.Coords) : Fin 2 → Nat :=
  let arg2 : BitVec 32 := BitVec.ofNat 32 (i 2).val
  let v61 : Index := Scalar.indexCast arg2
  let c0_25 : Index := 0#32
  ![v61.toNat, 0]
@[reducible] def k1_t1_loop : Scf.Loop 32 :=
  let c0_i32_39 : BitVec 32 := 0#32
  let c20_i32_40 : BitVec 32 := 20#32
  let v105 : BitVec 32 := Scalar.addi c0_i32_39 c20_i32_40
  let c1_i32 : BitVec 32 := 1#32
  ⟨c0_i32_39, v105, c1_i32⟩
def k1_off22 (k1_t1 : Fin k1_t1_loop.trips) : Fin 2 → Nat :=
  let c0_i32_39 : BitVec 32 := 0#32
  let c1_i32 : BitVec 32 := 1#32
  let arg20 : BitVec 32 := Scf.iv c0_i32_39 c1_i32 k1_t1
  let v106 : Index := Scalar.indexCast arg20
  let c0_42 : Index := 0#32
  ![v106.toNat, 0]
def k1_off23 (i : grid1.Coords) (k1_t1 : Fin k1_t1_loop.trips) : Fin 3 → Nat :=
  let c0_i32_39 : BitVec 32 := 0#32
  let c1_i32 : BitVec 32 := 1#32
  let arg20 : BitVec 32 := Scf.iv c0_i32_39 c1_i32 k1_t1
  let v108 : Index := Scalar.indexCast arg20
  let arg2 : BitVec 32 := BitVec.ofNat 32 (i 2).val
  let v109 : Index := Scalar.indexCast arg2
  let c0_43 : Index := 0#32
  ![v108.toNat, v109.toNat, 0]
def k1_off24 (i : grid1.Coords) (k1_t1 : Fin k1_t1_loop.trips) : Fin 4 → Nat :=
  let arg2 : BitVec 32 := BitVec.ofNat 32 (i 2).val
  let v113 : Index := Scalar.indexCast arg2
  let c0_i32_39 : BitVec 32 := 0#32
  let c1_i32 : BitVec 32 := 1#32
  let arg20 : BitVec 32 := Scf.iv c0_i32_39 c1_i32 k1_t1
  let v114 : Index := Scalar.indexCast arg20
  let c0_44 : Index := 0#32
  let c0_45 : Index := 0#32
  ![v113.toNat, v114.toNat, 0, 0]
def k1_off25 (k1_t1 : Fin k1_t1_loop.trips) : Fin 2 → Nat :=
  let c0_i32_39 : BitVec 32 := 0#32
  let c1_i32 : BitVec 32 := 1#32
  let arg20 : BitVec 32 := Scf.iv c0_i32_39 c1_i32 k1_t1
  let v118 : Index := Scalar.indexCast arg20
  let c0_48 : Index := 0#32
  ![v118.toNat, 0]
def k1_off26 (k1_t1 : Fin k1_t1_loop.trips) : Fin 4 → Nat :=
  let c0_52 : Index := 0#32
  let c0_i32_39 : BitVec 32 := 0#32
  let c1_i32 : BitVec 32 := 1#32
  let arg20 : BitVec 32 := Scf.iv c0_i32_39 c1_i32 k1_t1
  let v145 : Index := Scalar.indexCast arg20
  let c0_53 : Index := 0#32
  let c0_54 : Index := 0#32
  ![0, v145.toNat, 0, 0]
def k1_off27 (i : grid1.Coords) (k1_t1 : Fin k1_t1_loop.trips) : Fin 3 → Nat :=
  let c0_i32_39 : BitVec 32 := 0#32
  let c1_i32 : BitVec 32 := 1#32
  let arg20 : BitVec 32 := Scf.iv c0_i32_39 c1_i32 k1_t1
  let v160 : Index := Scalar.indexCast arg20
  let arg2 : BitVec 32 := BitVec.ofNat 32 (i 2).val
  let v161 : Index := Scalar.indexCast arg2
  let c0_60 : Index := 0#32
  ![v160.toNat, v161.toNat, 0]
def k1_off28 (k1_t1 : Fin k1_t1_loop.trips) : Fin 2 → Nat :=
  let c0_i32_39 : BitVec 32 := 0#32
  let c1_i32 : BitVec 32 := 1#32
  let arg20 : BitVec 32 := Scf.iv c0_i32_39 c1_i32 k1_t1
  let v166 : Index := Scalar.indexCast arg20
  let c256_62 : Index := 256#32
  ![v166.toNat, 256]
def k1_off29 (k1_t1 : Fin k1_t1_loop.trips) : Fin 4 → Nat :=
  let c0_68 : Index := 0#32
  let c0_i32_39 : BitVec 32 := 0#32
  let c1_i32 : BitVec 32 := 1#32
  let arg20 : BitVec 32 := Scf.iv c0_i32_39 c1_i32 k1_t1
  let v193 : Index := Scalar.indexCast arg20
  let c0_69 : Index := 0#32
  let c256_70 : Index := 256#32
  ![0, v193.toNat, 0, 256]
def k1_off30 (i : grid1.Coords) (k1_t1 : Fin k1_t1_loop.trips) : Fin 3 → Nat :=
  let c0_i32_39 : BitVec 32 := 0#32
  let c1_i32 : BitVec 32 := 1#32
  let arg20 : BitVec 32 := Scf.iv c0_i32_39 c1_i32 k1_t1
  let v208 : Index := Scalar.indexCast arg20
  let arg2 : BitVec 32 := BitVec.ofNat 32 (i 2).val
  let v209 : Index := Scalar.indexCast arg2
  let c256_76 : Index := 256#32
  ![v208.toNat, v209.toNat, 256]
def k1_off31 (k1_t1 : Fin k1_t1_loop.trips) : Fin 2 → Nat :=
  let c0_i32_39 : BitVec 32 := 0#32
  let c1_i32 : BitVec 32 := 1#32
  let arg20 : BitVec 32 := Scf.iv c0_i32_39 c1_i32 k1_t1
  let v214 : Index := Scalar.indexCast arg20
  let c512_78 : Index := 512#32
  ![v214.toNat, 512]
def k1_off32 (k1_t1 : Fin k1_t1_loop.trips) : Fin 4 → Nat :=
  let c0_84 : Index := 0#32
  let c0_i32_39 : BitVec 32 := 0#32
  let c1_i32 : BitVec 32 := 1#32
  let arg20 : BitVec 32 := Scf.iv c0_i32_39 c1_i32 k1_t1
  let v241 : Index := Scalar.indexCast arg20
  let c0_85 : Index := 0#32
  let c512_86 : Index := 512#32
  ![0, v241.toNat, 0, 512]
def k1_off33 (i : grid1.Coords) (k1_t1 : Fin k1_t1_loop.trips) : Fin 3 → Nat :=
  let c0_i32_39 : BitVec 32 := 0#32
  let c1_i32 : BitVec 32 := 1#32
  let arg20 : BitVec 32 := Scf.iv c0_i32_39 c1_i32 k1_t1
  let v256 : Index := Scalar.indexCast arg20
  let arg2 : BitVec 32 := BitVec.ofNat 32 (i 2).val
  let v257 : Index := Scalar.indexCast arg2
  let c512_92 : Index := 512#32
  ![v256.toNat, v257.toNat, 512]
def k1_off34 (k1_t1 : Fin k1_t1_loop.trips) : Fin 2 → Nat :=
  let c0_i32_39 : BitVec 32 := 0#32
  let c1_i32 : BitVec 32 := 1#32
  let arg20 : BitVec 32 := Scf.iv c0_i32_39 c1_i32 k1_t1
  let v262 : Index := Scalar.indexCast arg20
  let c768_94 : Index := 768#32
  ![v262.toNat, 768]
def k1_off35 (k1_t1 : Fin k1_t1_loop.trips) : Fin 4 → Nat :=
  let c0_100 : Index := 0#32
  let c0_i32_39 : BitVec 32 := 0#32
  let c1_i32 : BitVec 32 := 1#32
  let arg20 : BitVec 32 := Scf.iv c0_i32_39 c1_i32 k1_t1
  let v289 : Index := Scalar.indexCast arg20
  let c0_101 : Index := 0#32
  let c768_102 : Index := 768#32
  ![0, v289.toNat, 0, 768]
def k1_off36 (i : grid1.Coords) (k1_t1 : Fin k1_t1_loop.trips) : Fin 3 → Nat :=
  let c0_i32_39 : BitVec 32 := 0#32
  let c1_i32 : BitVec 32 := 1#32
  let arg20 : BitVec 32 := Scf.iv c0_i32_39 c1_i32 k1_t1
  let v304 : Index := Scalar.indexCast arg20
  let arg2 : BitVec 32 := BitVec.ofNat 32 (i 2).val
  let v305 : Index := Scalar.indexCast arg2
  let c768_108 : Index := 768#32
  ![v304.toNat, v305.toNat, 768]
def cc1_transform_0 (i : grid1.Coords) : Fin 1 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat]

def cc1_transform_1 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![arg1.toNat, v1.toNat]

def cc1_transform_3 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc1_transform_4 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat]

def cc1_transform_5 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc1_transform_7 (i : grid1.Coords) : Fin 4 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  let c0_i32_0 : BitVec 32 := 0#32
  let c0_i32_1 : BitVec 32 := 0#32
  ![v1.toNat, c0_i32.toNat, c0_i32_0.toNat, arg1.toNat]

def cc1_transform_8 (i : grid1.Coords) : Fin 3 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![c0_i32.toNat, arg0.toNat, arg1.toNat]

def cc1_transform_9 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c8_i32 : BitVec 32 := 8#32
  let v0 : BitVec 32 := Scalar.muli arg0 c8_i32
  let v1 : BitVec 32 := Scalar.addi v0 arg2
  let c0_i32 : BitVec 32 := 0#32
  ![v1.toNat, arg1.toNat]

def cc1_transform_10 (i : grid1.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage1_0 : Fin 1 → Memref sig .tc .smem S20 .f32 := fun | 0 => Memref.whole cc1_stg0_0 | ⟨_ + 1, h⟩ => absurd h (Nat.not_lt.2 (Nat.le_add_left _ _))
abbrev sem1_0 : Fin 1 → DmaSem sig := fun | 0 => cc1_sem0_0 | ⟨_ + 1, h⟩ => absurd h (Nat.not_lt.2 (Nat.le_add_left _ _))
abbrev reads1_0 : Fin grid1.rank → Bool := ![false, false, false]

abbrev stage1_1 : Fin 1 → Memref sig .tc .vmem S24x128 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false, false, false]

abbrev stage1_2 : Fin 2 → Memref sig .tc .vmem S1024x128 .bf16 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true, true, true]

abbrev stage1_3 : Fin 2 → Memref sig .tc .vmem S8x1024 .i32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, true, false]

abbrev stage1_4 : Fin 2 → Memref sig .tc .vmem S1x128x128 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true, false, true]

abbrev stage1_5 : Fin 1 → Memref sig .tc .vmem S1024x256 .bf16 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false, false, false]

abbrev stage1_6 : Fin 2 → Memref sig .tc .vmem S20x8x1024 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true, true, false]

abbrev stage1_7 : Fin 2 → Memref sig .tc .vmem S1x20x64x1024 .i8 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true, true, true]

abbrev stage1_8 : Fin 2 → Memref sig .tc .vmem S20x8x1024 .f32 := fun | 0 => Memref.whole cc1_stg8_0 | 1 => Memref.whole cc1_stg8_1 | ⟨_ + 2, h⟩ => absurd h (Nat.not_lt.2 (Nat.le_add_left _ _))
abbrev sem1_8 : Fin 2 → DmaSem sig := fun | 0 => cc1_sem8_0 | 1 => cc1_sem8_1 | ⟨_ + 2, h⟩ => absurd h (Nat.not_lt.2 (Nat.le_add_left _ _))
abbrev reads1_8 : Fin grid1.rank → Bool := ![true, true, false]

abbrev stage1_9 : Fin 2 → Memref sig .tc .vmem S128x128 .i32 := fun | 0 => Memref.whole cc1_stg9_0 | 1 => Memref.whole cc1_stg9_1 | ⟨_ + 2, h⟩ => absurd h (Nat.not_lt.2 (Nat.le_add_left _ _))
abbrev sem1_9 : Fin 2 → DmaSem sig := fun | 0 => cc1_sem9_0 | 1 => cc1_sem9_1 | ⟨_ + 2, h⟩ => absurd h (Nat.not_lt.2 (Nat.le_add_left _ _))
abbrev reads1_9 : Fin grid1.rank → Bool := ![true, true, true]

abbrev stage1_10 : Fin 2 → Memref sig .tc .vmem S8x1024 .f32 := fun | 0 => Memref.whole cc1_stg10_0 | 1 => Memref.whole cc1_stg10_1 | ⟨_ + 2, h⟩ => absurd h (Nat.not_lt.2 (Nat.le_add_left _ _))
abbrev sem1_10 : Fin 2 → DmaSem sig := fun | 0 => cc1_sem10_0 | 1 => cc1_sem10_1 | ⟨_ + 2, h⟩ => absurd h (Nat.not_lt.2 (Nat.le_add_left _ _))
abbrev reads1_10 : Fin grid1.rank → Bool := ![true, true, false]
-- ==== ReferenceIdeal.lean ====
abbrev S12x768x2048 : Shape := ⟨3, ![12, 768, 2048]⟩
abbrev S6144x2048 : Shape := ⟨2, ![6144, 2048]⟩
abbrev S6144x16 : Shape := ⟨2, ![6144, 16]⟩
abbrev S20 : Shape := ⟨1, ![20]⟩
abbrev S8 : Shape := ⟨1, ![8]⟩
abbrev S9216x16x128 : Shape := ⟨3, ![9216, 16, 128]⟩
abbrev S6144x16x128 : Shape := ⟨3, ![6144, 16, 128]⟩
abbrev S_ : Shape := ⟨0, ![]⟩
abbrev S6144x16x1 : Shape := ⟨3, ![6144, 16, 1]⟩
abbrev S1x1x20 : Shape := ⟨3, ![1, 1, 20]⟩
abbrev S6144x16x20 : Shape := ⟨3, ![6144, 16, 20]⟩
abbrev S6144x16x1x128 : Shape := ⟨4, ![6144, 16, 1, 128]⟩
abbrev S6144x16x20x1 : Shape := ⟨4, ![6144, 16, 20, 1]⟩
abbrev S6144x16x20x128 : Shape := ⟨4, ![6144, 16, 20, 128]⟩
abbrev S16x128x128 : Shape := ⟨3, ![16, 128, 128]⟩
abbrev S16x128x6144x20 : Shape := ⟨4, ![16, 128, 6144, 20]⟩
abbrev S6144x16x20x64 : Shape := ⟨4, ![6144, 16, 20, 64]⟩
abbrev S16x6144 : Shape := ⟨2, ![16, 6144]⟩
abbrev S768x8x2048 : Shape := ⟨3, ![768, 8, 2048]⟩
abbrev S8x1 : Shape := ⟨2, ![8, 1]⟩
abbrev S1x8x1 : Shape := ⟨3, ![1, 8, 1]⟩
abbrev S768x2048 : Shape := ⟨2, ![768, 2048]⟩
abbrev S2048x768 : Shape := ⟨2, ![2048, 768]⟩

abbrev nBuf : Space → Nat
  | .hbm => 106
  | .vmem => 0
  | .smem => 0
  | _ => 0

abbrev bufTy : (tb : Table) → Fin (tcTables nBuf tb) → BufTy
  | .hbm, ⟨0, _⟩ => ⟨S12x768x2048, .bf16⟩
  | .hbm, ⟨1, _⟩ => ⟨S6144x2048, .bf16⟩
  | .hbm, ⟨2, _⟩ => ⟨S6144x16, .i32⟩
  | .hbm, ⟨3, _⟩ => ⟨S20, .f32⟩
  | .hbm, ⟨4, _⟩ => ⟨S8, .i32⟩
  | .hbm, ⟨5, _⟩ => ⟨S8, .i1⟩
  | .hbm, ⟨6, _⟩ => ⟨S9216x16x128, .bf16⟩
  | .hbm, ⟨7, _⟩ => ⟨S9216x16x128, .f32⟩
  | .hbm, ⟨8, _⟩ => ⟨S6144x16x128, .bf16⟩
  | .hbm, ⟨9, _⟩ => ⟨S6144x16x128, .f32⟩
  | .hbm, ⟨10, _⟩ => ⟨S6144x16x128, .f32⟩
  | .hbm, ⟨11, _⟩ => ⟨S_, .f32⟩
  | .hbm, ⟨12, _⟩ => ⟨S6144x16, .f32⟩
  | .hbm, ⟨13, _⟩ => ⟨S6144x16x1, .f32⟩
  | .hbm, ⟨14, _⟩ => ⟨S_, .f32⟩
  | .hbm, ⟨15, _⟩ => ⟨S6144x16x1, .f32⟩
  | .hbm, ⟨16, _⟩ => ⟨S6144x16x1, .i1⟩
  | .hbm, ⟨17, _⟩ => ⟨S1x1x20, .f32⟩
  | .hbm, ⟨18, _⟩ => ⟨S6144x16x20, .f32⟩
  | .hbm, ⟨19, _⟩ => ⟨S6144x16x20, .f32⟩
  | .hbm, ⟨20, _⟩ => ⟨S6144x16x20, .f32⟩
  | .hbm, ⟨21, _⟩ => ⟨S_, .f32⟩
  | .hbm, ⟨22, _⟩ => ⟨S6144x16x20, .f32⟩
  | .hbm, ⟨23, _⟩ => ⟨S6144x16x20, .f32⟩
  | .hbm, ⟨24, _⟩ => ⟨S_, .f32⟩
  | .hbm, ⟨25, _⟩ => ⟨S6144x16x20, .i1⟩
  | .hbm, ⟨26, _⟩ => ⟨S6144x16x20, .f32⟩
  | .hbm, ⟨27, _⟩ => ⟨S6144x16x20, .f32⟩
  | .hbm, ⟨28, _⟩ => ⟨S6144x16x1x128, .f32⟩
  | .hbm, ⟨29, _⟩ => ⟨S6144x16x20x1, .f32⟩
  | .hbm, ⟨30, _⟩ => ⟨S6144x16x20x128, .f32⟩
  | .hbm, ⟨31, _⟩ => ⟨S6144x16x20x128, .f32⟩
  | .hbm, ⟨32, _⟩ => ⟨S6144x16x20x128, .f32⟩
  | .hbm, ⟨33, _⟩ => ⟨S6144x16x20x128, .f32⟩
  | .hbm, ⟨34, _⟩ => ⟨S_, .f32⟩
  | .hbm, ⟨35, _⟩ => ⟨S_, .f32⟩
  | .hbm, ⟨36, _⟩ => ⟨S_, .f32⟩
  | .hbm, ⟨37, _⟩ => ⟨S6144x16x20x128, .f32⟩
  | .hbm, ⟨38, _⟩ => ⟨S6144x16x20x128, .f32⟩
  | .hbm, ⟨39, _⟩ => ⟨S_, .f32⟩
  | .hbm, ⟨40, _⟩ => ⟨S6144x16x20x128, .f32⟩
  | .hbm, ⟨41, _⟩ => ⟨S6144x16x20x128, .f32⟩
  | .hbm, ⟨42, _⟩ => ⟨S6144x16x20x128, .i32⟩
  | .hbm, ⟨43, _⟩ => ⟨S6144x16x1x128, .f32⟩
  | .hbm, ⟨44, _⟩ => ⟨S6144x16x20x128, .f32⟩
  | .hbm, ⟨45, _⟩ => ⟨S6144x16x20x1, .f32⟩
  | .hbm, ⟨46, _⟩ => ⟨S6144x16x20x128, .f32⟩
  | .hbm, ⟨47, _⟩ => ⟨S6144x16x20x128, .f32⟩
  | .hbm, ⟨48, _⟩ => ⟨S6144x16x20x128, .f32⟩
  | .hbm, ⟨49, _⟩ => ⟨S6144x16x20x128, .f32⟩
  | .hbm, ⟨50, _⟩ => ⟨S16x128x128, .f32⟩
  | .hbm, ⟨51, _⟩ => ⟨S16x128x6144x20, .f32⟩
  | .hbm, ⟨52, _⟩ => ⟨S6144x16x20x128, .f32⟩
  | .hbm, ⟨53, _⟩ => ⟨S6144x16x20x128, .f32⟩
  | .hbm, ⟨54, _⟩ => ⟨S_, .f32⟩
  | .hbm, ⟨55, _⟩ => ⟨S6144x16x20, .f32⟩
  | .hbm, ⟨56, _⟩ => ⟨S_, .i32⟩
  | .hbm, ⟨57, _⟩ => ⟨S6144x16x20x128, .i32⟩
  | .hbm, ⟨58, _⟩ => ⟨S6144x16x20x128, .i32⟩
  | .hbm, ⟨59, _⟩ => ⟨S6144x16x20x64, .i32⟩
  | .hbm, ⟨60, _⟩ => ⟨S6144x16x20x64, .i32⟩
  | .hbm, ⟨61, _⟩ => ⟨S_, .i32⟩
  | .hbm, ⟨62, _⟩ => ⟨S6144x16x20x64, .i32⟩
  | .hbm, ⟨63, _⟩ => ⟨S6144x16x20x64, .i32⟩
  | .hbm, ⟨64, _⟩ => ⟨S6144x16x20x64, .i32⟩
  | .hbm, ⟨65, _⟩ => ⟨S6144x16x20x64, .i8⟩
  | .hbm, ⟨66, _⟩ => ⟨S20, .i32⟩
  | .hbm, ⟨67, _⟩ => ⟨S1x1x20, .i32⟩
  | .hbm, ⟨68, _⟩ => ⟨S6144x16x1, .i32⟩
  | .hbm, ⟨69, _⟩ => ⟨S6144x16x20, .i32⟩
  | .hbm, ⟨70, _⟩ => ⟨S6144x16x20, .i32⟩
  | .hbm, ⟨71, _⟩ => ⟨S6144x16x20, .i1⟩
  | .hbm, ⟨72, _⟩ => ⟨S6144x16x20x1, .i1⟩
  | .hbm, ⟨73, _⟩ => ⟨S_, .i32⟩
  | .hbm, ⟨74, _⟩ => ⟨S_, .i32⟩
  | .hbm, ⟨75, _⟩ => ⟨S6144x16x20x128, .i1⟩
  | .hbm, ⟨76, _⟩ => ⟨S6144x16x20x128, .i32⟩
  | .hbm, ⟨77, _⟩ => ⟨S6144x16x20x128, .i32⟩
  | .hbm, ⟨78, _⟩ => ⟨S_, .i32⟩
  | .hbm, ⟨79, _⟩ => ⟨S6144x16x128, .i32⟩
  | .hbm, ⟨80, _⟩ => ⟨S_, .f32⟩
  | .hbm, ⟨81, _⟩ => ⟨S6144x16x20, .f32⟩
  | .hbm, ⟨82, _⟩ => ⟨S6144x16x20, .f32⟩
  | .hbm, ⟨83, _⟩ => ⟨S_, .f32⟩
  | .hbm, ⟨84, _⟩ => ⟨S6144x16, .f32⟩
  | .hbm, ⟨85, _⟩ => ⟨S16x6144, .f32⟩
  | .hbm, ⟨86, _⟩ => ⟨S_, .i32⟩
  | .hbm, ⟨87, _⟩ => ⟨S6144x16x128, .i32⟩
  | .hbm, ⟨88, _⟩ => ⟨S6144x16x128, .i32⟩
  | .hbm, ⟨89, _⟩ => ⟨S768x8x2048, .i32⟩
  | .hbm, ⟨90, _⟩ => ⟨S_, .i32⟩
  | .hbm, ⟨91, _⟩ => ⟨S8, .i32⟩
  | .hbm, ⟨92, _⟩ => ⟨S8, .i32⟩
  | .hbm, ⟨93, _⟩ => ⟨S8, .i32⟩
  | .hbm, ⟨94, _⟩ => ⟨S8x1, .i32⟩
  | .hbm, ⟨95, _⟩ => ⟨S768x8x2048, .i32⟩
  | .hbm, ⟨96, _⟩ => ⟨S8, .i32⟩
  | .hbm, ⟨97, _⟩ => ⟨S_, .i32⟩
  | .hbm, ⟨98, _⟩ => ⟨S8, .i32⟩
  | .hbm, ⟨99, _⟩ => ⟨S8, .i32⟩
  | .hbm, ⟨100, _⟩ => ⟨S1x8x1, .i32⟩
  | .hbm, ⟨101, _⟩ => ⟨S768x8x2048, .i32⟩
  | .hbm, ⟨102, _⟩ => ⟨S768x8x2048, .i32⟩
  | .hbm, ⟨103, _⟩ => ⟨S_, .i32⟩
  | .hbm, ⟨104, _⟩ => ⟨S768x2048, .i32⟩
  | .hbm, ⟨105, _⟩ => ⟨S2048x768, .i32⟩
  | _, _ => ⟨S12x768x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_c : Ref sig .tc := ⟨.hbm, 4, rfl⟩
abbrev main_c_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_cst_2 : Ref sig .tc := ⟨.hbm, 14, rfl⟩
abbrev main_v7 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_v11 : Ref sig .tc := ⟨.hbm, 19, rfl⟩
abbrev main_v12 : Ref sig .tc := ⟨.hbm, 20, rfl⟩
abbrev main_cst_3 : Ref sig .tc := ⟨.hbm, 21, rfl⟩
abbrev main_v13 : Ref sig .tc := ⟨.hbm, 22, rfl⟩
abbrev main_v14 : Ref sig .tc := ⟨.hbm, 23, rfl⟩
abbrev main_cst_4 : Ref sig .tc := ⟨.hbm, 24, rfl⟩
abbrev main_call0_v0 : Ref sig .tc := ⟨.hbm, 25, rfl⟩
abbrev main_call0_v1 : Ref sig .tc := ⟨.hbm, 26, rfl⟩
abbrev main_v15 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_cst_5 : Ref sig .tc := ⟨.hbm, 34, rfl⟩
abbrev main_cst_6 : Ref sig .tc := ⟨.hbm, 35, rfl⟩
abbrev main_call2_v0 : Ref sig .tc := ⟨.hbm, 36, rfl⟩
abbrev main_call2_v1 : Ref sig .tc := ⟨.hbm, 37, rfl⟩
abbrev main_call2_v2 : Ref sig .tc := ⟨.hbm, 38, rfl⟩
abbrev main_call2_v3 : Ref sig .tc := ⟨.hbm, 39, rfl⟩
abbrev main_call2_v4 : Ref sig .tc := ⟨.hbm, 40, rfl⟩
abbrev main_v22 : Ref sig .tc := ⟨.hbm, 41, rfl⟩
abbrev main_v23 : Ref sig .tc := ⟨.hbm, 42, rfl⟩
abbrev main_v24 : Ref sig .tc := ⟨.hbm, 43, rfl⟩
abbrev main_v25 : Ref sig .tc := ⟨.hbm, 44, rfl⟩
abbrev main_v26 : Ref sig .tc := ⟨.hbm, 45, rfl⟩
abbrev main_v27 : Ref sig .tc := ⟨.hbm, 46, rfl⟩
abbrev main_v28 : Ref sig .tc := ⟨.hbm, 47, rfl⟩
abbrev main_v29 : Ref sig .tc := ⟨.hbm, 48, rfl⟩
abbrev main_v30 : Ref sig .tc := ⟨.hbm, 49, rfl⟩
abbrev main_v31 : Ref sig .tc := ⟨.hbm, 50, rfl⟩
abbrev main_v32 : Ref sig .tc := ⟨.hbm, 51, rfl⟩
abbrev main_v33 : Ref sig .tc := ⟨.hbm, 52, rfl⟩
abbrev main_v34 : Ref sig .tc := ⟨.hbm, 53, rfl⟩
abbrev main_cst_7 : Ref sig .tc := ⟨.hbm, 54, rfl⟩
abbrev main_v35 : Ref sig .tc := ⟨.hbm, 55, rfl⟩
abbrev main_c_8 : Ref sig .tc := ⟨.hbm, 56, rfl⟩
abbrev main_v36 : Ref sig .tc := ⟨.hbm, 57, rfl⟩
abbrev main_v37 : Ref sig .tc := ⟨.hbm, 58, rfl⟩
abbrev main_v38 : Ref sig .tc := ⟨.hbm, 59, rfl⟩
abbrev main_v39 : Ref sig .tc := ⟨.hbm, 60, rfl⟩
abbrev main_c_9 : Ref sig .tc := ⟨.hbm, 61, rfl⟩
abbrev main_v40 : Ref sig .tc := ⟨.hbm, 62, rfl⟩
abbrev main_v41 : Ref sig .tc := ⟨.hbm, 63, rfl⟩
abbrev main_v42 : Ref sig .tc := ⟨.hbm, 64, rfl⟩
abbrev main_v43 : Ref sig .tc := ⟨.hbm, 65, rfl⟩
abbrev main_v44 : Ref sig .tc := ⟨.hbm, 66, rfl⟩
abbrev main_v45 : Ref sig .tc := ⟨.hbm, 67, rfl⟩
abbrev main_v46 : Ref sig .tc := ⟨.hbm, 68, rfl⟩
abbrev main_v47 : Ref sig .tc := ⟨.hbm, 69, rfl⟩
abbrev main_v48 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_call3_v0 : Ref sig .tc := ⟨.hbm, 74, rfl⟩
abbrev main_call3_v1 : Ref sig .tc := ⟨.hbm, 75, rfl⟩
abbrev main_call3_v2 : Ref sig .tc := ⟨.hbm, 76, rfl⟩
abbrev main_v51 : Ref sig .tc := ⟨.hbm, 77, rfl⟩
abbrev main_c_11 : Ref sig .tc := ⟨.hbm, 78, rfl⟩
abbrev main_v52 : Ref sig .tc := ⟨.hbm, 79, rfl⟩
abbrev main_cst_12 : Ref sig .tc := ⟨.hbm, 80, rfl⟩
abbrev main_call4_v0 : Ref sig .tc := ⟨.hbm, 81, rfl⟩
abbrev main_v53 : Ref sig .tc := ⟨.hbm, 82, rfl⟩
abbrev main_cst_13 : Ref sig .tc := ⟨.hbm, 83, rfl⟩
abbrev main_v54 : Ref sig .tc := ⟨.hbm, 84, rfl⟩
abbrev main_v55 : Ref sig .tc := ⟨.hbm, 85, rfl⟩
abbrev main_c_14 : Ref sig .tc := ⟨.hbm, 86, rfl⟩
abbrev main_v56 : Ref sig .tc := ⟨.hbm, 87, rfl⟩
abbrev main_v57 : Ref sig .tc := ⟨.hbm, 88, rfl⟩
abbrev main_v58 : Ref sig .tc := ⟨.hbm, 89, rfl⟩
abbrev main_c_15 : Ref sig .tc := ⟨.hbm, 90, rfl⟩
abbrev main_v59 : Ref sig .tc := ⟨.hbm, 91, rfl⟩
abbrev main_v60 : Ref sig .tc := ⟨.hbm, 92, rfl⟩
abbrev main_v61 : Ref sig .tc := ⟨.hbm, 93, rfl⟩
abbrev main_v62 : Ref sig .tc := ⟨.hbm, 94, rfl⟩
abbrev main_v63 : Ref sig .tc := ⟨.hbm, 95, rfl⟩
abbrev main_v64 : Ref sig .tc := ⟨.hbm, 96, rfl⟩
abbrev main_c_16 : Ref sig .tc := ⟨.hbm, 97, rfl⟩
abbrev main_v65 : Ref sig .tc := ⟨.hbm, 98, rfl⟩
abbrev main_v66 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_c_17 : Ref sig .tc := ⟨.hbm, 103, rfl⟩
abbrev main_v70 : Ref sig .tc := ⟨.hbm, 104, rfl⟩
abbrev main_v71 : Ref sig .tc := ⟨.hbm, 105, rfl⟩

abbrev nD : Nat := 1
abbrev τ : Topo := Topo.v7x

variable {F : FTy → Type} [FloatOps F]
-- ==== Proof.K.Body0.lean ====
/-
  One grid point of the gram kernel: what the body leaves in the accumulator block, with the proof
  that the body runs to its end from both staging buffers held whole.
-/
module

public import proofs.«01_k».proof.Proof.Gen.Kernel.Skeleton
public import proofs.«01_k».proof.Proof.Gen.Kernel.Launch
public import Idealize.ShloMosaic.Lib.Exec
public import Idealize.ShloMosaic.Lib.Tactic

@[expose] public section

set_option maxRecDepth 16384

noncomputable section

namespace Cert.Kernel.Pf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's resource algebra: one copy of the pipeline library's. -/
abbrev UU : Type := UR sig nD τ

local notation "𝕄" => MT nD τ sig Unit (Elt F) ℕ UU ℕ

/-- A memref's buffer on core `c`. -/
abbrev Bf (F : FTy → Type) (c : Dev nD) {sp : Space} {S : Shape} {e : EltTy} (M : Memref sig .tc sp S e) : Type :=
  Buf (Elt F) (M.view.loc (c : Thread nD τ))

/-- The elements a memref views, on core `c`, held at `f`. -/
abbrev pts (c : Dev nD) {sp : Space} {S : Shape} {e : EltTy} (M : Memref sig .tc sp S e) (f : Bf F c M) : sProp 𝕄 :=
  M.view.loc (c : Thread nD τ) ↦[M.view.set]{fullShare} f

/-- The first-point test of the gram kernel. -/
abbrev cond0 (i : grid0.Coords) : Prop :=
  Scalar.cmpi .ne (Scalar.extui (Scalar.cmpi .eq (BitVec.ofNat 32 (i 0).val) 0#32)) (0#32 : BitVec 32) = 1#1

set_option maxHeartbeats 4000000 in
/-- The first point: the accumulator is zeroed, then every group's product is added. -/
def gramRunA (c : Dev nD) (i : grid0.Coords) (M0 : Memref sig .tc .vmem S2304x2048 .bf16) (h0 : M0.IsWhole)
    (M1 : Memref sig .tc .vmem S16x128x128 .f32) (h1 : M1.IsWhole) (hc : cond0 i) (f0 : Bf F c M0) :
    { W : Bf F c M1 // ∀ (f1 : Bf F c M1) (E : Set ℕ) (Q : PUnit → sProp 𝕄),
        iprop(pts c M0 f0 ∗ pts c M1 f1 ∗ (iprop(pts c M0 f0 ∗ pts c M1 W) -∗ Q ⟨⟩))
          ⊢ wp frame (wpE (defs₀ (F := F)) Variants.none c none) E (cc0_gram i M0 h0 M1 h1) Q } := by
  refine ⟨?_, fun f1 E Q => ?run⟩
  case' run =>
    unfold cond0 at hc
    iintro ⟨H0, H1, Hk⟩
    sl_exec!
    sl_step
    iapply Hk
    isplitl [H0]; · iexact H0
    iexact H1

set_option maxHeartbeats 4000000 in
/-- A later point: every group's product is added to what the block held. -/
def gramRunB (c : Dev nD) (i : grid0.Coords) (M0 : Memref sig .tc .vmem S2304x2048 .bf16) (h0 : M0.IsWhole)
    (M1 : Memref sig .tc .vmem S16x128x128 .f32) (h1 : M1.IsWhole) (hc : ¬ cond0 i) (f0 : Bf F c M0) (f1 : Bf F c M1) :
    { W : Bf F c M1 // ∀ (E : Set ℕ) (Q : PUnit → sProp 𝕄),
        iprop(pts c M0 f0 ∗ pts c M1 f1 ∗ (iprop(pts c M0 f0 ∗ pts c M1 W) -∗ Q ⟨⟩))
          ⊢ wp frame (wpE (defs₀ (F := F)) Variants.none c none) E (cc0_gram i M0 h0 M1 h1) Q } := by
  refine ⟨?_, fun E Q => ?run⟩
  case' run =>
    unfold cond0 at hc
    iintro ⟨H0, H1, Hk⟩
    sl_exec!
    sl_step
    iapply Hk
    isplitl [H0]; · iexact H0
    iexact H1

end Cert.Kernel.Pf

end
-- ==== Proof.K.Body1.lean ====
/-
  One grid point of the search kernel: what the body leaves in its output blocks and scratch buffers
  given what they held, with the proof that the body runs to its end from every buffer held whole.
-/
module

public import proofs.«01_k».proof.Proof.K.Body0
public import proofs.«01_k».proof.Proof.Gen.Kernel.Loops

@[expose] public section

set_option maxRecDepth 16384

noncomputable section

namespace Cert.Kernel.Pf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

set_option maxHeartbeats 40000000 in
/-- A point past the first row block: the scaled Gram matrices are read from the scratch buffer. -/
def searchRunB (c : Dev nD) (i : grid1.Coords) (M3 : Memref sig .tc .smem S20 .f32) (h3 : M3.IsWhole) (M4 : Memref sig .tc .vmem S24x128 .f32) (h4 : M4.IsWhole) (M5 : Memref sig .tc .vmem S1024x128 .bf16) (h5 : M5.IsWhole) (M6 : Memref sig .tc .vmem S8x1024 .i32) (h6 : M6.IsWhole) (M7 : Memref sig .tc .vmem S1x128x128 .f32) (h7 : M7.IsWhole) (M8 : Memref sig .tc .vmem S1024x256 .bf16) (h8 : M8.IsWhole) (M9 : Memref sig .tc .vmem S20x8x1024 .f32) (h9 : M9.IsWhole) (M10 : Memref sig .tc .vmem S1x20x64x1024 .i8) (h10 : M10.IsWhole) (M11 : Memref sig .tc .vmem S20x8x1024 .f32) (h11 : M11.IsWhole) (M12 : Memref sig .tc .vmem S128x128 .i32) (h12 : M12.IsWhole) (M13 : Memref sig .tc .vmem S8x1024 .f32) (h13 : M13.IsWhole) (M14 : Memref sig .tc .vmem S8x20x128x384 .bf16) (h14 : M14.IsWhole) (M15 : Memref sig .tc .vmem S128x1024 .f32) (h15 : M15.IsWhole) (M16 : Memref sig .tc .vmem S128x1024 .f32) (h16 : M16.IsWhole) (M17 : Memref sig .tc .vmem S24x1024 .f32) (h17 : M17.IsWhole) (M18 : Memref sig .tc .vmem S24x1024 .f32) (h18 : M18.IsWhole) (M19 : Memref sig .tc .vmem S24x1024 .f32) (h19 : M19.IsWhole) (hc : ¬ k1_cond1 i = 1#1) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) (f16 : Bf F c M16) (f17 : Bf F c M17) (f18 : Bf F c M18) (f19 : Bf F c M19) :
    { W : Bf F c M9 × Bf F c M10 × Bf F c M11 × Bf F c M12 × Bf F c M13 × Bf F c M14 × Bf F c M15 × Bf F c M16 × Bf F c M17 × Bf F c M18 × Bf F c M19 // ∀ (E : Set ℕ) (Q : PUnit → sProp 𝕄),
        iprop(pts c M3 f3 ∗ pts c M4 f4 ∗ pts c M5 f5 ∗ pts c M6 f6 ∗ pts c M7 f7 ∗ pts c M8 f8 ∗ pts c M9 f9 ∗ pts c M10 f10 ∗ pts c M11 f11 ∗ pts c M12 f12 ∗ pts c M13 f13 ∗ pts c M14 f14 ∗ pts c M15 f15 ∗ pts c M16 f16 ∗ pts c M17 f17 ∗ pts c M18 f18 ∗ pts c M19 f19 ∗ (iprop(pts c M3 f3 ∗ pts c M4 f4 ∗ pts c M5 f5 ∗ pts c M6 f6 ∗ pts c M7 f7 ∗ pts c M8 f8 ∗ pts c M9 W.1 ∗ pts c M10 W.2.1 ∗ pts c M11 W.2.2.1 ∗ pts c M12 W.2.2.2.1 ∗ pts c M13 W.2.2.2.2.1 ∗ pts c M14 W.2.2.2.2.2.1 ∗ pts c M15 W.2.2.2.2.2.2.1 ∗ pts c M16 W.2.2.2.2.2.2.2.1 ∗ pts c M17 W.2.2.2.2.2.2.2.2.1 ∗ pts c M18 W.2.2.2.2.2.2.2.2.2.1 ∗ pts c M19 W.2.2.2.2.2.2.2.2.2.2) -∗ Q ⟨⟩))
          ⊢ wp frame (wpE (defs₀ (F := F)) Variants.none c none) E (cc1_search i M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_, ?_, ?_, ?_, ?_, ?_, ?_, ?_⟩, fun E Q => ?run⟩
  case' run =>
    iintro ⟨H3, H4, H5, H6, H7, H8, H9, H10, H11, H12, H13, H14, H15, H16, H17, H18, H19, Hk⟩
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

set_option maxHeartbeats 40000000 in
/-- A point of the first row block: the scaled Gram matrices of its group are written first. -/
def searchRunA (c : Dev nD) (i : grid1.Coords) (M3 : Memref sig .tc .smem S20 .f32) (h3 : M3.IsWhole) (M4 : Memref sig .tc .vmem S24x128 .f32) (h4 : M4.IsWhole) (M5 : Memref sig .tc .vmem S1024x128 .bf16) (h5 : M5.IsWhole) (M6 : Memref sig .tc .vmem S8x1024 .i32) (h6 : M6.IsWhole) (M7 : Memref sig .tc .vmem S1x128x128 .f32) (h7 : M7.IsWhole) (M8 : Memref sig .tc .vmem S1024x256 .bf16) (h8 : M8.IsWhole) (M9 : Memref sig .tc .vmem S20x8x1024 .f32) (h9 : M9.IsWhole) (M10 : Memref sig .tc .vmem S1x20x64x1024 .i8) (h10 : M10.IsWhole) (M11 : Memref sig .tc .vmem S20x8x1024 .f32) (h11 : M11.IsWhole) (M12 : Memref sig .tc .vmem S128x128 .i32) (h12 : M12.IsWhole) (M13 : Memref sig .tc .vmem S8x1024 .f32) (h13 : M13.IsWhole) (M14 : Memref sig .tc .vmem S8x20x128x384 .bf16) (h14 : M14.IsWhole) (M15 : Memref sig .tc .vmem S128x1024 .f32) (h15 : M15.IsWhole) (M16 : Memref sig .tc .vmem S128x1024 .f32) (h16 : M16.IsWhole) (M17 : Memref sig .tc .vmem S24x1024 .f32) (h17 : M17.IsWhole) (M18 : Memref sig .tc .vmem S24x1024 .f32) (h18 : M18.IsWhole) (M19 : Memref sig .tc .vmem S24x1024 .f32) (h19 : M19.IsWhole) (hc : k1_cond1 i = 1#1) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) (f16 : Bf F c M16) (f17 : Bf F c M17) (f18 : Bf F c M18) (f19 : Bf F c M19) :
    { W : Bf F c M9 × Bf F c M10 × Bf F c M11 × Bf F c M12 × Bf F c M13 × Bf F c M14 × Bf F c M15 × Bf F c M16 × Bf F c M17 × Bf F c M18 × Bf F c M19 // ∀ (E : Set ℕ) (Q : PUnit → sProp 𝕄),
        iprop(pts c M3 f3 ∗ pts c M4 f4 ∗ pts c M5 f5 ∗ pts c M6 f6 ∗ pts c M7 f7 ∗ pts c M8 f8 ∗ pts c M9 f9 ∗ pts c M10 f10 ∗ pts c M11 f11 ∗ pts c M12 f12 ∗ pts c M13 f13 ∗ pts c M14 f14 ∗ pts c M15 f15 ∗ pts c M16 f16 ∗ pts c M17 f17 ∗ pts c M18 f18 ∗ pts c M19 f19 ∗ (iprop(pts c M3 f3 ∗ pts c M4 f4 ∗ pts c M5 f5 ∗ pts c M6 f6 ∗ pts c M7 f7 ∗ pts c M8 f8 ∗ pts c M9 W.1 ∗ pts c M10 W.2.1 ∗ pts c M11 W.2.2.1 ∗ pts c M12 W.2.2.2.1 ∗ pts c M13 W.2.2.2.2.1 ∗ pts c M14 W.2.2.2.2.2.1 ∗ pts c M15 W.2.2.2.2.2.2.1 ∗ pts c M16 W.2.2.2.2.2.2.2.1 ∗ pts c M17 W.2.2.2.2.2.2.2.2.1 ∗ pts c M18 W.2.2.2.2.2.2.2.2.2.1 ∗ pts c M19 W.2.2.2.2.2.2.2.2.2.2) -∗ Q ⟨⟩))
          ⊢ wp frame (wpE (defs₀ (F := F)) Variants.none c none) E (cc1_search i M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_, ?_, ?_, ?_, ?_, ?_, ?_, ?_⟩, fun E Q => ?run⟩
  case' run =>
    iintro ⟨H3, H4, H5, H6, H7, H8, H9, H10, H11, H12, H13, H14, H15, H16, H17, H18, H19, Hk⟩
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.Kernel.Pf

end
-- ==== Proof.K.Dats.lean ====
/-
  What the two kernels' windows hold at each grid point, at the contents the arrays have when a kernel is entered:
  the gram kernel exactly, the search kernel's results up to a predicate (a point writes one row of eight of some of
  its blocks and leaves the other rows as they were, which at a block's first points is anything).
-/
module

public import proofs.«01_k».proof.Proof.K.Body1
public import proofs.«01_k».proof.Proof.Gen.Kernel.Points
public import proofs.«01_k».proof.Proof.Gen.Kernel.Regions
public import Idealize.ShloMosaic.Lib.Pipeline.Regions
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.Kernel.Pf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

variable {F : FTy → Type} [FloatOps F]

local notation "𝕄" => MT nD τ sig Unit (Elt F) ℕ UU ℕ

/-- The contents of every buffer on every core. -/
abbrev Vals (F : FTy → Type) [FloatOps F] := (c : Dev nD) → (b : Ref sig .tc) → Buf (Elt F) ((c : Thread nD τ).loc b)

variable (V : Vals F)

/-! ## The gram kernel -/

/-- The block of the activations staged at point `t`. -/
abbrev xblk (c : Dev nD) (t : Fin cfg0.N) : (cfg0.win 0).block.Idx → Elt F (cfg0.win 0).elt :=
  ((cfg0.win 0).blk t).view.read (Elt F) (V c main_v1)

theorem cond0_0 : cond0 (grid0.coords t0_0) := by decide
theorem cond0_1 : ¬ cond0 (grid0.coords t0_1) := by decide
theorem cond0_2 : ¬ cond0 (grid0.coords t0_2) := by decide
theorem cond0_3 : ¬ cond0 (grid0.coords t0_3) := by decide

/-- The accumulator block after each of the four points. -/
abbrev acc0 (c : Dev nD) := gramRunA (F := F) c (grid0.coords t0_0) (stage0_0 0) (hstage0_0 0) (stage0_1 0) (hstage0_1 0) cond0_0 (xblk V c t0_0)
abbrev acc1 (c : Dev nD) := gramRunB (F := F) c (grid0.coords t0_1) (stage0_0 1) (hstage0_0 1) (stage0_1 0) (hstage0_1 0) cond0_1 (xblk V c t0_1) (acc0 V c).1
abbrev acc2 (c : Dev nD) := gramRunB (F := F) c (grid0.coords t0_2) (stage0_0 0) (hstage0_0 0) (stage0_1 0) (hstage0_1 0) cond0_2 (xblk V c t0_2) (acc1 V c).1
abbrev acc3 (c : Dev nD) := gramRunB (F := F) c (grid0.coords t0_3) (stage0_0 1) (hstage0_0 1) (stage0_1 0) (hstage0_1 0) cond0_3 (xblk V c t0_3) (acc2 V c).1

/-- The accumulator block after point `n`. -/
def accAt (c : Dev nD) : ℕ → (cfg0.win 1).block.Idx → Elt F (cfg0.win 1).elt
  | 0 => (acc0 V c).1
  | 1 => (acc1 V c).1
  | 2 => (acc2 V c).1
  | _ => (acc3 V c).1

/-- The scoped buffers the gram kernel does not stage, held at anything. -/
abbrev Φ0 (c : Dev nD) : sProp 𝕄 := Pipeline.scopedRest (Ix := Unit) (Name := ℕ) (U := UU) (Lvl := ℕ) (Val := Elt F) spec0 c

/-- The gram kernel's proof data. -/
def dat0 (c : Dev nD) : Dat τ (Elt F) Unit ℕ UU ℕ cfg0 c where
  A w := V c (Pipeline.arrRef spec0 w)
  after w t := match w with
    | ⟨0, _⟩ => xblk V c t
    | ⟨1, _⟩ => accAt V c t.val
  Φ _ := Φ0 c
  q _ := fullShare
  owed _ := 0

abbrev 𝒱₀ : Variants := Variants.none

theorem before0_0 (c : Dev nD) (t : Fin cfg0.N) (d : (cfg0.win 0).block.Idx → Elt F (cfg0.win 0).elt) : (dat0 V c).before 0 t d = xblk V c t := by
  unfold Dat.before; rw [if_pos (fetch0_0 t)]; rfl

theorem before0_1 (c : Dev nD) (t : Fin cfg0.N) (ht : t.val ≠ 0) (hl : t.val < 4) (d : (cfg0.win 1).block.Idx → Elt F (cfg0.win 1).elt) :
    (dat0 V c).before 1 t d = accAt V c (t.val - 1) :=
  (dat0 V c).before_out_kept 1 rfl t ht (Bool.eq_false_iff.mpr fun h => by have := (flush0_1 _).mp h; simp only at this; omega) (fun _ => rfl) (fun _ _ => rfl) d

set_option maxHeartbeats 4000000 in
theorem body0 (c : Dev nD) : BodyObligation (dat0 V c) (defs₀ (F := F)) 𝒱₀ () Set.univ := fun t => by
  rw [bigSep_W0, bigSep_W0]
  rw [show (dat0 V c).Φ t.castSucc = Φ0 c from rfl, show (dat0 V c).Φ t.succ = Φ0 c from rfl,
    show (dat0 V c).owesAt () t.succ = (dat0 V c).owesAt () t.castSucc from rfl]
  unfold owns
  rcases fin_N0 t with rfl | rfl | rfl | rfl
  · iintro ⟨HΦ, Howes, ⟨%d0, %f0, %hf0, H0⟩, ⟨%d1, %f1, -, H1⟩⟩
    obtain rfl : f0 = xblk V c t0_0 := hf0.trans (before0_0 V c t0_0 d0)
    iapply ((acc0 V c).2 f1 Set.univ _)
    isplitl [H0]; · iexact H0
    isplitl [H1]; · iexact H1
    iintro ⟨H0, H1⟩
    isplitl [HΦ]; · iexact HΦ
    isplitl [Howes]; · iexact Howes
    isplitl [H0]; · iexists _; isplitr; swap; (· iexact H0); ipureintro; rfl
    iexists _; isplitr; swap; (· iexact H1); ipureintro; rfl
  · iintro ⟨HΦ, Howes, ⟨%d0, %f0, %hf0, H0⟩, ⟨%d1, %f1, %hf1, H1⟩⟩
    obtain rfl : f0 = xblk V c t0_1 := hf0.trans (before0_0 V c t0_1 d0)
    obtain rfl : f1 = (acc0 V c).1 := hf1.trans (before0_1 V c t0_1 (by decide) (by decide) d1)
    iapply ((acc1 V c).2 Set.univ _)
    isplitl [H0]; · iexact H0
    isplitl [H1]; · iexact H1
    iintro ⟨H0, H1⟩
    isplitl [HΦ]; · iexact HΦ
    isplitl [Howes]; · iexact Howes
    isplitl [H0]; · iexists _; isplitr; swap; (· iexact H0); ipureintro; rfl
    iexists _; isplitr; swap; (· iexact H1); ipureintro; rfl
  · iintro ⟨HΦ, Howes, ⟨%d0, %f0, %hf0, H0⟩, ⟨%d1, %f1, %hf1, H1⟩⟩
    obtain rfl : f0 = xblk V c t0_2 := hf0.trans (before0_0 V c t0_2 d0)
    obtain rfl : f1 = (acc1 V c).1 := hf1.trans (before0_1 V c t0_2 (by decide) (by decide) d1)
    iapply ((acc2 V c).2 Set.univ _)
    isplitl [H0]; · iexact H0
    isplitl [H1]; · iexact H1
    iintro ⟨H0, H1⟩
    isplitl [HΦ]; · iexact HΦ
    isplitl [Howes]; · iexact Howes
    isplitl [H0]; · iexists _; isplitr; swap; (· iexact H0); ipureintro; rfl
    iexists _; isplitr; swap; (· iexact H1); ipureintro; rfl
  · iintro ⟨HΦ, Howes, ⟨%d0, %f0, %hf0, H0⟩, ⟨%d1, %f1, %hf1, H1⟩⟩
    obtain rfl : f0 = xblk V c t0_3 := hf0.trans (before0_0 V c t0_3 d0)
    obtain rfl : f1 = (acc2 V c).1 := hf1.trans (before0_1 V c t0_3 (by decide) (by decide) d1)
    iapply ((acc3 V c).2 Set.univ _)
    isplitl [H0]; · iexact H0
    isplitl [H1]; · iexact H1
    iintro ⟨H0, H1⟩
    isplitl [HΦ]; · iexact HΦ
    isplitl [Howes]; · iexact Howes
    isplitl [H0]; · iexists _; isplitr; swap; (· iexact H0); ipureintro; rfl
    iexists _; isplitr; swap; (· iexact H1); ipureintro; rfl

end Cert.Kernel.Pf

end
-- ==== Proof.K.Dats1.lean ====
/-
  The search kernel's proof data, and its body at one grid point: the results' blocks held to a predicate `Rl`, the
  scratch buffer of scaled Gram matrices to a predicate `I1`.
-/
module

public import proofs.«01_k».proof.Proof.K.Dats

@[expose] public section

set_option maxRecDepth 16384

noncomputable section

namespace Cert.Kernel.Pf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

variable {F : FTy → Type} [FloatOps F]

local notation "𝕄" => MT nD τ sig Unit (Elt F) ℕ UU ℕ

variable (V : Vals F)

/-- The block of input window `w` staged at point `t`. -/
abbrev iblk1 (c : Dev nD) (w : Fin cfg1.W) (t : Fin cfg1.N) :=
  ((cfg1.win w).blk t).view.read (Elt F) (V c (Pipeline.arrRef spec1 w))

variable (I1 : (c : Dev nD) → Fin (cfg1.N + 1) → Bf F c (Memref.whole cc1_scratch0) → Prop)

/-- The scoped buffers the search kernel does not stage: the scaled Gram matrices held to `I1`, the others at anything. -/
abbrev Φ1 (c : Dev nD) (t : Fin (cfg1.N + 1)) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f)
    ∗ (∃ f : Bf F c (Memref.whole cc1_scratch0), ⌜I1 c t f⌝ ∗ pts c (Memref.whole cc1_scratch0) f)
    ∗ (∃ f, pts c (Memref.whole cc1_scratch1) f)    ∗ (∃ f, pts c (Memref.whole cc1_scratch2) f)    ∗ (∃ f, pts c (Memref.whole cc1_scratch3) f)    ∗ (∃ f, pts c (Memref.whole cc1_scratch4) f)    ∗ (∃ f, pts c (Memref.whole cc1_scratch5) f))

/-- The search kernel's proof data; of a result's window only the array matters. -/
def dat1 (c : Dev nD) : Dat τ (Elt F) Unit ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => fun _ => Classical.arbitrary _
    | ⟨7, _⟩ => fun _ => Classical.arbitrary _
    | ⟨8, _⟩ => fun _ => Classical.arbitrary _
    | ⟨9, _⟩ => fun _ => Classical.arbitrary _
    | ⟨10, _⟩ => fun _ => Classical.arbitrary _
  Φ t := Φ1 I1 c t
  q _ := fullShare
  owed _ := 0

/-- The results' windows. -/
def fg1 : Fin cfg1.W → Bool := fun w => decide (6 ≤ w.val)

theorem fg1_0 : fg1 0 = false := rfl
theorem fg1_1 : fg1 1 = false := rfl
theorem fg1_2 : fg1 2 = false := rfl
theorem fg1_3 : fg1 3 = false := rfl
theorem fg1_4 : fg1 4 = false := rfl
theorem fg1_5 : fg1 5 = false := rfl
theorem fg1_6 : fg1 6 = true := rfl
theorem fg1_7 : fg1 7 = true := rfl
theorem fg1_8 : fg1 8 = true := rfl
theorem fg1_9 : fg1 9 = true := rfl
theorem fg1_10 : fg1 10 = true := rfl

theorem before1_0 (c : Dev nD) (t : Fin cfg1.N) (d : (cfg1.win 0).block.Idx → Elt F (cfg1.win 0).elt) : (dat1 V I1 c).before 0 t d = iblk1 V c 0 t :=
  ((dat1 V I1 c).before_in_eq_fetched 0 rfl (fun _ => rfl) (fun _ _ _ => rfl) (fun _ => rfl) t d).trans rfl
theorem before1_1 (c : Dev nD) (t : Fin cfg1.N) (d : (cfg1.win 1).block.Idx → Elt F (cfg1.win 1).elt) : (dat1 V I1 c).before 1 t d = iblk1 V c 1 t :=
  ((dat1 V I1 c).before_in_eq_fetched 1 rfl (fun _ => rfl) (fun _ _ _ => rfl) (fun _ => rfl) t d).trans rfl
theorem before1_2 (c : Dev nD) (t : Fin cfg1.N) (d : (cfg1.win 2).block.Idx → Elt F (cfg1.win 2).elt) : (dat1 V I1 c).before 2 t d = iblk1 V c 2 t :=
  ((dat1 V I1 c).before_in_eq_fetched 2 rfl (fun _ => rfl) (fun _ _ _ => rfl) (fun _ => rfl) t d).trans rfl
theorem before1_3 (c : Dev nD) (t : Fin cfg1.N) (d : (cfg1.win 3).block.Idx → Elt F (cfg1.win 3).elt) : (dat1 V I1 c).before 3 t d = iblk1 V c 3 t :=
  ((dat1 V I1 c).before_in_eq_fetched 3 rfl (fun _ => rfl) (fun _ _ _ => rfl) (fun _ => rfl) t d).trans rfl
theorem before1_4 (c : Dev nD) (t : Fin cfg1.N) (d : (cfg1.win 4).block.Idx → Elt F (cfg1.win 4).elt) : (dat1 V I1 c).before 4 t d = iblk1 V c 4 t :=
  ((dat1 V I1 c).before_in_eq_fetched 4 rfl (fun _ => rfl) (fun _ _ _ => rfl) (fun _ => rfl) t d).trans rfl
theorem before1_5 (c : Dev nD) (t : Fin cfg1.N) (d : (cfg1.win 5).block.Idx → Elt F (cfg1.win 5).elt) : (dat1 V I1 c).before 5 t d = iblk1 V c 5 t :=
  ((dat1 V I1 c).before_in_eq_fetched 5 rfl (fun _ => rfl) (fun _ _ _ => rfl) (fun _ => rfl) t d).trans rfl

variable (Rl : (c : Dev nD) → (w : Fin cfg1.W) → Fin cfg1.N → ((cfg1.win w).block.Idx → Elt F (cfg1.win w).elt) → Prop)

/-- The body's run at point `t`, by whether it is a point of the first row block. -/
abbrev runA (c : Dev nD) (t : Fin cfg1.N) (hc : k1_cond1 (grid1.coords t) = 1#1) :=
  searchRunA (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) hc
abbrev runB (c : Dev nD) (t : Fin cfg1.N) (hc : ¬ k1_cond1 (grid1.coords t) = 1#1) :=
  searchRunB (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) hc

/-- What the body leaves at point `t` meets the predicates. -/
def StepOK (c : Dev nD) (t : Fin cfg1.N) (W : Bf F c (win1_6.stage (cfg1.slots t 6)) × Bf F c (win1_7.stage (cfg1.slots t 7)) × Bf F c (win1_8.stage (cfg1.slots t 8)) × Bf F c (win1_9.stage (cfg1.slots t 9)) × Bf F c (win1_10.stage (cfg1.slots t 10)) × Bf F c (Memref.whole cc1_scratch0) × Bf F c (Memref.whole cc1_scratch1) × Bf F c (Memref.whole cc1_scratch2) × Bf F c (Memref.whole cc1_scratch3) × Bf F c (Memref.whole cc1_scratch4) × Bf F c (Memref.whole cc1_scratch5)) : Prop :=
  I1 c t.succ W.2.2.2.2.2.1 ∧ Rl c 6 t ((win1_6.stage (cfg1.slots t 6)).view.read (Elt F) W.1) ∧ Rl c 7 t ((win1_7.stage (cfg1.slots t 7)).view.read (Elt F) W.2.1) ∧ Rl c 8 t ((win1_8.stage (cfg1.slots t 8)).view.read (Elt F) W.2.2.1) ∧ Rl c 9 t ((win1_9.stage (cfg1.slots t 9)).view.read (Elt F) W.2.2.2.1) ∧ Rl c 10 t ((win1_10.stage (cfg1.slots t 10)).view.read (Elt F) W.2.2.2.2.1)

/-- The body keeps the predicates, at points of the first row block (`A`) and past it (`B`). -/
def StepA : Prop := ∀ (c : Dev nD) (t : Fin cfg1.N) (hc : k1_cond1 (grid1.coords t) = 1#1) (f3 : Bf F c (win1_0.stage (cfg1.slots t 0))) (f4 : Bf F c (win1_1.stage (cfg1.slots t 1))) (f5 : Bf F c (win1_2.stage (cfg1.slots t 2))) (f6 : Bf F c (win1_3.stage (cfg1.slots t 3))) (f7 : Bf F c (win1_4.stage (cfg1.slots t 4))) (f8 : Bf F c (win1_5.stage (cfg1.slots t 5))) (f9 : Bf F c (win1_6.stage (cfg1.slots t 6))) (f10 : Bf F c (win1_7.stage (cfg1.slots t 7))) (f11 : Bf F c (win1_8.stage (cfg1.slots t 8))) (f12 : Bf F c (win1_9.stage (cfg1.slots t 9))) (f13 : Bf F c (win1_10.stage (cfg1.slots t 10))) (f14 : Bf F c (Memref.whole cc1_scratch0)) (f15 : Bf F c (Memref.whole cc1_scratch1)) (f16 : Bf F c (Memref.whole cc1_scratch2)) (f17 : Bf F c (Memref.whole cc1_scratch3)) (f18 : Bf F c (Memref.whole cc1_scratch4)) (f19 : Bf F c (Memref.whole cc1_scratch5)),
    (win1_0.stage (cfg1.slots t 0)).view.read (Elt F) f3 = iblk1 V c 0 t →
    (win1_1.stage (cfg1.slots t 1)).view.read (Elt F) f4 = iblk1 V c 1 t →
    (win1_2.stage (cfg1.slots t 2)).view.read (Elt F) f5 = iblk1 V c 2 t →
    (win1_3.stage (cfg1.slots t 3)).view.read (Elt F) f6 = iblk1 V c 3 t →
    (win1_4.stage (cfg1.slots t 4)).view.read (Elt F) f7 = iblk1 V c 4 t →
    (win1_5.stage (cfg1.slots t 5)).view.read (Elt F) f8 = iblk1 V c 5 t →
    I1 c t.castSucc f14 →
    ((dat1 V I1 c).toRRel fg1 (Rl c)).Finds 6 t ((win1_6.stage (cfg1.slots t 6)).view.read (Elt F) f9) →
    ((dat1 V I1 c).toRRel fg1 (Rl c)).Finds 7 t ((win1_7.stage (cfg1.slots t 7)).view.read (Elt F) f10) →
    ((dat1 V I1 c).toRRel fg1 (Rl c)).Finds 8 t ((win1_8.stage (cfg1.slots t 8)).view.read (Elt F) f11) →
    ((dat1 V I1 c).toRRel fg1 (Rl c)).Finds 9 t ((win1_9.stage (cfg1.slots t 9)).view.read (Elt F) f12) →
    ((dat1 V I1 c).toRRel fg1 (Rl c)).Finds 10 t ((win1_10.stage (cfg1.slots t 10)).view.read (Elt F) f13) →
    StepOK I1 Rl c t (runA c t hc f3 f4 f5 f6 f7 f8 f9 f10 f11 f12 f13 f14 f15 f16 f17 f18 f19).1
def StepB : Prop := ∀ (c : Dev nD) (t : Fin cfg1.N) (hc : ¬ k1_cond1 (grid1.coords t) = 1#1) (f3 : Bf F c (win1_0.stage (cfg1.slots t 0))) (f4 : Bf F c (win1_1.stage (cfg1.slots t 1))) (f5 : Bf F c (win1_2.stage (cfg1.slots t 2))) (f6 : Bf F c (win1_3.stage (cfg1.slots t 3))) (f7 : Bf F c (win1_4.stage (cfg1.slots t 4))) (f8 : Bf F c (win1_5.stage (cfg1.slots t 5))) (f9 : Bf F c (win1_6.stage (cfg1.slots t 6))) (f10 : Bf F c (win1_7.stage (cfg1.slots t 7))) (f11 : Bf F c (win1_8.stage (cfg1.slots t 8))) (f12 : Bf F c (win1_9.stage (cfg1.slots t 9))) (f13 : Bf F c (win1_10.stage (cfg1.slots t 10))) (f14 : Bf F c (Memref.whole cc1_scratch0)) (f15 : Bf F c (Memref.whole cc1_scratch1)) (f16 : Bf F c (Memref.whole cc1_scratch2)) (f17 : Bf F c (Memref.whole cc1_scratch3)) (f18 : Bf F c (Memref.whole cc1_scratch4)) (f19 : Bf F c (Memref.whole cc1_scratch5)),
    (win1_0.stage (cfg1.slots t 0)).view.read (Elt F) f3 = iblk1 V c 0 t →
    (win1_1.stage (cfg1.slots t 1)).view.read (Elt F) f4 = iblk1 V c 1 t →
    (win1_2.stage (cfg1.slots t 2)).view.read (Elt F) f5 = iblk1 V c 2 t →
    (win1_3.stage (cfg1.slots t 3)).view.read (Elt F) f6 = iblk1 V c 3 t →
    (win1_4.stage (cfg1.slots t 4)).view.read (Elt F) f7 = iblk1 V c 4 t →
    (win1_5.stage (cfg1.slots t 5)).view.read (Elt F) f8 = iblk1 V c 5 t →
    I1 c t.castSucc f14 →
    ((dat1 V I1 c).toRRel fg1 (Rl c)).Finds 6 t ((win1_6.stage (cfg1.slots t 6)).view.read (Elt F) f9) →
    ((dat1 V I1 c).toRRel fg1 (Rl c)).Finds 7 t ((win1_7.stage (cfg1.slots t 7)).view.read (Elt F) f10) →
    ((dat1 V I1 c).toRRel fg1 (Rl c)).Finds 8 t ((win1_8.stage (cfg1.slots t 8)).view.read (Elt F) f11) →
    ((dat1 V I1 c).toRRel fg1 (Rl c)).Finds 9 t ((win1_9.stage (cfg1.slots t 9)).view.read (Elt F) f12) →
    ((dat1 V I1 c).toRRel fg1 (Rl c)).Finds 10 t ((win1_10.stage (cfg1.slots t 10)).view.read (Elt F) f13) →
    StepOK I1 Rl c t (runB c t hc f3 f4 f5 f6 f7 f8 f9 f10 f11 f12 f13 f14 f15 f16 f17 f18 f19).1

set_option maxHeartbeats 4000000 in
theorem body1 (hA : StepA V I1 Rl) (hB : StepB V I1 Rl) (c : Dev nD) :
    BodyObligationRel (dat1 V I1 c) (defs₀ (F := F)) 𝒱₀ () Set.univ fg1 (Rl c) := fun t => by
  rw [bigSep_W1, bigSep_W1]
  rw [show (dat1 V I1 c).Φ t.castSucc = Φ1 I1 c t.castSucc from rfl, show (dat1 V I1 c).Φ t.succ = Φ1 I1 c t.succ from rfl,
    show (dat1 V I1 c).owesAt () t.succ = (dat1 V I1 c).owesAt () t.castSucc from rfl]
  simp only [fg1_0, fg1_1, fg1_2, fg1_3, fg1_4, fg1_5, fg1_6, fg1_7, fg1_8, fg1_9, fg1_10]
  unfold owns
  iintro ⟨⟨Hr0, Hr1, Hr2, ⟨%f14, %hI, H14⟩, ⟨%f15, H15⟩, ⟨%f16, H16⟩, ⟨%f17, H17⟩, ⟨%f18, H18⟩, ⟨%f19, H19⟩⟩, Howes, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%Y9, %hY9, %f9, %h9, H9⟩, ⟨%Y10, %hY10, %f10, %h10, H10⟩, ⟨%Y11, %hY11, %f11, %h11, H11⟩, ⟨%Y12, %hY12, %f12, %h12, H12⟩, ⟨%Y13, %hY13, %f13, %h13, H13⟩⟩
  have h3' := h3.trans (before1_0 V I1 c t d3)
  have h4' := h4.trans (before1_1 V I1 c t d4)
  have h5' := h5.trans (before1_2 V I1 c t d5)
  have h6' := h6.trans (before1_3 V I1 c t d6)
  have h7' := h7.trans (before1_4 V I1 c t d7)
  have h8' := h8.trans (before1_5 V I1 c t d8)
  subst h9
  subst h10
  subst h11
  subst h12
  subst h13
  by_cases hc : k1_cond1 (grid1.coords t) = 1#1
  · have hs := hA c t hc f3 f4 f5 f6 f7 f8 f9 f10 f11 f12 f13 f14 f15 f16 f17 f18 f19 h3' h4' h5' h6' h7' h8' hI hY9 hY10 hY11 hY12 hY13
    obtain ⟨hI', g9, g10, g11, g12, g13⟩ := hs
    iapply ((runA c t hc f3 f4 f5 f6 f7 f8 f9 f10 f11 f12 f13 f14 f15 f16 f17 f18 f19).2 Set.univ _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H3, H4, H5, H6, H7, H8, H9, H10, H11, H12, H13, H14, H15, H16, H17, H18, H19⟩
    isplitl [Hr0 Hr1 Hr2 H14 H15 H16 H17 H18 H19]
    · isplitl [Hr0]; · iexact Hr0
      isplitl [Hr1]; · iexact Hr1
      isplitl [Hr2]; · iexact Hr2
      isplitl [H14]
      · iexists _; isplitr; swap; (· iexact H14); ipureintro; exact hI'
      isplitl [H15]; · iexists _; iexact H15
      isplitl [H16]; · iexists _; iexact H16
      isplitl [H17]; · iexists _; iexact H17
      isplitl [H18]; · iexists _; iexact H18
      iexists _; iexact H19
    isplitl [Howes]; · iexact Howes
    isplitl [H3]; · iexists _; isplitr; swap; (· iexact H3); ipureintro; exact h3'
    isplitl [H4]; · iexists _; isplitr; swap; (· iexact H4); ipureintro; exact h4'
    isplitl [H5]; · iexists _; isplitr; swap; (· iexact H5); ipureintro; exact h5'
    isplitl [H6]; · iexists _; isplitr; swap; (· iexact H6); ipureintro; exact h6'
    isplitl [H7]; · iexists _; isplitr; swap; (· iexact H7); ipureintro; exact h7'
    isplitl [H8]; · iexists _; isplitr; swap; (· iexact H8); ipureintro; exact h8'
    isplitl [H9]; · iexists _; isplitr; swap; (· iexists _; isplitr; swap; (· iexact H9); ipureintro; rfl); ipureintro; exact g9
    isplitl [H10]; · iexists _; isplitr; swap; (· iexists _; isplitr; swap; (· iexact H10); ipureintro; rfl); ipureintro; exact g10
    isplitl [H11]; · iexists _; isplitr; swap; (· iexists _; isplitr; swap; (· iexact H11); ipureintro; rfl); ipureintro; exact g11
    isplitl [H12]; · iexists _; isplitr; swap; (· iexists _; isplitr; swap; (· iexact H12); ipureintro; rfl); ipureintro; exact g12
    iexists _; isplitr; swap; (· iexists _; isplitr; swap; (· iexact H13); ipureintro; rfl); ipureintro; exact g13
  · have hs := hB c t hc f3 f4 f5 f6 f7 f8 f9 f10 f11 f12 f13 f14 f15 f16 f17 f18 f19 h3' h4' h5' h6' h7' h8' hI hY9 hY10 hY11 hY12 hY13
    obtain ⟨hI', g9, g10, g11, g12, g13⟩ := hs
    iapply ((runB c t hc f3 f4 f5 f6 f7 f8 f9 f10 f11 f12 f13 f14 f15 f16 f17 f18 f19).2 Set.univ _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H3, H4, H5, H6, H7, H8, H9, H10, H11, H12, H13, H14, H15, H16, H17, H18, H19⟩
    isplitl [Hr0 Hr1 Hr2 H14 H15 H16 H17 H18 H19]
    · isplitl [Hr0]; · iexact Hr0
      isplitl [Hr1]; · iexact Hr1
      isplitl [Hr2]; · iexact Hr2
      isplitl [H14]
      · iexists _; isplitr; swap; (· iexact H14); ipureintro; exact hI'
      isplitl [H15]; · iexists _; iexact H15
      isplitl [H16]; · iexists _; iexact H16
      isplitl [H17]; · iexists _; iexact H17
      isplitl [H18]; · iexists _; iexact H18
      iexists _; iexact H19
    isplitl [Howes]; · iexact Howes
    isplitl [H3]; · iexists _; isplitr; swap; (· iexact H3); ipureintro; exact h3'
    isplitl [H4]; · iexists _; isplitr; swap; (· iexact H4); ipureintro; exact h4'
    isplitl [H5]; · iexists _; isplitr; swap; (· iexact H5); ipureintro; exact h5'
    isplitl [H6]; · iexists _; isplitr; swap; (· iexact H6); ipureintro; exact h6'
    isplitl [H7]; · iexists _; isplitr; swap; (· iexact H7); ipureintro; exact h7'
    isplitl [H8]; · iexists _; isplitr; swap; (· iexact H8); ipureintro; exact h8'
    isplitl [H9]; · iexists _; isplitr; swap; (· iexists _; isplitr; swap; (· iexact H9); ipureintro; rfl); ipureintro; exact g9
    isplitl [H10]; · iexists _; isplitr; swap; (· iexists _; isplitr; swap; (· iexact H10); ipureintro; rfl); ipureintro; exact g10
    isplitl [H11]; · iexists _; isplitr; swap; (· iexists _; isplitr; swap; (· iexact H11); ipureintro; rfl); ipureintro; exact g11
    isplitl [H12]; · iexists _; isplitr; swap; (· iexists _; isplitr; swap; (· iexact H12); ipureintro; rfl); ipureintro; exact g12
    iexists _; isplitr; swap; (· iexists _; isplitr; swap; (· iexact H13); ipureintro; rfl); ipureintro; exact g13

end Cert.Kernel.Pf

end
-- ==== Proof.K.Run.lean ====
/-
  The whole program's run: the Gram kernel's region exactly, the search kernel's region through the predicates `I1` and `Rl`,
  and the host operations around them.
-/
module

public import proofs.«01_k».proof.Proof.K.Dats1
public import Idealize.ShloMosaic.Lib.Pipeline.RegionsLoop
public import Idealize.ShloMosaic.Lib.Pipeline.RegionsOwned
public import Idealize.ShloMosaic.Lib.Pipeline.FrameSuffix

@[expose] public section

set_option maxRecDepth 16384

noncomputable section

namespace Cert.Kernel.Pf

open Cert.Kernel Cert.Kernel.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ UU ℕ

variable (m : (ℓ : Loc nD τ sig) → Buf (Elt F) ℓ) (ρ : Dev nD → PrngReg)

/-- The buffers when the Gram kernel is entered. -/
def VA : Vals F := fun c b => V1 m c b
/-- The Gram kernel's result. -/
def gramArr (c : Dev nD) : Buf (Elt F) ((c : Thread nD τ).loc main_v2) := (dat0 (VA m) c).arrAt 1 cfg0.N
/-- What the regions leave, as far as it is read before the search kernel: the Gram kernel's result. -/
def outs0 : Outs (F := F) := fun _ r c => Function.update (β := fun r : Ref sig .tc => Buf (Elt F) ((c : Thread nD τ).loc r)) (fun b => V1 m c b) main_v2 (gramArr m c) r
theorem outs0_main_v2 (J : ℕ) (c : Dev nD) : outs0 m J main_v2 c = gramArr m c := by
  unfold outs0; exact Function.update_self ..
/-- The buffers when the search kernel is entered. -/
def VB : Vals F := fun c b => V5 m (outs0 m) c b

variable (I1 : (c : Dev nD) → Fin (cfg1.N + 1) → Bf F c (Memref.whole cc1_scratch0) → Prop)
  (Rl : (c : Dev nD) → (w : Fin cfg1.W) → Fin cfg1.N → ((cfg1.win w).block.Idx → Elt F (cfg1.win w).elt) → Prop)

/-- The search kernel's data, the results read through `Rl`. -/
abbrev rdat1 (c : Dev nD) := (dat1 (VB m) I1 c).toRRel fg1 (Rl c)

/-- The regions' data. -/
def rdats : (p : Fin 2) → (c : Dev nD) → Pipeline.RDat τ (Elt F) Unit ℕ UU ℕ (cfgs p) c
  | ⟨0, _⟩ => fun c => (dat0 (VA m) c).toR
  | ⟨1, _⟩ => fun c => rdat1 m I1 Rl c
/-- The regions' exact data (for the arrays' layout). -/
def pdats : (p : Fin 2) → (c : Dev nD) → Dat τ (Elt F) Unit ℕ UU ℕ (cfgs p) c
  | ⟨0, _⟩ => fun c => dat0 (VA m) c
  | ⟨1, _⟩ => fun c => dat1 (VB m) I1 c

/-- No core owes another anything: no level is assigned. -/
abbrev L : GSem nD τ sig → Finset Unit := fun _ => ∅
abbrev lv : GSem nD τ sig → Unit → ℕ := fun _ _ => 0
/-- What rides beside the buffers. -/
abbrev Re (c : Dev nD) : sProp 𝕄 := iprop(∃ W, owes (c : Thread nD τ) (0 : CellTallies nD τ sig Unit) W)

/-- Contents of the search kernel's arrays that its write-backs may leave. -/
abbrev Arrs1 (c : Dev nD) : Type := { A : (w : Fin cfg1.W) → Buf (Elt F) ((cfg1.win w).arr.view.loc (c : Thread nD τ)) // ∀ w, (rdat1 m I1 Rl c).ArrAt w cfg1.N (A w) }

/-- The buffers after the search kernel, -/
def VC (c : Dev nD) (γ : Arrs1 m I1 Rl c) : Valuation τ sig (Elt F) :=
  Function.update (Function.update (Function.update (Function.update (Function.update (V5 m (outs0 m) c) main_v10_0 (γ.1 6)) main_v10_1 (γ.1 7)) main_v10_2 (γ.1 8)) main_v10_3 (γ.1 9)) main_v10_4 (γ.1 10)
/-- and at the end. -/
def VD (c : Dev nD) (γ : Arrs1 m I1 Rl c) : Valuation τ sig (Elt F) := StableHlo.after hostOps2 (VC m I1 Rl c γ)

theorem VC_of (c : Dev nD) (γ) (r : Ref sig .tc) (h : r ∉ ([main_v10_0, main_v10_1, main_v10_2, main_v10_3, main_v10_4] : List (Ref sig .tc))) :
    VC m I1 Rl c γ r = V5 m (outs0 m) c r := by
  simp only [List.mem_cons, List.not_mem_nil, or_false, not_or] at h
  unfold VC
  iterate 5 rw [Function.update_of_ne (StableHlo.devRef_ne_of_ne (by tauto))]
theorem VC_6 (c : Dev nD) (γ) : VC m I1 Rl c γ main_v10_0 = γ.1 6 := by
  unfold VC
  iterate 4 rw [Function.update_of_ne (StableHlo.devRef_ne_of_ne (by decide))]
  exact Function.update_self ..
theorem VC_7 (c : Dev nD) (γ) : VC m I1 Rl c γ main_v10_1 = γ.1 7 := by
  unfold VC
  iterate 3 rw [Function.update_of_ne (StableHlo.devRef_ne_of_ne (by decide))]
  exact Function.update_self ..
theorem VC_8 (c : Dev nD) (γ) : VC m I1 Rl c γ main_v10_2 = γ.1 8 := by
  unfold VC
  iterate 2 rw [Function.update_of_ne (StableHlo.devRef_ne_of_ne (by decide))]
  exact Function.update_self ..
theorem VC_9 (c : Dev nD) (γ) : VC m I1 Rl c γ main_v10_3 = γ.1 9 := by
  unfold VC
  rw [Function.update_of_ne (StableHlo.devRef_ne_of_ne (by decide))]
  exact Function.update_self ..
theorem VC_10 (c : Dev nD) (γ) : VC m I1 Rl c γ main_v10_4 = γ.1 10 := by
  unfold VC
  exact Function.update_self ..
theorem VD_of (c : Dev nD) (γ) (r : Ref sig .tc) (h : r ∉ hostOps2_W) : VD m I1 Rl c γ r = VC m I1 Rl c γ r :=
  StableHlo.after_of_writes_sub hostOps2 _ hostOps2_writes h

theorem VD_arg (c : Dev nD) (γ) (r : Ref sig .tc) (h2 : r ∉ hostOps2_W)
    (h : r ∉ ([main_v10_0, main_v10_1, main_v10_2, main_v10_3, main_v10_4] : List (Ref sig .tc)))
    (h12 : r ∉ hostOps1_2_W) (h11 : r ∉ hostOps1_1_W) (h1 : r ∉ hostOps1_W) (hv : r ∉ ([main_v2] : List (Ref sig .tc))) (h0 : r ∉ hostOps0_W) :
    VD m I1 Rl c γ r = m ((c : Thread nD τ).loc r) :=
  (VD_of m I1 Rl c γ r h2).trans <| (VC_of m I1 Rl c γ r h).trans <| (V5_of m (outs0 m) c r h12).trans <| (V4_of m (outs0 m) c r h11).trans <|
    (V3_of m (outs0 m) c r h1).trans <| (V2_of m (outs0 m) c r hv).trans (V1_of m c r h0)

theorem arr1_in (c : Dev nD) (γ : Arrs1 m I1 Rl c) (w : Fin cfg1.W) (hw : (cfg1.win w).isOut = false) : γ.1 w = VB m c (Pipeline.arrRef spec1 w) := by
  have h := γ.2 w
  rw [Pipeline.RDat.ArrAt_in _ w hw] at h
  exact h
theorem VC_arr (c : Dev nD) (γ : Arrs1 m I1 Rl c) : ∀ w : Fin cfg1.W, γ.1 w = VC m I1 Rl c γ (Pipeline.arrRef spec1 w)
  | ⟨0, _⟩ => (arr1_in m I1 Rl c γ 0 rfl).trans (VC_of m I1 Rl c γ main_cst (by decide)).symm
  | ⟨1, _⟩ => (arr1_in m I1 Rl c γ 1 rfl).trans (VC_of m I1 Rl c γ main_v0 (by decide)).symm
  | ⟨2, _⟩ => (arr1_in m I1 Rl c γ 2 rfl).trans (VC_of m I1 Rl c γ main_arg1 (by decide)).symm
  | ⟨3, _⟩ => (arr1_in m I1 Rl c γ 3 rfl).trans (VC_of m I1 Rl c γ main_v3 (by decide)).symm
  | ⟨4, _⟩ => (arr1_in m I1 Rl c γ 4 rfl).trans (VC_of m I1 Rl c γ main_v2 (by decide)).symm
  | ⟨5, _⟩ => (arr1_in m I1 Rl c γ 5 rfl).trans (VC_of m I1 Rl c γ main_v9 (by decide)).symm
  | ⟨6, _⟩ => (VC_6 m I1 Rl c γ).symm
  | ⟨7, _⟩ => (VC_7 m I1 Rl c γ).symm
  | ⟨8, _⟩ => (VC_8 m I1 Rl c γ).symm
  | ⟨9, _⟩ => (VC_9 m I1 Rl c γ).symm
  | ⟨10, _⟩ => (VC_10 m I1 Rl c γ).symm
  | ⟨_ + 11, h⟩ => absurd h (Nat.not_lt.2 (Nat.le_add_left _ _))

/-! ## The regions -/

theorem pts_whole (c : Dev nD) (b : Ref sig .tc) (f : Bf F c (Memref.whole b)) :
    (pts c (Memref.whole b) f : sProp 𝕄) = ((c : Thread nD τ).loc b ↦{fullShare} f) := by
  unfold pts; rw [show (Memref.whole b).view.set = Finset.univ from View.set_whole b]

theorem owes0_in (c : Dev nD) : (Re c : sProp 𝕄) ⊢ (dat0 (VA m) c).owesAt () 0 := by
  unfold Pipeline.Dat.owesAt Pipeline.owesWithin
  iintro ⟨%W, HO⟩; iexists W; isplitr; · ipureintro; exact fun _ _ => Or.inl trivial
  iexact HO
theorem owes1_in (c : Dev nD) : (Re c : sProp 𝕄) ⊢ (dat1 (VB m) I1 c).owesAt () 0 := by
  unfold Pipeline.Dat.owesAt Pipeline.owesWithin
  iintro ⟨%W, HO⟩; iexists W; isplitr; · ipureintro; exact fun _ _ => Or.inl trivial
  iexact HO
theorem owes0_out (c : Dev nD) : (dat0 (VA m) c).owesAt () (Fin.last _) ⊢ (Re c : sProp 𝕄) := by
  unfold Pipeline.Dat.owesAt Pipeline.owesWithin
  iintro ⟨%W, -, HO⟩; iexists W; iexact HO
theorem owes1_out (c : Dev nD) : (dat1 (VB m) I1 c).owesAt () (Fin.last _) ⊢ (Re c : sProp 𝕄) := by
  unfold Pipeline.Dat.owesAt Pipeline.owesWithin
  iintro ⟨%W, -, HO⟩; iexists W; iexact HO
theorem scoped_in (hI0 : ∀ c f, I1 c 0 f) (c : Dev nD) :
    (Pipeline.scopedRest (Ix := Unit) (Name := ℕ) (U := UU) (Lvl := ℕ) (Val := Elt F) spec1 c : sProp 𝕄) ⊢ Φ1 I1 c 0 := by
  rw [scopedRest1_eq]
  iintro ⟨Hr0, Hr1, Hr2, ⟨%f14, H14⟩, ⟨%f15, H15⟩, ⟨%f16, H16⟩, ⟨%f17, H17⟩, ⟨%f18, H18⟩, ⟨%f19, H19⟩⟩
  ihave H14 := (Entails.of_eq (pts_whole c cc1_scratch0 f14).symm) $$ H14
  ihave H15 := (Entails.of_eq (pts_whole c cc1_scratch1 f15).symm) $$ H15
  ihave H16 := (Entails.of_eq (pts_whole c cc1_scratch2 f16).symm) $$ H16
  ihave H17 := (Entails.of_eq (pts_whole c cc1_scratch3 f17).symm) $$ H17
  ihave H18 := (Entails.of_eq (pts_whole c cc1_scratch4 f18).symm) $$ H18
  ihave H19 := (Entails.of_eq (pts_whole c cc1_scratch5 f19).symm) $$ H19
  isplitl [Hr0]; · iexact Hr0
  isplitl [Hr1]; · iexact Hr1
  isplitl [Hr2]; · iexact Hr2
  isplitl [H14]
  · iexists f14; isplitr; · ipureintro; exact hI0 c f14
    iexact H14
  isplitl [H15]; · iexists f15; iexact H15
  isplitl [H16]; · iexists f16; iexact H16
  isplitl [H17]; · iexists f17; iexact H17
  isplitl [H18]; · iexists f18; iexact H18
  iexists f19; iexact H19
theorem scoped_out (c : Dev nD) (t : Fin (cfg1.N + 1)) :
    Φ1 I1 c t ⊢ (Pipeline.scopedRest (Ix := Unit) (Name := ℕ) (U := UU) (Lvl := ℕ) (Val := Elt F) spec1 c : sProp 𝕄) := by
  rw [scopedRest1_eq]
  iintro ⟨Hr0, Hr1, Hr2, ⟨%f14, %hI, H14⟩, ⟨%f15, H15⟩, ⟨%f16, H16⟩, ⟨%f17, H17⟩, ⟨%f18, H18⟩, ⟨%f19, H19⟩⟩
  ihave H14 := (Entails.of_eq (pts_whole c cc1_scratch0 f14)) $$ H14
  ihave H15 := (Entails.of_eq (pts_whole c cc1_scratch1 f15)) $$ H15
  ihave H16 := (Entails.of_eq (pts_whole c cc1_scratch2 f16)) $$ H16
  ihave H17 := (Entails.of_eq (pts_whole c cc1_scratch3 f17)) $$ H17
  ihave H18 := (Entails.of_eq (pts_whole c cc1_scratch4 f18)) $$ H18
  ihave H19 := (Entails.of_eq (pts_whole c cc1_scratch5 f19)) $$ H19
  isplitl [Hr0]; · iexact Hr0
  isplitl [Hr1]; · iexact Hr1
  isplitl [Hr2]; · iexact Hr2
  isplitl [H14]; · iexists f14; iexact H14
  isplitl [H15]; · iexists f15; iexact H15
  isplitl [H16]; · iexists f16; iexact H16
  isplitl [H17]; · iexists f17; iexact H17
  isplitl [H18]; · iexists f18; iexact H18
  iexists f19; iexact H19

set_option backward.isDefEq.respectTransparency.types false in
/-- The Gram kernel's region. -/
def reg0 : Pipeline.RDat.RegionSeg (pcfgs (F := F)) adm (rdats m I1 Rl) () defs₀ 𝒱₀ L lv 0 where
  win := launch0.win.to₀
  block_pos := launch0.block_pos
  stage_whole := launch0.stage_whole
  K := PEmpty
  osem k := k.elim
  ho := Pipeline.OwnSemFacts.none _
  hbody c := (body0 (VA m) c).loose.toR
  hwaits := Pipeline.RDat.hwaits_of_owed_zero _ _ _ _ L lv 0 fun _ _ => rfl
  pre c := iprop(StableHlo.held (c : Thread nD τ) (Pipeline.ucRefs τ sig) (V1 m c) ∗ Re c)
  post c := iprop(StableHlo.held (c : Thread nD τ) (Pipeline.ucRefs τ sig) (V2 m (outs0 m) c) ∗ Re c)
  X _ := BI.emp
  Y _ := BI.emp
  Z c := Pipeline.unscopedRest (Ix := Unit) (Name := ℕ) (U := UU) (Lvl := ℕ) spec0 c (fun b => V1 m c b)
  hentry c := by
    rw [Pipeline.ownSems0_none, ← Pipeline.unscopedBufs_held (Ix := Unit) (Name := ℕ) (U := UU) (Lvl := ℕ) c (V1 m c)]
    have hsplit := Pipeline.RDat.arrays_of_unscopedBufs (p := 0) (pcfgs (F := F)) adm (rdats m I1 Rl) launch0.win launch0.arr_whole c
      ((dat0 (VA m) c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes0_in m c); iexact HO
    isplitr; · iempintro
    iexact Hrest
  hin c := by
    rw [show (rdats m I1 Rl 0 c).Φ 0 = Φ0 c from rfl]
    iintro ⟨-, -, Hr⟩; iexact Hr
  hout c := by
    rw [Pipeline.ownSems0_none, show (rdats m I1 Rl 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m I1) ((dat0 (VA m) c).share_full fun _ => rfl) (fun b => V1 m c b) (fun b => V2 m (outs0 m) c b) ((dat0 (VA m) c).arrAt · cfg0.N)
      (fun w => by
        fin_cases w
        · exact ((dat0 (VA m) c).arrAt_in 0 rfl _).trans (V2_of m (outs0 m) c main_v1 (by decide)).symm
        · exact ((outs0_main_v2 m 2 c).symm.trans (Function.update_self (f := V1 m c) (Proc.devRef .tc main_v2) (outs0 m 2 main_v2 c)).symm))
      (fun b hb => V2_of m (outs0 m) c b fun h => hb (by
        rw [List.mem_singleton] at h
        exact h ▸ Finset.mem_image.mpr ⟨1, Finset.mem_univ _, rfl⟩))
    rw [show (rdats m I1 Rl 0 c).arraysAt (Pipeline.pin (pcfgs (F := F)) adm 0).N = (dat0 (VA m) c).arrays ((dat0 (VA m) c).arrAt · cfg0.N) from
      (dat0 (VA m) c).toR_arraysAt_eq cfg0.N, ← Pipeline.unscopedBufs_held (Ix := Unit) (Name := ℕ) (U := UU) (Lvl := ℕ) c (V2 m (outs0 m) c)]
    iintro ⟨Ha, HO, -, Hrest⟩
    imodintro
    isplitl [Ha Hrest]
    · iapply hjoin; isplitl [Ha]; · iexact Ha
      iexact Hrest
    iapply (owes0_out m c); iexact HO

set_option backward.isDefEq.respectTransparency.types false in
/-- The search kernel's region, given its body. -/
def reg1 (hA : StepA (VB m) I1 Rl) (hB : StepB (VB m) I1 Rl) (hI0 : ∀ c f, I1 c 0 f) :
    Pipeline.RDat.RegionSeg (pcfgs (F := F)) adm (rdats m I1 Rl) () defs₀ 𝒱₀ L lv 1 where
  win := launch1.win.to₀
  block_pos := launch1.block_pos
  stage_whole := launch1.stage_whole
  K := PEmpty
  osem k := k.elim
  ho := Pipeline.OwnSemFacts.none _
  hbody c := (body1 (VB m) I1 Rl hA hB c).toRRel
  hwaits := Pipeline.RDat.hwaits_of_owed_zero _ _ _ _ L lv 1 fun _ _ => rfl
  pre c := iprop(StableHlo.held (c : Thread nD τ) (Pipeline.ucRefs τ sig) (V5 m (outs0 m) c) ∗ Re c)
  post c := iprop((∃ γ, StableHlo.held (c : Thread nD τ) (Pipeline.ucRefs τ sig) (VC m I1 Rl c γ)) ∗ Re c)
  X _ := BI.emp
  Y _ := BI.emp
  Z c := Pipeline.unscopedRest (Ix := Unit) (Name := ℕ) (U := UU) (Lvl := ℕ) spec1 c (fun b => V5 m (outs0 m) c b)
  hentry c := by
    rw [Pipeline.ownSems0_none, ← Pipeline.unscopedBufs_held (Ix := Unit) (Name := ℕ) (U := UU) (Lvl := ℕ) c (V5 m (outs0 m) c)]
    have hsplit := Pipeline.RDat.arrays_of_unscopedBufs (p := 1) (pcfgs (F := F)) adm (rdats m I1 Rl) launch1.win launch1.arr_whole c
      ((dat1 (VB m) I1 c).share_full fun _ => rfl) (fun b => V5 m (outs0 m) c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes1_in m I1 c); iexact HO
    isplitr; · iempintro
    iexact Hrest
  hin c := by
    rw [show (rdats m I1 Rl 1 c).Φ 0 = Φ1 I1 c 0 from rfl]
    iintro ⟨-, -, Hr⟩; iapply (scoped_in I1 hI0 c); iexact Hr
  hout c := by
    rw [Pipeline.ownSems0_none, show (rdats m I1 Rl 1 c).Φ (Fin.last _) = Φ1 I1 c (Fin.last _) from rfl]
    iintro Hr
    isplitr; · iempintro
    isplitr; · iempintro
    iapply (scoped_out I1 c (Fin.last _)); iexact Hr
  hexit c := by
    have hjoin := fun γ : Arrs1 m I1 Rl c => Pipeline.unscopedBufs_of_arrays (p := 1) (pcfgs (F := F)) adm (Ix := Unit) (Name := ℕ) (U := UU) (Lvl := ℕ) launch1.win launch1.arr_whole c
      (pdats m I1) ((dat1 (VB m) I1 c).share_full fun _ => rfl) (fun b => V5 m (outs0 m) c b) (fun b => VC m I1 Rl c γ b) γ.1
      (fun w => VC_arr m I1 Rl c γ w)
      (fun b hb => VC_of m I1 Rl c γ b fun h => hb (by
        simp only [List.mem_cons, List.not_mem_nil, or_false] at h
        rcases h with h | h | h | h | h
        · exact h ▸ Finset.mem_image.mpr ⟨6, Finset.mem_univ _, rfl⟩
        · exact h ▸ Finset.mem_image.mpr ⟨7, Finset.mem_univ _, rfl⟩
        · exact h ▸ Finset.mem_image.mpr ⟨8, Finset.mem_univ _, rfl⟩
        · exact h ▸ Finset.mem_image.mpr ⟨9, Finset.mem_univ _, rfl⟩
        · exact h ▸ Finset.mem_image.mpr ⟨10, Finset.mem_univ _, rfl⟩))
    have hforget : (rdat1 m I1 Rl c).arraysAt cfg1.N ⊢ (iprop(∃ A : (w : Fin cfg1.W) → Buf (Elt F) ((cfg1.win w).arr.view.loc (c : Thread nD τ)),
        ⌜∀ w, (rdat1 m I1 Rl c).ArrAt w cfg1.N (A w)⌝ ∗ (dat1 (VB m) I1 c).arrays A) : sProp 𝕄) := by
      unfold Pipeline.RDat.arraysAt Pipeline.Dat.arrays
      refine (BI.bigSep_exists_pi Finset.univ _).trans ?_
      iintro ⟨%A, H⟩
      ihave H' := (BI.bigSep_pure_sep Finset.univ (fun w => (rdat1 m I1 Rl c).ArrAt w cfg1.N (A w)) _) $$ H
      icases H' with ⟨%hA, H⟩
      iexists A
      isplitr
      · ipureintro; exact fun w => hA w (Finset.mem_univ w)
      iexact H
    rw [show (rdats m I1 Rl 1 c).arraysAt (Pipeline.pin (pcfgs (F := F)) adm 1).N = (rdat1 m I1 Rl c).arraysAt cfg1.N from rfl]
    iintro ⟨Ha, HO, -, Hrest⟩
    ihave Ha := hforget $$ Ha
    icases Ha with ⟨%A, %hA', Ha⟩
    imodintro
    isplitl [Ha Hrest]
    · iexists (⟨A, hA'⟩ : Arrs1 m I1 Rl c)
      rw [← Pipeline.unscopedBufs_held (Ix := Unit) (Name := ℕ) (U := UU) (Lvl := ℕ) c (VC m I1 Rl c ⟨A, hA'⟩)]
      iapply (hjoin ⟨A, hA'⟩); isplitl [Ha]; · iexact Ha
      iexact Hrest
    iapply (owes1_out m I1 c); iexact HO

/-! ## The run -/

/-- The last stretch of host operations. -/
def hseg : Pipeline.HostSeg (Ix := Unit) (Name := ℕ) (U := UU) (Lvl := ℕ) (pcfgs (F := F)) defs₀ 𝒱₀ L lv :=
  Pipeline.HostSeg.ofOpsEx _ _ _ _ _ (Γ := Arrs1 m I1 Rl) (Pipeline.ucRefs τ sig) hostOps2
    (fun op h => Pipeline.sub_ucRefs op ((List.forall_iff_forall_mem.mp hostOps2_sub) op h))
    (fun op h => (List.forall_iff_forall_mem.mp hostOps2_fresh) op h) (VC m I1 Rl) Re

/-- @main's segments. -/
abbrev psegs (hA : StepA (VB m) I1 Rl) (hB : StepB (VB m) I1 Rl) (hI0 : ∀ c f, I1 c 0 f) :
    List (Pipeline.RDat.Seg (pcfgs (F := F)) adm (rdats m I1 Rl) () defs₀ 𝒱₀ L lv) :=
  [.host (seg0 m 𝒱₀ L lv fun _ => Re), .region (reg0 m I1 Rl), .host (seg2 m (outs0 m) 𝒱₀ L lv fun _ => Re), .host (seg3 m (outs0 m) 𝒱₀ L lv fun _ => Re),
    .host (seg4 m (outs0 m) 𝒱₀ L lv fun _ => Re), .region (reg1 m I1 Rl hA hB hI0), .host (hseg m I1 Rl)]

set_option backward.isDefEq.respectTransparency.types false in
/-- THE RUN: from any memory with zero counters every execution ends, each core's buffers at `VD` for some contents the
    search kernel's write-backs may leave, and every counter at zero. -/
theorem run_main (hA : StepA (VB m) I1 Rl) (hB : StepB (VB m) I1 Rl) (hI0 : ∀ c f, I1 c 0 f) :
    θ_run defs (onTc (τ := τ) (main (F := F))) ⟨m, fun _ => 0, ρ⟩ (fun r => (∀ c : Dev nD, ∃ γ : Arrs1 m I1 Rl c,
      ∀ b ∈ Pipeline.ucRefs τ sig, r.2.mem ((c : Thread nD τ).1, b) = VD m I1 Rl c γ b) ∧ r.2.sem = fun _ => 0) := by
  refine Pipeline.RDat.θ_run_regions_kit_dev_sems (pcfgs (F := F)) adm (rdats m I1 Rl) () cellOf_inj emb₁ defs₀ 𝒱₀ L lv m ρ main
    (fun _ => psegs m I1 Rl hA hB hI0)
    (fun c Q => by
      rewrite [main_chain c, Pipeline.RDat.Seg.run_eq_chain,
        show (psegs m I1 Rl hA hB hI0).map Pipeline.RDat.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [Pipeline.RDat.Seg.pipes_host, Pipeline.RDat.Seg.pipes_region, Pipeline.RDat.Seg.pipes_nil]; decide) 0 (fun _ _ => rfl)
    (fun _ => iprop(emp)) (initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Re c))
    (Tₙ := fun c => iprop(∃ γ : Arrs1 m I1 Rl c, StableHlo.held (c : Thread nD τ) (Pipeline.ucRefs τ sig) (VD m I1 Rl c γ)))
    (hch := fun c => ?hch)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∃ γ : Arrs1 m I1 Rl c, ∀ b ∈ Pipeline.ucRefs τ sig, s.mem ((c : Thread nD τ).1, b) = VD m I1 Rl c γ b)
    (hfin := fun c s' => ?_) (hQ := fun _ h hz => ⟨h, funext fun g => hz g (.inr (regions_no_unscoped g.2))⟩)
  case hch => exact ⟨.rfl, .rfl, .rfl, .rfl, .rfl, .rfl, .rfl, .rfl⟩
  unfold StableHlo.held
  iintro ⟨⟨%γ, Hh⟩, HSI⟩
  ihave Hr := (pointsTo_read_all (Pipeline.ucRefs τ sig) (fun b => ((c : Thread nD τ).1, b)) (VD m I1 Rl c γ) s') $$ [Hh HSI]
  · isplitl [Hh] <;> iassumption
  icases Hr with ⟨%h, HSI⟩
  imodintro
  isplitr
  · ipureintro; exact ⟨γ, h⟩
  · iexact HSI

theorem mem_uc (b : Ref sig .tc) (h : ¬ (Proc.devRef (τ := τ) .tc b).isScoped) : Proc.devRef (τ := τ) .tc b ∈ Pipeline.ucRefs τ sig :=
  Finset.mem_filter.mpr ⟨StableHlo.devRef_mem_tcRefs b, h⟩

/-- The frame: every execution ends with the arguments as they were and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run _ _ _).mono ?_ (run_main m ρ (fun _ _ _ => True) (fun _ _ _ _ => True) ?_ ?_ fun _ _ => trivial)
  · rintro r ⟨h, hs⟩
    refine ⟨fun c => ?_, hs⟩
    obtain ⟨γ, hγ⟩ := h c
    exact ⟨(hγ _ (mem_uc main_arg0 (by decide))).trans (VD_arg m _ _ c γ main_arg0 (by decide) (by decide) (by decide) (by decide) (by decide) (by decide) (by decide)),
      (hγ _ (mem_uc main_arg1 (by decide))).trans (VD_arg m _ _ c γ main_arg1 (by decide) (by decide) (by decide) (by decide) (by decide) (by decide) (by decide)),
      (hγ _ (mem_uc main_arg2 (by decide))).trans (VD_arg m _ _ c γ main_arg2 (by decide) (by decide) (by decide) (by decide) (by decide) (by decide) (by decide))⟩
  · intro c t hc; intros; exact ⟨trivial, trivial, trivial, trivial, trivial, trivial⟩
  · intro c t hc; intros; exact ⟨trivial, trivial, trivial, trivial, trivial, trivial⟩

end Cert.Kernel.Pf

end
-- ==== Proof.KI.Body0.lean ====
/-
  One grid point of the gram kernel: what the body leaves in the accumulator block, with the proof
  that the body runs to its end from both staging buffers held whole.
-/
module

public import proofs.«01_k».proof.Proof.Gen.KernelIdeal.Skeleton
public import proofs.«01_k».proof.Proof.Gen.KernelIdeal.Launch
public import Idealize.ShloMosaic.Lib.Exec
public import Idealize.ShloMosaic.Lib.Tactic

@[expose] public section

set_option maxRecDepth 16384

noncomputable section

namespace Cert.KernelIdeal.Pf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds

variable {F : FTy → Type} [FloatOps F]

/-- The certificate's resource algebra: one copy of the pipeline library's. -/
abbrev UU : Type := UR sig nD τ

local notation "𝕄" => MT nD τ sig Unit (Elt F) ℕ UU ℕ

/-- A memref's buffer on core `c`. -/
abbrev Bf (F : FTy → Type) (c : Dev nD) {sp : Space} {S : Shape} {e : EltTy} (M : Memref sig .tc sp S e) : Type :=
  Buf (Elt F) (M.view.loc (c : Thread nD τ))

/-- The elements a memref views, on core `c`, held at `f`. -/
abbrev pts (c : Dev nD) {sp : Space} {S : Shape} {e : EltTy} (M : Memref sig .tc sp S e) (f : Bf F c M) : sProp 𝕄 :=
  M.view.loc (c : Thread nD τ) ↦[M.view.set]{fullShare} f

/-- The first-point test of the gram kernel. -/
abbrev cond0 (i : grid0.Coords) : Prop :=
  Scalar.cmpi .ne (Scalar.extui (Scalar.cmpi .eq (BitVec.ofNat 32 (i 0).val) 0#32)) (0#32 : BitVec 32) = 1#1

set_option maxHeartbeats 4000000 in
/-- The first point: the accumulator is zeroed, then every group's product is added. -/
def gramRunA (c : Dev nD) (i : grid0.Coords) (M0 : Memref sig .tc .vmem S2304x2048 .bf16) (h0 : M0.IsWhole)
    (M1 : Memref sig .tc .vmem S16x128x128 .f32) (h1 : M1.IsWhole) (hc : cond0 i) (f0 : Bf F c M0) :
    { W : Bf F c M1 // ∀ (f1 : Bf F c M1) (E : Set ℕ) (Q : PUnit → sProp 𝕄),
        iprop(pts c M0 f0 ∗ pts c M1 f1 ∗ (iprop(pts c M0 f0 ∗ pts c M1 W) -∗ Q ⟨⟩))
          ⊢ wp frame (wpE (defs₀ (F := F)) Variants.none c none) E (cc0_gram i M0 h0 M1 h1) Q } := by
  refine ⟨?_, fun f1 E Q => ?run⟩
  case' run =>
    unfold cond0 at hc
    iintro ⟨H0, H1, Hk⟩
    sl_exec!
    sl_step
    iapply Hk
    isplitl [H0]; · iexact H0
    iexact H1

set_option maxHeartbeats 4000000 in
/-- A later point: every group's product is added to what the block held. -/
def gramRunB (c : Dev nD) (i : grid0.Coords) (M0 : Memref sig .tc .vmem S2304x2048 .bf16) (h0 : M0.IsWhole)
    (M1 : Memref sig .tc .vmem S16x128x128 .f32) (h1 : M1.IsWhole) (hc : ¬ cond0 i) (f0 : Bf F c M0) (f1 : Bf F c M1) :
    { W : Bf F c M1 // ∀ (E : Set ℕ) (Q : PUnit → sProp 𝕄),
        iprop(pts c M0 f0 ∗ pts c M1 f1 ∗ (iprop(pts c M0 f0 ∗ pts c M1 W) -∗ Q ⟨⟩))
          ⊢ wp frame (wpE (defs₀ (F := F)) Variants.none c none) E (cc0_gram i M0 h0 M1 h1) Q } := by
  refine ⟨?_, fun E Q => ?run⟩
  case' run =>
    unfold cond0 at hc
    iintro ⟨H0, H1, Hk⟩
    sl_exec!
    sl_step
    iapply Hk
    isplitl [H0]; · iexact H0
    iexact H1

end Cert.KernelIdeal.Pf

end
-- ==== Proof.KI.Body1.lean ====
/-
  One grid point of the search kernel: what the body leaves in its output blocks and scratch buffers
  given what they held, with the proof that the body runs to its end from every buffer held whole.
-/
module

public import proofs.«01_k».proof.Proof.KI.Body0
public import proofs.«01_k».proof.Proof.Gen.KernelIdeal.Loops

@[expose] public section

set_option maxRecDepth 16384

noncomputable section

namespace Cert.KernelIdeal.Pf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem

variable {F : FTy → Type} [FloatOps F]

local notation "𝕄" => MT nD τ sig Unit (Elt F) ℕ UU ℕ

set_option maxHeartbeats 40000000 in
/-- A point past the first row block: the scaled Gram matrices are read from the scratch buffer. -/
def searchRunB (c : Dev nD) (i : grid1.Coords) (M3 : Memref sig .tc .smem S20 .f32) (h3 : M3.IsWhole) (M4 : Memref sig .tc .vmem S24x128 .f32) (h4 : M4.IsWhole) (M5 : Memref sig .tc .vmem S1024x128 .bf16) (h5 : M5.IsWhole) (M6 : Memref sig .tc .vmem S8x1024 .i32) (h6 : M6.IsWhole) (M7 : Memref sig .tc .vmem S1x128x128 .f32) (h7 : M7.IsWhole) (M8 : Memref sig .tc .vmem S1024x256 .bf16) (h8 : M8.IsWhole) (M9 : Memref sig .tc .vmem S20x8x1024 .f32) (h9 : M9.IsWhole) (M10 : Memref sig .tc .vmem S1x20x64x1024 .i8) (h10 : M10.IsWhole) (M11 : Memref sig .tc .vmem S20x8x1024 .f32) (h11 : M11.IsWhole) (M12 : Memref sig .tc .vmem S128x128 .i32) (h12 : M12.IsWhole) (M13 : Memref sig .tc .vmem S8x1024 .f32) (h13 : M13.IsWhole) (M14 : Memref sig .tc .vmem S8x20x128x384 .bf16) (h14 : M14.IsWhole) (M15 : Memref sig .tc .vmem S128x1024 .f32) (h15 : M15.IsWhole) (M16 : Memref sig .tc .vmem S128x1024 .f32) (h16 : M16.IsWhole) (M17 : Memref sig .tc .vmem S24x1024 .f32) (h17 : M17.IsWhole) (M18 : Memref sig .tc .vmem S24x1024 .f32) (h18 : M18.IsWhole) (M19 : Memref sig .tc .vmem S24x1024 .f32) (h19 : M19.IsWhole) (hc : ¬ k1_cond1 i = 1#1) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) (f16 : Bf F c M16) (f17 : Bf F c M17) (f18 : Bf F c M18) (f19 : Bf F c M19) :
    { W : Bf F c M9 × Bf F c M10 × Bf F c M11 × Bf F c M12 × Bf F c M13 × Bf F c M14 × Bf F c M15 × Bf F c M16 × Bf F c M17 × Bf F c M18 × Bf F c M19 // ∀ (E : Set ℕ) (Q : PUnit → sProp 𝕄),
        iprop(pts c M3 f3 ∗ pts c M4 f4 ∗ pts c M5 f5 ∗ pts c M6 f6 ∗ pts c M7 f7 ∗ pts c M8 f8 ∗ pts c M9 f9 ∗ pts c M10 f10 ∗ pts c M11 f11 ∗ pts c M12 f12 ∗ pts c M13 f13 ∗ pts c M14 f14 ∗ pts c M15 f15 ∗ pts c M16 f16 ∗ pts c M17 f17 ∗ pts c M18 f18 ∗ pts c M19 f19 ∗ (iprop(pts c M3 f3 ∗ pts c M4 f4 ∗ pts c M5 f5 ∗ pts c M6 f6 ∗ pts c M7 f7 ∗ pts c M8 f8 ∗ pts c M9 W.1 ∗ pts c M10 W.2.1 ∗ pts c M11 W.2.2.1 ∗ pts c M12 W.2.2.2.1 ∗ pts c M13 W.2.2.2.2.1 ∗ pts c M14 W.2.2.2.2.2.1 ∗ pts c M15 W.2.2.2.2.2.2.1 ∗ pts c M16 W.2.2.2.2.2.2.2.1 ∗ pts c M17 W.2.2.2.2.2.2.2.2.1 ∗ pts c M18 W.2.2.2.2.2.2.2.2.2.1 ∗ pts c M19 W.2.2.2.2.2.2.2.2.2.2) -∗ Q ⟨⟩))
          ⊢ wp frame (wpE (defs₀ (F := F)) Variants.none c none) E (cc1_search i M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_, ?_, ?_, ?_, ?_, ?_, ?_, ?_⟩, fun E Q => ?run⟩
  case' run =>
    iintro ⟨H3, H4, H5, H6, H7, H8, H9, H10, H11, H12, H13, H14, H15, H16, H17, H18, H19, Hk⟩
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

set_option maxHeartbeats 40000000 in
/-- A point of the first row block: the scaled Gram matrices of its group are written first. -/
def searchRunA (c : Dev nD) (i : grid1.Coords) (M3 : Memref sig .tc .smem S20 .f32) (h3 : M3.IsWhole) (M4 : Memref sig .tc .vmem S24x128 .f32) (h4 : M4.IsWhole) (M5 : Memref sig .tc .vmem S1024x128 .bf16) (h5 : M5.IsWhole) (M6 : Memref sig .tc .vmem S8x1024 .i32) (h6 : M6.IsWhole) (M7 : Memref sig .tc .vmem S1x128x128 .f32) (h7 : M7.IsWhole) (M8 : Memref sig .tc .vmem S1024x256 .bf16) (h8 : M8.IsWhole) (M9 : Memref sig .tc .vmem S20x8x1024 .f32) (h9 : M9.IsWhole) (M10 : Memref sig .tc .vmem S1x20x64x1024 .i8) (h10 : M10.IsWhole) (M11 : Memref sig .tc .vmem S20x8x1024 .f32) (h11 : M11.IsWhole) (M12 : Memref sig .tc .vmem S128x128 .i32) (h12 : M12.IsWhole) (M13 : Memref sig .tc .vmem S8x1024 .f32) (h13 : M13.IsWhole) (M14 : Memref sig .tc .vmem S8x20x128x384 .bf16) (h14 : M14.IsWhole) (M15 : Memref sig .tc .vmem S128x1024 .f32) (h15 : M15.IsWhole) (M16 : Memref sig .tc .vmem S128x1024 .f32) (h16 : M16.IsWhole) (M17 : Memref sig .tc .vmem S24x1024 .f32) (h17 : M17.IsWhole) (M18 : Memref sig .tc .vmem S24x1024 .f32) (h18 : M18.IsWhole) (M19 : Memref sig .tc .vmem S24x1024 .f32) (h19 : M19.IsWhole) (hc : k1_cond1 i = 1#1) (f3 : Bf F c M3) (f4 : Bf F c M4) (f5 : Bf F c M5) (f6 : Bf F c M6) (f7 : Bf F c M7) (f8 : Bf F c M8) (f9 : Bf F c M9) (f10 : Bf F c M10) (f11 : Bf F c M11) (f12 : Bf F c M12) (f13 : Bf F c M13) (f14 : Bf F c M14) (f15 : Bf F c M15) (f16 : Bf F c M16) (f17 : Bf F c M17) (f18 : Bf F c M18) (f19 : Bf F c M19) :
    { W : Bf F c M9 × Bf F c M10 × Bf F c M11 × Bf F c M12 × Bf F c M13 × Bf F c M14 × Bf F c M15 × Bf F c M16 × Bf F c M17 × Bf F c M18 × Bf F c M19 // ∀ (E : Set ℕ) (Q : PUnit → sProp 𝕄),
        iprop(pts c M3 f3 ∗ pts c M4 f4 ∗ pts c M5 f5 ∗ pts c M6 f6 ∗ pts c M7 f7 ∗ pts c M8 f8 ∗ pts c M9 f9 ∗ pts c M10 f10 ∗ pts c M11 f11 ∗ pts c M12 f12 ∗ pts c M13 f13 ∗ pts c M14 f14 ∗ pts c M15 f15 ∗ pts c M16 f16 ∗ pts c M17 f17 ∗ pts c M18 f18 ∗ pts c M19 f19 ∗ (iprop(pts c M3 f3 ∗ pts c M4 f4 ∗ pts c M5 f5 ∗ pts c M6 f6 ∗ pts c M7 f7 ∗ pts c M8 f8 ∗ pts c M9 W.1 ∗ pts c M10 W.2.1 ∗ pts c M11 W.2.2.1 ∗ pts c M12 W.2.2.2.1 ∗ pts c M13 W.2.2.2.2.1 ∗ pts c M14 W.2.2.2.2.2.1 ∗ pts c M15 W.2.2.2.2.2.2.1 ∗ pts c M16 W.2.2.2.2.2.2.2.1 ∗ pts c M17 W.2.2.2.2.2.2.2.2.1 ∗ pts c M18 W.2.2.2.2.2.2.2.2.2.1 ∗ pts c M19 W.2.2.2.2.2.2.2.2.2.2) -∗ Q ⟨⟩))
          ⊢ wp frame (wpE (defs₀ (F := F)) Variants.none c none) E (cc1_search i M3 h3 M4 h4 M5 h5 M6 h6 M7 h7 M8 h8 M9 h9 M10 h10 M11 h11 M12 h12 M13 h13 M14 h14 M15 h15 M16 h16 M17 h17 M18 h18 M19 h19) Q } := by
  refine ⟨⟨?_, ?_, ?_, ?_, ?_, ?_, ?_, ?_, ?_, ?_, ?_⟩, fun E Q => ?run⟩
  case' run =>
    iintro ⟨H3, H4, H5, H6, H7, H8, H9, H10, H11, H12, H13, H14, H15, H16, H17, H18, H19, Hk⟩
    sl_exec!
    sl_step
    iapply Hk
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    iexact H19

end Cert.KernelIdeal.Pf

end
-- ==== Proof.KI.Dats.lean ====
/-
  What the two kernels' windows hold at each grid point, at the contents the arrays have when a kernel is entered:
  the gram kernel exactly, the search kernel's results up to a predicate (a point writes one row of eight of some of
  its blocks and leaves the other rows as they were, which at a block's first points is anything).
-/
module

public import proofs.«01_k».proof.Proof.KI.Body1
public import proofs.«01_k».proof.Proof.Gen.KernelIdeal.Points
public import proofs.«01_k».proof.Proof.Gen.KernelIdeal.Regions
public import Idealize.ShloMosaic.Lib.Pipeline.Regions
public import Idealize.ShloMosaic.Lib.Pipeline.DatRel
public import Idealize.ShloMosaic.Lib.Pipeline.ArrRel
public import Idealize.ShloMosaic.Lib.Pipeline.FrameBody

@[expose] public section

set_option maxRecDepth 16384

noncomputable section

namespace Cert.KernelIdeal.Pf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

variable {F : FTy → Type} [FloatOps F]

local notation "𝕄" => MT nD τ sig Unit (Elt F) ℕ UU ℕ

/-- The contents of every buffer on every core. -/
abbrev Vals (F : FTy → Type) [FloatOps F] := (c : Dev nD) → (b : Ref sig .tc) → Buf (Elt F) ((c : Thread nD τ).loc b)

variable (V : Vals F)

/-! ## The gram kernel -/

/-- The block of the activations staged at point `t`. -/
abbrev xblk (c : Dev nD) (t : Fin cfg0.N) : (cfg0.win 0).block.Idx → Elt F (cfg0.win 0).elt :=
  ((cfg0.win 0).blk t).view.read (Elt F) (V c main_v1)

theorem cond0_0 : cond0 (grid0.coords t0_0) := by decide
theorem cond0_1 : ¬ cond0 (grid0.coords t0_1) := by decide
theorem cond0_2 : ¬ cond0 (grid0.coords t0_2) := by decide
theorem cond0_3 : ¬ cond0 (grid0.coords t0_3) := by decide

/-- The accumulator block after each of the four points. -/
abbrev acc0 (c : Dev nD) := gramRunA (F := F) c (grid0.coords t0_0) (stage0_0 0) (hstage0_0 0) (stage0_1 0) (hstage0_1 0) cond0_0 (xblk V c t0_0)
abbrev acc1 (c : Dev nD) := gramRunB (F := F) c (grid0.coords t0_1) (stage0_0 1) (hstage0_0 1) (stage0_1 0) (hstage0_1 0) cond0_1 (xblk V c t0_1) (acc0 V c).1
abbrev acc2 (c : Dev nD) := gramRunB (F := F) c (grid0.coords t0_2) (stage0_0 0) (hstage0_0 0) (stage0_1 0) (hstage0_1 0) cond0_2 (xblk V c t0_2) (acc1 V c).1
abbrev acc3 (c : Dev nD) := gramRunB (F := F) c (grid0.coords t0_3) (stage0_0 1) (hstage0_0 1) (stage0_1 0) (hstage0_1 0) cond0_3 (xblk V c t0_3) (acc2 V c).1

/-- The accumulator block after point `n`. -/
def accAt (c : Dev nD) : ℕ → (cfg0.win 1).block.Idx → Elt F (cfg0.win 1).elt
  | 0 => (acc0 V c).1
  | 1 => (acc1 V c).1
  | 2 => (acc2 V c).1
  | _ => (acc3 V c).1

/-- The scoped buffers the gram kernel does not stage, held at anything. -/
abbrev Φ0 (c : Dev nD) : sProp 𝕄 := Pipeline.scopedRest (Ix := Unit) (Name := ℕ) (U := UU) (Lvl := ℕ) (Val := Elt F) spec0 c

/-- The gram kernel's proof data. -/
def dat0 (c : Dev nD) : Dat τ (Elt F) Unit ℕ UU ℕ cfg0 c where
  A w := V c (Pipeline.arrRef spec0 w)
  after w t := match w with
    | ⟨0, _⟩ => xblk V c t
    | ⟨1, _⟩ => accAt V c t.val
  Φ _ := Φ0 c
  q _ := fullShare
  owed _ := 0

abbrev 𝒱₀ : Variants := Variants.none

theorem before0_0 (c : Dev nD) (t : Fin cfg0.N) (d : (cfg0.win 0).block.Idx → Elt F (cfg0.win 0).elt) : (dat0 V c).before 0 t d = xblk V c t := by
  unfold Dat.before; rw [if_pos (fetch0_0 t)]; rfl

theorem before0_1 (c : Dev nD) (t : Fin cfg0.N) (ht : t.val ≠ 0) (hl : t.val < 4) (d : (cfg0.win 1).block.Idx → Elt F (cfg0.win 1).elt) :
    (dat0 V c).before 1 t d = accAt V c (t.val - 1) :=
  (dat0 V c).before_out_kept 1 rfl t ht (Bool.eq_false_iff.mpr fun h => by have := (flush0_1 _).mp h; simp only at this; omega) (fun _ => rfl) (fun _ _ => rfl) d

set_option maxHeartbeats 4000000 in
theorem body0 (c : Dev nD) : BodyObligation (dat0 V c) (defs₀ (F := F)) 𝒱₀ () Set.univ := fun t => by
  rw [bigSep_W0, bigSep_W0]
  rw [show (dat0 V c).Φ t.castSucc = Φ0 c from rfl, show (dat0 V c).Φ t.succ = Φ0 c from rfl,
    show (dat0 V c).owesAt () t.succ = (dat0 V c).owesAt () t.castSucc from rfl]
  unfold owns
  rcases fin_N0 t with rfl | rfl | rfl | rfl
  · iintro ⟨HΦ, Howes, ⟨%d0, %f0, %hf0, H0⟩, ⟨%d1, %f1, -, H1⟩⟩
    obtain rfl : f0 = xblk V c t0_0 := hf0.trans (before0_0 V c t0_0 d0)
    iapply ((acc0 V c).2 f1 Set.univ _)
    isplitl [H0]; · iexact H0
    isplitl [H1]; · iexact H1
    iintro ⟨H0, H1⟩
    isplitl [HΦ]; · iexact HΦ
    isplitl [Howes]; · iexact Howes
    isplitl [H0]; · iexists _; isplitr; swap; (· iexact H0); ipureintro; rfl
    iexists _; isplitr; swap; (· iexact H1); ipureintro; rfl
  · iintro ⟨HΦ, Howes, ⟨%d0, %f0, %hf0, H0⟩, ⟨%d1, %f1, %hf1, H1⟩⟩
    obtain rfl : f0 = xblk V c t0_1 := hf0.trans (before0_0 V c t0_1 d0)
    obtain rfl : f1 = (acc0 V c).1 := hf1.trans (before0_1 V c t0_1 (by decide) (by decide) d1)
    iapply ((acc1 V c).2 Set.univ _)
    isplitl [H0]; · iexact H0
    isplitl [H1]; · iexact H1
    iintro ⟨H0, H1⟩
    isplitl [HΦ]; · iexact HΦ
    isplitl [Howes]; · iexact Howes
    isplitl [H0]; · iexists _; isplitr; swap; (· iexact H0); ipureintro; rfl
    iexists _; isplitr; swap; (· iexact H1); ipureintro; rfl
  · iintro ⟨HΦ, Howes, ⟨%d0, %f0, %hf0, H0⟩, ⟨%d1, %f1, %hf1, H1⟩⟩
    obtain rfl : f0 = xblk V c t0_2 := hf0.trans (before0_0 V c t0_2 d0)
    obtain rfl : f1 = (acc1 V c).1 := hf1.trans (before0_1 V c t0_2 (by decide) (by decide) d1)
    iapply ((acc2 V c).2 Set.univ _)
    isplitl [H0]; · iexact H0
    isplitl [H1]; · iexact H1
    iintro ⟨H0, H1⟩
    isplitl [HΦ]; · iexact HΦ
    isplitl [Howes]; · iexact Howes
    isplitl [H0]; · iexists _; isplitr; swap; (· iexact H0); ipureintro; rfl
    iexists _; isplitr; swap; (· iexact H1); ipureintro; rfl
  · iintro ⟨HΦ, Howes, ⟨%d0, %f0, %hf0, H0⟩, ⟨%d1, %f1, %hf1, H1⟩⟩
    obtain rfl : f0 = xblk V c t0_3 := hf0.trans (before0_0 V c t0_3 d0)
    obtain rfl : f1 = (acc2 V c).1 := hf1.trans (before0_1 V c t0_3 (by decide) (by decide) d1)
    iapply ((acc3 V c).2 Set.univ _)
    isplitl [H0]; · iexact H0
    isplitl [H1]; · iexact H1
    iintro ⟨H0, H1⟩
    isplitl [HΦ]; · iexact HΦ
    isplitl [Howes]; · iexact Howes
    isplitl [H0]; · iexists _; isplitr; swap; (· iexact H0); ipureintro; rfl
    iexists _; isplitr; swap; (· iexact H1); ipureintro; rfl

end Cert.KernelIdeal.Pf

end
-- ==== Proof.KI.Dats1.lean ====
/-
  The search kernel's proof data, and its body at one grid point: the results' blocks held to a predicate `Rl`, the
  scratch buffer of scaled Gram matrices to a predicate `I1`.
-/
module

public import proofs.«01_k».proof.Proof.KI.Dats

@[expose] public section

set_option maxRecDepth 16384

noncomputable section

namespace Cert.KernelIdeal.Pf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Pipeline (Dat RDat Cfg Window BodyObligation BodyObligationRel)

variable {F : FTy → Type} [FloatOps F]

local notation "𝕄" => MT nD τ sig Unit (Elt F) ℕ UU ℕ

variable (V : Vals F)

/-- The block of input window `w` staged at point `t`. -/
abbrev iblk1 (c : Dev nD) (w : Fin cfg1.W) (t : Fin cfg1.N) :=
  ((cfg1.win w).blk t).view.read (Elt F) (V c (Pipeline.arrRef spec1 w))

variable (I1 : (c : Dev nD) → Fin (cfg1.N + 1) → Bf F c (Memref.whole cc1_scratch0) → Prop)

/-- The scoped buffers the search kernel does not stage: the scaled Gram matrices held to `I1`, the others at anything. -/
abbrev Φ1 (c : Dev nD) (t : Fin (cfg1.N + 1)) : sProp 𝕄 :=
  iprop((∃ f : Buf (Elt F) ((c : Thread nD τ).loc cc0_stg0_0), ((c : Thread nD τ).loc cc0_stg0_0) ↦{fullShare} f) ∗ (∃ f : Buf (Elt F) ((c : Thread nD τ).loc cc0_stg0_1), ((c : Thread nD τ).loc cc0_stg0_1) ↦{fullShare} f) ∗ (∃ f : Buf (Elt F) ((c : Thread nD τ).loc cc0_stg1_0), ((c : Thread nD τ).loc cc0_stg1_0) ↦{fullShare} f)
    ∗ (∃ f : Bf F c (Memref.whole cc1_scratch0), ⌜I1 c t f⌝ ∗ pts c (Memref.whole cc1_scratch0) f)
    ∗ (∃ f, pts c (Memref.whole cc1_scratch1) f)    ∗ (∃ f, pts c (Memref.whole cc1_scratch2) f)    ∗ (∃ f, pts c (Memref.whole cc1_scratch3) f)    ∗ (∃ f, pts c (Memref.whole cc1_scratch4) f)    ∗ (∃ f, pts c (Memref.whole cc1_scratch5) f))

/-- The search kernel's proof data; of a result's window only the array matters. -/
def dat1 (c : Dev nD) : Dat τ (Elt F) Unit ℕ UU ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => iblk1 V c 3 t
    | ⟨4, _⟩ => iblk1 V c 4 t
    | ⟨5, _⟩ => iblk1 V c 5 t
    | ⟨6, _⟩ => fun _ => Classical.arbitrary _
    | ⟨7, _⟩ => fun _ => Classical.arbitrary _
    | ⟨8, _⟩ => fun _ => Classical.arbitrary _
    | ⟨9, _⟩ => fun _ => Classical.arbitrary _
    | ⟨10, _⟩ => fun _ => Classical.arbitrary _
  Φ t := Φ1 I1 c t
  q _ := fullShare
  owed _ := 0

/-- The results' windows. -/
def fg1 : Fin cfg1.W → Bool := fun w => decide (6 ≤ w.val)

theorem fg1_0 : fg1 0 = false := rfl
theorem fg1_1 : fg1 1 = false := rfl
theorem fg1_2 : fg1 2 = false := rfl
theorem fg1_3 : fg1 3 = false := rfl
theorem fg1_4 : fg1 4 = false := rfl
theorem fg1_5 : fg1 5 = false := rfl
theorem fg1_6 : fg1 6 = true := rfl
theorem fg1_7 : fg1 7 = true := rfl
theorem fg1_8 : fg1 8 = true := rfl
theorem fg1_9 : fg1 9 = true := rfl
theorem fg1_10 : fg1 10 = true := rfl

theorem before1_0 (c : Dev nD) (t : Fin cfg1.N) (d : (cfg1.win 0).block.Idx → Elt F (cfg1.win 0).elt) : (dat1 V I1 c).before 0 t d = iblk1 V c 0 t :=
  ((dat1 V I1 c).before_in_eq_fetched 0 rfl (fun _ => rfl) (fun _ _ _ => rfl) (fun _ => rfl) t d).trans rfl
theorem before1_1 (c : Dev nD) (t : Fin cfg1.N) (d : (cfg1.win 1).block.Idx → Elt F (cfg1.win 1).elt) : (dat1 V I1 c).before 1 t d = iblk1 V c 1 t :=
  ((dat1 V I1 c).before_in_eq_fetched 1 rfl (fun _ => rfl) (fun _ _ _ => rfl) (fun _ => rfl) t d).trans rfl
theorem before1_2 (c : Dev nD) (t : Fin cfg1.N) (d : (cfg1.win 2).block.Idx → Elt F (cfg1.win 2).elt) : (dat1 V I1 c).before 2 t d = iblk1 V c 2 t :=
  ((dat1 V I1 c).before_in_eq_fetched 2 rfl (fun _ => rfl) (fun _ _ _ => rfl) (fun _ => rfl) t d).trans rfl
theorem before1_3 (c : Dev nD) (t : Fin cfg1.N) (d : (cfg1.win 3).block.Idx → Elt F (cfg1.win 3).elt) : (dat1 V I1 c).before 3 t d = iblk1 V c 3 t :=
  ((dat1 V I1 c).before_in_eq_fetched 3 rfl (fun _ => rfl) (fun _ _ _ => rfl) (fun _ => rfl) t d).trans rfl
theorem before1_4 (c : Dev nD) (t : Fin cfg1.N) (d : (cfg1.win 4).block.Idx → Elt F (cfg1.win 4).elt) : (dat1 V I1 c).before 4 t d = iblk1 V c 4 t :=
  ((dat1 V I1 c).before_in_eq_fetched 4 rfl (fun _ => rfl) (fun _ _ _ => rfl) (fun _ => rfl) t d).trans rfl
theorem before1_5 (c : Dev nD) (t : Fin cfg1.N) (d : (cfg1.win 5).block.Idx → Elt F (cfg1.win 5).elt) : (dat1 V I1 c).before 5 t d = iblk1 V c 5 t :=
  ((dat1 V I1 c).before_in_eq_fetched 5 rfl (fun _ => rfl) (fun _ _ _ => rfl) (fun _ => rfl) t d).trans rfl

variable (Rl : (c : Dev nD) → (w : Fin cfg1.W) → Fin cfg1.N → ((cfg1.win w).block.Idx → Elt F (cfg1.win w).elt) → Prop)

/-- The body's run at point `t`, by whether it is a point of the first row block. -/
abbrev runA (c : Dev nD) (t : Fin cfg1.N) (hc : k1_cond1 (grid1.coords t) = 1#1) :=
  searchRunA (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) hc
abbrev runB (c : Dev nD) (t : Fin cfg1.N) (hc : ¬ k1_cond1 (grid1.coords t) = 1#1) :=
  searchRunB (F := F) c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) hc

/-- What the body leaves at point `t` meets the predicates. -/
def StepOK (c : Dev nD) (t : Fin cfg1.N) (W : Bf F c (win1_6.stage (cfg1.slots t 6)) × Bf F c (win1_7.stage (cfg1.slots t 7)) × Bf F c (win1_8.stage (cfg1.slots t 8)) × Bf F c (win1_9.stage (cfg1.slots t 9)) × Bf F c (win1_10.stage (cfg1.slots t 10)) × Bf F c (Memref.whole cc1_scratch0) × Bf F c (Memref.whole cc1_scratch1) × Bf F c (Memref.whole cc1_scratch2) × Bf F c (Memref.whole cc1_scratch3) × Bf F c (Memref.whole cc1_scratch4) × Bf F c (Memref.whole cc1_scratch5)) : Prop :=
  I1 c t.succ W.2.2.2.2.2.1 ∧ Rl c 6 t ((win1_6.stage (cfg1.slots t 6)).view.read (Elt F) W.1) ∧ Rl c 7 t ((win1_7.stage (cfg1.slots t 7)).view.read (Elt F) W.2.1) ∧ Rl c 8 t ((win1_8.stage (cfg1.slots t 8)).view.read (Elt F) W.2.2.1) ∧ Rl c 9 t ((win1_9.stage (cfg1.slots t 9)).view.read (Elt F) W.2.2.2.1) ∧ Rl c 10 t ((win1_10.stage (cfg1.slots t 10)).view.read (Elt F) W.2.2.2.2.1)

/-- The body keeps the predicates, at points of the first row block (`A`) and past it (`B`). -/
def StepA : Prop := ∀ (c : Dev nD) (t : Fin cfg1.N) (hc : k1_cond1 (grid1.coords t) = 1#1) (f3 : Bf F c (win1_0.stage (cfg1.slots t 0))) (f4 : Bf F c (win1_1.stage (cfg1.slots t 1))) (f5 : Bf F c (win1_2.stage (cfg1.slots t 2))) (f6 : Bf F c (win1_3.stage (cfg1.slots t 3))) (f7 : Bf F c (win1_4.stage (cfg1.slots t 4))) (f8 : Bf F c (win1_5.stage (cfg1.slots t 5))) (f9 : Bf F c (win1_6.stage (cfg1.slots t 6))) (f10 : Bf F c (win1_7.stage (cfg1.slots t 7))) (f11 : Bf F c (win1_8.stage (cfg1.slots t 8))) (f12 : Bf F c (win1_9.stage (cfg1.slots t 9))) (f13 : Bf F c (win1_10.stage (cfg1.slots t 10))) (f14 : Bf F c (Memref.whole cc1_scratch0)) (f15 : Bf F c (Memref.whole cc1_scratch1)) (f16 : Bf F c (Memref.whole cc1_scratch2)) (f17 : Bf F c (Memref.whole cc1_scratch3)) (f18 : Bf F c (Memref.whole cc1_scratch4)) (f19 : Bf F c (Memref.whole cc1_scratch5)),
    (win1_0.stage (cfg1.slots t 0)).view.read (Elt F) f3 = iblk1 V c 0 t →
    (win1_1.stage (cfg1.slots t 1)).view.read (Elt F) f4 = iblk1 V c 1 t →
    (win1_2.stage (cfg1.slots t 2)).view.read (Elt F) f5 = iblk1 V c 2 t →
    (win1_3.stage (cfg1.slots t 3)).view.read (Elt F) f6 = iblk1 V c 3 t →
    (win1_4.stage (cfg1.slots t 4)).view.read (Elt F) f7 = iblk1 V c 4 t →
    (win1_5.stage (cfg1.slots t 5)).view.read (Elt F) f8 = iblk1 V c 5 t →
    I1 c t.castSucc f14 →
    ((dat1 V I1 c).toRRel fg1 (Rl c)).Finds 6 t ((win1_6.stage (cfg1.slots t 6)).view.read (Elt F) f9) →
    ((dat1 V I1 c).toRRel fg1 (Rl c)).Finds 7 t ((win1_7.stage (cfg1.slots t 7)).view.read (Elt F) f10) →
    ((dat1 V I1 c).toRRel fg1 (Rl c)).Finds 8 t ((win1_8.stage (cfg1.slots t 8)).view.read (Elt F) f11) →
    ((dat1 V I1 c).toRRel fg1 (Rl c)).Finds 9 t ((win1_9.stage (cfg1.slots t 9)).view.read (Elt F) f12) →
    ((dat1 V I1 c).toRRel fg1 (Rl c)).Finds 10 t ((win1_10.stage (cfg1.slots t 10)).view.read (Elt F) f13) →
    StepOK I1 Rl c t (runA c t hc f3 f4 f5 f6 f7 f8 f9 f10 f11 f12 f13 f14 f15 f16 f17 f18 f19).1
def StepB : Prop := ∀ (c : Dev nD) (t : Fin cfg1.N) (hc : ¬ k1_cond1 (grid1.coords t) = 1#1) (f3 : Bf F c (win1_0.stage (cfg1.slots t 0))) (f4 : Bf F c (win1_1.stage (cfg1.slots t 1))) (f5 : Bf F c (win1_2.stage (cfg1.slots t 2))) (f6 : Bf F c (win1_3.stage (cfg1.slots t 3))) (f7 : Bf F c (win1_4.stage (cfg1.slots t 4))) (f8 : Bf F c (win1_5.stage (cfg1.slots t 5))) (f9 : Bf F c (win1_6.stage (cfg1.slots t 6))) (f10 : Bf F c (win1_7.stage (cfg1.slots t 7))) (f11 : Bf F c (win1_8.stage (cfg1.slots t 8))) (f12 : Bf F c (win1_9.stage (cfg1.slots t 9))) (f13 : Bf F c (win1_10.stage (cfg1.slots t 10))) (f14 : Bf F c (Memref.whole cc1_scratch0)) (f15 : Bf F c (Memref.whole cc1_scratch1)) (f16 : Bf F c (Memref.whole cc1_scratch2)) (f17 : Bf F c (Memref.whole cc1_scratch3)) (f18 : Bf F c (Memref.whole cc1_scratch4)) (f19 : Bf F c (Memref.whole cc1_scratch5)),
    (win1_0.stage (cfg1.slots t 0)).view.read (Elt F) f3 = iblk1 V c 0 t →
    (win1_1.stage (cfg1.slots t 1)).view.read (Elt F) f4 = iblk1 V c 1 t →
    (win1_2.stage (cfg1.slots t 2)).view.read (Elt F) f5 = iblk1 V c 2 t →
    (win1_3.stage (cfg1.slots t 3)).view.read (Elt F) f6 = iblk1 V c 3 t →
    (win1_4.stage (cfg1.slots t 4)).view.read (Elt F) f7 = iblk1 V c 4 t →
    (win1_5.stage (cfg1.slots t 5)).view.read (Elt F) f8 = iblk1 V c 5 t →
    I1 c t.castSucc f14 →
    ((dat1 V I1 c).toRRel fg1 (Rl c)).Finds 6 t ((win1_6.stage (cfg1.slots t 6)).view.read (Elt F) f9) →
    ((dat1 V I1 c).toRRel fg1 (Rl c)).Finds 7 t ((win1_7.stage (cfg1.slots t 7)).view.read (Elt F) f10) →
    ((dat1 V I1 c).toRRel fg1 (Rl c)).Finds 8 t ((win1_8.stage (cfg1.slots t 8)).view.read (Elt F) f11) →
    ((dat1 V I1 c).toRRel fg1 (Rl c)).Finds 9 t ((win1_9.stage (cfg1.slots t 9)).view.read (Elt F) f12) →
    ((dat1 V I1 c).toRRel fg1 (Rl c)).Finds 10 t ((win1_10.stage (cfg1.slots t 10)).view.read (Elt F) f13) →
    StepOK I1 Rl c t (runB c t hc f3 f4 f5 f6 f7 f8 f9 f10 f11 f12 f13 f14 f15 f16 f17 f18 f19).1

set_option maxHeartbeats 4000000 in
theorem body1 (hA : StepA V I1 Rl) (hB : StepB V I1 Rl) (c : Dev nD) :
    BodyObligationRel (dat1 V I1 c) (defs₀ (F := F)) 𝒱₀ () Set.univ fg1 (Rl c) := fun t => by
  rw [bigSep_W1, bigSep_W1]
  rw [show (dat1 V I1 c).Φ t.castSucc = Φ1 I1 c t.castSucc from rfl, show (dat1 V I1 c).Φ t.succ = Φ1 I1 c t.succ from rfl,
    show (dat1 V I1 c).owesAt () t.succ = (dat1 V I1 c).owesAt () t.castSucc from rfl]
  simp only [fg1_0, fg1_1, fg1_2, fg1_3, fg1_4, fg1_5, fg1_6, fg1_7, fg1_8, fg1_9, fg1_10]
  unfold owns
  iintro ⟨⟨Hr0, Hr1, Hr2, ⟨%f14, %hI, H14⟩, ⟨%f15, H15⟩, ⟨%f16, H16⟩, ⟨%f17, H17⟩, ⟨%f18, H18⟩, ⟨%f19, H19⟩⟩, Howes, ⟨%d3, %f3, %h3, H3⟩, ⟨%d4, %f4, %h4, H4⟩, ⟨%d5, %f5, %h5, H5⟩, ⟨%d6, %f6, %h6, H6⟩, ⟨%d7, %f7, %h7, H7⟩, ⟨%d8, %f8, %h8, H8⟩, ⟨%Y9, %hY9, %f9, %h9, H9⟩, ⟨%Y10, %hY10, %f10, %h10, H10⟩, ⟨%Y11, %hY11, %f11, %h11, H11⟩, ⟨%Y12, %hY12, %f12, %h12, H12⟩, ⟨%Y13, %hY13, %f13, %h13, H13⟩⟩
  have h3' := h3.trans (before1_0 V I1 c t d3)
  have h4' := h4.trans (before1_1 V I1 c t d4)
  have h5' := h5.trans (before1_2 V I1 c t d5)
  have h6' := h6.trans (before1_3 V I1 c t d6)
  have h7' := h7.trans (before1_4 V I1 c t d7)
  have h8' := h8.trans (before1_5 V I1 c t d8)
  subst h9
  subst h10
  subst h11
  subst h12
  subst h13
  by_cases hc : k1_cond1 (grid1.coords t) = 1#1
  · have hs := hA c t hc f3 f4 f5 f6 f7 f8 f9 f10 f11 f12 f13 f14 f15 f16 f17 f18 f19 h3' h4' h5' h6' h7' h8' hI hY9 hY10 hY11 hY12 hY13
    obtain ⟨hI', g9, g10, g11, g12, g13⟩ := hs
    iapply ((runA c t hc f3 f4 f5 f6 f7 f8 f9 f10 f11 f12 f13 f14 f15 f16 f17 f18 f19).2 Set.univ _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H3, H4, H5, H6, H7, H8, H9, H10, H11, H12, H13, H14, H15, H16, H17, H18, H19⟩
    isplitl [Hr0 Hr1 Hr2 H14 H15 H16 H17 H18 H19]
    · isplitl [Hr0]; · iexact Hr0
      isplitl [Hr1]; · iexact Hr1
      isplitl [Hr2]; · iexact Hr2
      isplitl [H14]
      · iexists _; isplitr; swap; (· iexact H14); ipureintro; exact hI'
      isplitl [H15]; · iexists _; iexact H15
      isplitl [H16]; · iexists _; iexact H16
      isplitl [H17]; · iexists _; iexact H17
      isplitl [H18]; · iexists _; iexact H18
      iexists _; iexact H19
    isplitl [Howes]; · iexact Howes
    isplitl [H3]; · iexists _; isplitr; swap; (· iexact H3); ipureintro; exact h3'
    isplitl [H4]; · iexists _; isplitr; swap; (· iexact H4); ipureintro; exact h4'
    isplitl [H5]; · iexists _; isplitr; swap; (· iexact H5); ipureintro; exact h5'
    isplitl [H6]; · iexists _; isplitr; swap; (· iexact H6); ipureintro; exact h6'
    isplitl [H7]; · iexists _; isplitr; swap; (· iexact H7); ipureintro; exact h7'
    isplitl [H8]; · iexists _; isplitr; swap; (· iexact H8); ipureintro; exact h8'
    isplitl [H9]; · iexists _; isplitr; swap; (· iexists _; isplitr; swap; (· iexact H9); ipureintro; rfl); ipureintro; exact g9
    isplitl [H10]; · iexists _; isplitr; swap; (· iexists _; isplitr; swap; (· iexact H10); ipureintro; rfl); ipureintro; exact g10
    isplitl [H11]; · iexists _; isplitr; swap; (· iexists _; isplitr; swap; (· iexact H11); ipureintro; rfl); ipureintro; exact g11
    isplitl [H12]; · iexists _; isplitr; swap; (· iexists _; isplitr; swap; (· iexact H12); ipureintro; rfl); ipureintro; exact g12
    iexists _; isplitr; swap; (· iexists _; isplitr; swap; (· iexact H13); ipureintro; rfl); ipureintro; exact g13
  · have hs := hB c t hc f3 f4 f5 f6 f7 f8 f9 f10 f11 f12 f13 f14 f15 f16 f17 f18 f19 h3' h4' h5' h6' h7' h8' hI hY9 hY10 hY11 hY12 hY13
    obtain ⟨hI', g9, g10, g11, g12, g13⟩ := hs
    iapply ((runB c t hc f3 f4 f5 f6 f7 f8 f9 f10 f11 f12 f13 f14 f15 f16 f17 f18 f19).2 Set.univ _)
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    isplitl [H13]; · iexact H13
    isplitl [H14]; · iexact H14
    isplitl [H15]; · iexact H15
    isplitl [H16]; · iexact H16
    isplitl [H17]; · iexact H17
    isplitl [H18]; · iexact H18
    isplitl [H19]; · iexact H19
    iintro ⟨H3, H4, H5, H6, H7, H8, H9, H10, H11, H12, H13, H14, H15, H16, H17, H18, H19⟩
    isplitl [Hr0 Hr1 Hr2 H14 H15 H16 H17 H18 H19]
    · isplitl [Hr0]; · iexact Hr0
      isplitl [Hr1]; · iexact Hr1
      isplitl [Hr2]; · iexact Hr2
      isplitl [H14]
      · iexists _; isplitr; swap; (· iexact H14); ipureintro; exact hI'
      isplitl [H15]; · iexists _; iexact H15
      isplitl [H16]; · iexists _; iexact H16
      isplitl [H17]; · iexists _; iexact H17
      isplitl [H18]; · iexists _; iexact H18
      iexists _; iexact H19
    isplitl [Howes]; · iexact Howes
    isplitl [H3]; · iexists _; isplitr; swap; (· iexact H3); ipureintro; exact h3'
    isplitl [H4]; · iexists _; isplitr; swap; (· iexact H4); ipureintro; exact h4'
    isplitl [H5]; · iexists _; isplitr; swap; (· iexact H5); ipureintro; exact h5'
    isplitl [H6]; · iexists _; isplitr; swap; (· iexact H6); ipureintro; exact h6'
    isplitl [H7]; · iexists _; isplitr; swap; (· iexact H7); ipureintro; exact h7'
    isplitl [H8]; · iexists _; isplitr; swap; (· iexact H8); ipureintro; exact h8'
    isplitl [H9]; · iexists _; isplitr; swap; (· iexists _; isplitr; swap; (· iexact H9); ipureintro; rfl); ipureintro; exact g9
    isplitl [H10]; · iexists _; isplitr; swap; (· iexists _; isplitr; swap; (· iexact H10); ipureintro; rfl); ipureintro; exact g10
    isplitl [H11]; · iexists _; isplitr; swap; (· iexists _; isplitr; swap; (· iexact H11); ipureintro; rfl); ipureintro; exact g11
    isplitl [H12]; · iexists _; isplitr; swap; (· iexists _; isplitr; swap; (· iexact H12); ipureintro; rfl); ipureintro; exact g12
    iexists _; isplitr; swap; (· iexists _; isplitr; swap; (· iexact H13); ipureintro; rfl); ipureintro; exact g13

end Cert.KernelIdeal.Pf

end
-- ==== Proof.KI.Run.lean ====
/-
  The whole program's run: the Gram kernel's region exactly, the search kernel's region through the predicates `I1` and `Rl`,
  and the host operations around them.
-/
module

public import proofs.«01_k».proof.Proof.KI.Dats1
public import Idealize.ShloMosaic.Lib.Pipeline.RegionsLoop
public import Idealize.ShloMosaic.Lib.Pipeline.RegionsOwned
public import Idealize.ShloMosaic.Lib.Pipeline.FrameSuffix

@[expose] public section

set_option maxRecDepth 16384

noncomputable section

namespace Cert.KernelIdeal.Pf

open Cert.KernelIdeal Cert.KernelIdeal.Gen
open Idealize.ShloMosaic
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation BodyObligationRel)

variable {F : FTy → Type} [FloatOps F]

local notation "𝕄" => MT nD τ sig Unit (Elt F) ℕ UU ℕ

variable (m : (ℓ : Loc nD τ sig) → Buf (Elt F) ℓ) (ρ : Dev nD → PrngReg)

/-- The buffers when the Gram kernel is entered. -/
def VA : Vals F := fun c b => V1 m c b
/-- The Gram kernel's result. -/
def gramArr (c : Dev nD) : Buf (Elt F) ((c : Thread nD τ).loc main_v2) := (dat0 (VA m) c).arrAt 1 cfg0.N
/-- What the regions leave, as far as it is read before the search kernel: the Gram kernel's result. -/
def outs0 : Outs (F := F) := fun _ r c => Function.update (β := fun r : Ref sig .tc => Buf (Elt F) ((c : Thread nD τ).loc r)) (fun b => V1 m c b) main_v2 (gramArr m c) r
theorem outs0_main_v2 (J : ℕ) (c : Dev nD) : outs0 m J main_v2 c = gramArr m c := by
  unfold outs0; exact Function.update_self ..
/-- The buffers when the search kernel is entered. -/
def VB : Vals F := fun c b => V5 m (outs0 m) c b

variable (I1 : (c : Dev nD) → Fin (cfg1.N + 1) → Bf F c (Memref.whole cc1_scratch0) → Prop)
  (Rl : (c : Dev nD) → (w : Fin cfg1.W) → Fin cfg1.N → ((cfg1.win w).block.Idx → Elt F (cfg1.win w).elt) → Prop)

/-- The search kernel's data, the results read through `Rl`. -/
abbrev rdat1 (c : Dev nD) := (dat1 (VB m) I1 c).toRRel fg1 (Rl c)

/-- The regions' data. -/
def rdats : (p : Fin 2) → (c : Dev nD) → Pipeline.RDat τ (Elt F) Unit ℕ UU ℕ (cfgs p) c
  | ⟨0, _⟩ => fun c => (dat0 (VA m) c).toR
  | ⟨1, _⟩ => fun c => rdat1 m I1 Rl c
/-- The regions' exact data (for the arrays' layout). -/
def pdats : (p : Fin 2) → (c : Dev nD) → Dat τ (Elt F) Unit ℕ UU ℕ (cfgs p) c
  | ⟨0, _⟩ => fun c => dat0 (VA m) c
  | ⟨1, _⟩ => fun c => dat1 (VB m) I1 c

/-- No core owes another anything: no level is assigned. -/
abbrev L : GSem nD τ sig → Finset Unit := fun _ => ∅
abbrev lv : GSem nD τ sig → Unit → ℕ := fun _ _ => 0
/-- What rides beside the buffers. -/
abbrev Re (c : Dev nD) : sProp 𝕄 := iprop(∃ W, owes (c : Thread nD τ) (0 : CellTallies nD τ sig Unit) W)

/-- Contents of the search kernel's arrays that its write-backs may leave. -/
abbrev Arrs1 (c : Dev nD) : Type := { A : (w : Fin cfg1.W) → Buf (Elt F) ((cfg1.win w).arr.view.loc (c : Thread nD τ)) // ∀ w, (rdat1 m I1 Rl c).ArrAt w cfg1.N (A w) }

/-- The buffers after the search kernel, -/
def VC (c : Dev nD) (γ : Arrs1 m I1 Rl c) : Valuation τ sig (Elt F) :=
  Function.update (Function.update (Function.update (Function.update (Function.update (V5 m (outs0 m) c) main_v10_0 (γ.1 6)) main_v10_1 (γ.1 7)) main_v10_2 (γ.1 8)) main_v10_3 (γ.1 9)) main_v10_4 (γ.1 10)
/-- and at the end. -/
def VD (c : Dev nD) (γ : Arrs1 m I1 Rl c) : Valuation τ sig (Elt F) := StableHlo.after hostOps2 (VC m I1 Rl c γ)

theorem VC_of (c : Dev nD) (γ) (r : Ref sig .tc) (h : r ∉ ([main_v10_0, main_v10_1, main_v10_2, main_v10_3, main_v10_4] : List (Ref sig .tc))) :
    VC m I1 Rl c γ r = V5 m (outs0 m) c r := by
  simp only [List.mem_cons, List.not_mem_nil, or_false, not_or] at h
  unfold VC
  iterate 5 rw [Function.update_of_ne (StableHlo.devRef_ne_of_ne (by tauto))]
theorem VC_6 (c : Dev nD) (γ) : VC m I1 Rl c γ main_v10_0 = γ.1 6 := by
  unfold VC
  iterate 4 rw [Function.update_of_ne (StableHlo.devRef_ne_of_ne (by decide))]
  exact Function.update_self ..
theorem VC_7 (c : Dev nD) (γ) : VC m I1 Rl c γ main_v10_1 = γ.1 7 := by
  unfold VC
  iterate 3 rw [Function.update_of_ne (StableHlo.devRef_ne_of_ne (by decide))]
  exact Function.update_self ..
theorem VC_8 (c : Dev nD) (γ) : VC m I1 Rl c γ main_v10_2 = γ.1 8 := by
  unfold VC
  iterate 2 rw [Function.update_of_ne (StableHlo.devRef_ne_of_ne (by decide))]
  exact Function.update_self ..
theorem VC_9 (c : Dev nD) (γ) : VC m I1 Rl c γ main_v10_3 = γ.1 9 := by
  unfold VC
  rw [Function.update_of_ne (StableHlo.devRef_ne_of_ne (by decide))]
  exact Function.update_self ..
theorem VC_10 (c : Dev nD) (γ) : VC m I1 Rl c γ main_v10_4 = γ.1 10 := by
  unfold VC
  exact Function.update_self ..
theorem VD_of (c : Dev nD) (γ) (r : Ref sig .tc) (h : r ∉ hostOps2_W) : VD m I1 Rl c γ r = VC m I1 Rl c γ r :=
  StableHlo.after_of_writes_sub hostOps2 _ hostOps2_writes h

theorem VD_arg (c : Dev nD) (γ) (r : Ref sig .tc) (h2 : r ∉ hostOps2_W)
    (h : r ∉ ([main_v10_0, main_v10_1, main_v10_2, main_v10_3, main_v10_4] : List (Ref sig .tc)))
    (h12 : r ∉ hostOps1_2_W) (h11 : r ∉ hostOps1_1_W) (h1 : r ∉ hostOps1_W) (hv : r ∉ ([main_v2] : List (Ref sig .tc))) (h0 : r ∉ hostOps0_W) :
    VD m I1 Rl c γ r = m ((c : Thread nD τ).loc r) :=
  (VD_of m I1 Rl c γ r h2).trans <| (VC_of m I1 Rl c γ r h).trans <| (V5_of m (outs0 m) c r h12).trans <| (V4_of m (outs0 m) c r h11).trans <|
    (V3_of m (outs0 m) c r h1).trans <| (V2_of m (outs0 m) c r hv).trans (V1_of m c r h0)

theorem arr1_in (c : Dev nD) (γ : Arrs1 m I1 Rl c) (w : Fin cfg1.W) (hw : (cfg1.win w).isOut = false) : γ.1 w = VB m c (Pipeline.arrRef spec1 w) := by
  have h := γ.2 w
  rw [Pipeline.RDat.ArrAt_in _ w hw] at h
  exact h
theorem VC_arr (c : Dev nD) (γ : Arrs1 m I1 Rl c) : ∀ w : Fin cfg1.W, γ.1 w = VC m I1 Rl c γ (Pipeline.arrRef spec1 w)
  | ⟨0, _⟩ => (arr1_in m I1 Rl c γ 0 rfl).trans (VC_of m I1 Rl c γ main_cst (by decide)).symm
  | ⟨1, _⟩ => (arr1_in m I1 Rl c γ 1 rfl).trans (VC_of m I1 Rl c γ main_v0 (by decide)).symm
  | ⟨2, _⟩ => (arr1_in m I1 Rl c γ 2 rfl).trans (VC_of m I1 Rl c γ main_arg1 (by decide)).symm
  | ⟨3, _⟩ => (arr1_in m I1 Rl c γ 3 rfl).trans (VC_of m I1 Rl c γ main_v3 (by decide)).symm
  | ⟨4, _⟩ => (arr1_in m I1 Rl c γ 4 rfl).trans (VC_of m I1 Rl c γ main_v2 (by decide)).symm
  | ⟨5, _⟩ => (arr1_in m I1 Rl c γ 5 rfl).trans (VC_of m I1 Rl c γ main_v9 (by decide)).symm
  | ⟨6, _⟩ => (VC_6 m I1 Rl c γ).symm
  | ⟨7, _⟩ => (VC_7 m I1 Rl c γ).symm
  | ⟨8, _⟩ => (VC_8 m I1 Rl c γ).symm
  | ⟨9, _⟩ => (VC_9 m I1 Rl c γ).symm
  | ⟨10, _⟩ => (VC_10 m I1 Rl c γ).symm
  | ⟨_ + 11, h⟩ => absurd h (Nat.not_lt.2 (Nat.le_add_left _ _))

/-! ## The regions -/

theorem pts_whole (c : Dev nD) (b : Ref sig .tc) (f : Bf F c (Memref.whole b)) :
    (pts c (Memref.whole b) f : sProp 𝕄) = ((c : Thread nD τ).loc b ↦{fullShare} f) := by
  unfold pts; rw [show (Memref.whole b).view.set = Finset.univ from View.set_whole b]

theorem owes0_in (c : Dev nD) : (Re c : sProp 𝕄) ⊢ (dat0 (VA m) c).owesAt () 0 := by
  unfold Pipeline.Dat.owesAt Pipeline.owesWithin
  iintro ⟨%W, HO⟩; iexists W; isplitr; · ipureintro; exact fun _ _ => Or.inl trivial
  iexact HO
theorem owes1_in (c : Dev nD) : (Re c : sProp 𝕄) ⊢ (dat1 (VB m) I1 c).owesAt () 0 := by
  unfold Pipeline.Dat.owesAt Pipeline.owesWithin
  iintro ⟨%W, HO⟩; iexists W; isplitr; · ipureintro; exact fun _ _ => Or.inl trivial
  iexact HO
theorem owes0_out (c : Dev nD) : (dat0 (VA m) c).owesAt () (Fin.last _) ⊢ (Re c : sProp 𝕄) := by
  unfold Pipeline.Dat.owesAt Pipeline.owesWithin
  iintro ⟨%W, -, HO⟩; iexists W; iexact HO
theorem owes1_out (c : Dev nD) : (dat1 (VB m) I1 c).owesAt () (Fin.last _) ⊢ (Re c : sProp 𝕄) := by
  unfold Pipeline.Dat.owesAt Pipeline.owesWithin
  iintro ⟨%W, -, HO⟩; iexists W; iexact HO
theorem scoped_in (hI0 : ∀ c f, I1 c 0 f) (c : Dev nD) :
    (Pipeline.scopedRest (Ix := Unit) (Name := ℕ) (U := UU) (Lvl := ℕ) (Val := Elt F) spec1 c : sProp 𝕄) ⊢ Φ1 I1 c 0 := by
  rw [scopedRest1_eq]
  iintro ⟨Hr0, Hr1, Hr2, ⟨%f14, H14⟩, ⟨%f15, H15⟩, ⟨%f16, H16⟩, ⟨%f17, H17⟩, ⟨%f18, H18⟩, ⟨%f19, H19⟩⟩
  ihave H14 := (Entails.of_eq (pts_whole c cc1_scratch0 f14).symm) $$ H14
  ihave H15 := (Entails.of_eq (pts_whole c cc1_scratch1 f15).symm) $$ H15
  ihave H16 := (Entails.of_eq (pts_whole c cc1_scratch2 f16).symm) $$ H16
  ihave H17 := (Entails.of_eq (pts_whole c cc1_scratch3 f17).symm) $$ H17
  ihave H18 := (Entails.of_eq (pts_whole c cc1_scratch4 f18).symm) $$ H18
  ihave H19 := (Entails.of_eq (pts_whole c cc1_scratch5 f19).symm) $$ H19
  isplitl [Hr0]; · iexact Hr0
  isplitl [Hr1]; · iexact Hr1
  isplitl [Hr2]; · iexact Hr2
  isplitl [H14]
  · iexists f14; isplitr; · ipureintro; exact hI0 c f14
    iexact H14
  isplitl [H15]; · iexists f15; iexact H15
  isplitl [H16]; · iexists f16; iexact H16
  isplitl [H17]; · iexists f17; iexact H17
  isplitl [H18]; · iexists f18; iexact H18
  iexists f19; iexact H19
theorem scoped_out (c : Dev nD) (t : Fin (cfg1.N + 1)) :
    Φ1 I1 c t ⊢ (Pipeline.scopedRest (Ix := Unit) (Name := ℕ) (U := UU) (Lvl := ℕ) (Val := Elt F) spec1 c : sProp 𝕄) := by
  rw [scopedRest1_eq]
  iintro ⟨Hr0, Hr1, Hr2, ⟨%f14, %hI, H14⟩, ⟨%f15, H15⟩, ⟨%f16, H16⟩, ⟨%f17, H17⟩, ⟨%f18, H18⟩, ⟨%f19, H19⟩⟩
  ihave H14 := (Entails.of_eq (pts_whole c cc1_scratch0 f14)) $$ H14
  ihave H15 := (Entails.of_eq (pts_whole c cc1_scratch1 f15)) $$ H15
  ihave H16 := (Entails.of_eq (pts_whole c cc1_scratch2 f16)) $$ H16
  ihave H17 := (Entails.of_eq (pts_whole c cc1_scratch3 f17)) $$ H17
  ihave H18 := (Entails.of_eq (pts_whole c cc1_scratch4 f18)) $$ H18
  ihave H19 := (Entails.of_eq (pts_whole c cc1_scratch5 f19)) $$ H19
  isplitl [Hr0]; · iexact Hr0
  isplitl [Hr1]; · iexact Hr1
  isplitl [Hr2]; · iexact Hr2
  isplitl [H14]; · iexists f14; iexact H14
  isplitl [H15]; · iexists f15; iexact H15
  isplitl [H16]; · iexists f16; iexact H16
  isplitl [H17]; · iexists f17; iexact H17
  isplitl [H18]; · iexists f18; iexact H18
  iexists f19; iexact H19

set_option backward.isDefEq.respectTransparency.types false in
/-- The Gram kernel's region. -/
def reg0 : Pipeline.RDat.RegionSeg (pcfgs (F := F)) adm (rdats m I1 Rl) () defs₀ 𝒱₀ L lv 0 where
  win := launch0.win.to₀
  block_pos := launch0.block_pos
  stage_whole := launch0.stage_whole
  K := PEmpty
  osem k := k.elim
  ho := Pipeline.OwnSemFacts.none _
  hbody c := (body0 (VA m) c).loose.toR
  hwaits := Pipeline.RDat.hwaits_of_owed_zero _ _ _ _ L lv 0 fun _ _ => rfl
  pre c := iprop(StableHlo.held (c : Thread nD τ) (Pipeline.ucRefs τ sig) (V1 m c) ∗ Re c)
  post c := iprop(StableHlo.held (c : Thread nD τ) (Pipeline.ucRefs τ sig) (V2 m (outs0 m) c) ∗ Re c)
  X _ := BI.emp
  Y _ := BI.emp
  Z c := Pipeline.unscopedRest (Ix := Unit) (Name := ℕ) (U := UU) (Lvl := ℕ) spec0 c (fun b => V1 m c b)
  hentry c := by
    rw [Pipeline.ownSems0_none, ← Pipeline.unscopedBufs_held (Ix := Unit) (Name := ℕ) (U := UU) (Lvl := ℕ) c (V1 m c)]
    have hsplit := Pipeline.RDat.arrays_of_unscopedBufs (p := 0) (pcfgs (F := F)) adm (rdats m I1 Rl) launch0.win launch0.arr_whole c
      ((dat0 (VA m) c).share_full fun _ => rfl) (fun b => V1 m c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes0_in m c); iexact HO
    isplitr; · iempintro
    iexact Hrest
  hin c := by
    rw [show (rdats m I1 Rl 0 c).Φ 0 = Φ0 c from rfl]
    iintro ⟨-, -, Hr⟩; iexact Hr
  hout c := by
    rw [Pipeline.ownSems0_none, show (rdats m I1 Rl 0 c).Φ (Fin.last _) = Φ0 c from rfl]
    iintro Hr
    isplitr; · iempintro
    isplitr; · iempintro
    iexact Hr
  hexit c := by
    have hjoin := Pipeline.unscopedBufs_of_arrays (p := 0) (pcfgs (F := F)) adm (Ix := Unit) (Name := ℕ) (U := UU) (Lvl := ℕ) launch0.win launch0.arr_whole c
      (pdats m I1) ((dat0 (VA m) c).share_full fun _ => rfl) (fun b => V1 m c b) (fun b => V2 m (outs0 m) c b) ((dat0 (VA m) c).arrAt · cfg0.N)
      (fun w => by
        fin_cases w
        · exact ((dat0 (VA m) c).arrAt_in 0 rfl _).trans (V2_of m (outs0 m) c main_v1 (by decide)).symm
        · exact ((outs0_main_v2 m 2 c).symm.trans (Function.update_self (f := V1 m c) (Proc.devRef .tc main_v2) (outs0 m 2 main_v2 c)).symm))
      (fun b hb => V2_of m (outs0 m) c b fun h => hb (by
        rw [List.mem_singleton] at h
        exact h ▸ Finset.mem_image.mpr ⟨1, Finset.mem_univ _, rfl⟩))
    rw [show (rdats m I1 Rl 0 c).arraysAt (Pipeline.pin (pcfgs (F := F)) adm 0).N = (dat0 (VA m) c).arrays ((dat0 (VA m) c).arrAt · cfg0.N) from
      (dat0 (VA m) c).toR_arraysAt_eq cfg0.N, ← Pipeline.unscopedBufs_held (Ix := Unit) (Name := ℕ) (U := UU) (Lvl := ℕ) c (V2 m (outs0 m) c)]
    iintro ⟨Ha, HO, -, Hrest⟩
    imodintro
    isplitl [Ha Hrest]
    · iapply hjoin; isplitl [Ha]; · iexact Ha
      iexact Hrest
    iapply (owes0_out m c); iexact HO

set_option backward.isDefEq.respectTransparency.types false in
/-- The search kernel's region, given its body. -/
def reg1 (hA : StepA (VB m) I1 Rl) (hB : StepB (VB m) I1 Rl) (hI0 : ∀ c f, I1 c 0 f) :
    Pipeline.RDat.RegionSeg (pcfgs (F := F)) adm (rdats m I1 Rl) () defs₀ 𝒱₀ L lv 1 where
  win := launch1.win.to₀
  block_pos := launch1.block_pos
  stage_whole := launch1.stage_whole
  K := PEmpty
  osem k := k.elim
  ho := Pipeline.OwnSemFacts.none _
  hbody c := (body1 (VB m) I1 Rl hA hB c).toRRel
  hwaits := Pipeline.RDat.hwaits_of_owed_zero _ _ _ _ L lv 1 fun _ _ => rfl
  pre c := iprop(StableHlo.held (c : Thread nD τ) (Pipeline.ucRefs τ sig) (V5 m (outs0 m) c) ∗ Re c)
  post c := iprop((∃ γ, StableHlo.held (c : Thread nD τ) (Pipeline.ucRefs τ sig) (VC m I1 Rl c γ)) ∗ Re c)
  X _ := BI.emp
  Y _ := BI.emp
  Z c := Pipeline.unscopedRest (Ix := Unit) (Name := ℕ) (U := UU) (Lvl := ℕ) spec1 c (fun b => V5 m (outs0 m) c b)
  hentry c := by
    rw [Pipeline.ownSems0_none, ← Pipeline.unscopedBufs_held (Ix := Unit) (Name := ℕ) (U := UU) (Lvl := ℕ) c (V5 m (outs0 m) c)]
    have hsplit := Pipeline.RDat.arrays_of_unscopedBufs (p := 1) (pcfgs (F := F)) adm (rdats m I1 Rl) launch1.win launch1.arr_whole c
      ((dat1 (VB m) I1 c).share_full fun _ => rfl) (fun b => V5 m (outs0 m) c b) fun _ => rfl
    iintro ⟨⟨Hub, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]; · iapply (owes1_in m I1 c); iexact HO
    isplitr; · iempintro
    iexact Hrest
  hin c := by
    rw [show (rdats m I1 Rl 1 c).Φ 0 = Φ1 I1 c 0 from rfl]
    iintro ⟨-, -, Hr⟩; iapply (scoped_in I1 hI0 c); iexact Hr
  hout c := by
    rw [Pipeline.ownSems0_none, show (rdats m I1 Rl 1 c).Φ (Fin.last _) = Φ1 I1 c (Fin.last _) from rfl]
    iintro Hr
    isplitr; · iempintro
    isplitr; · iempintro
    iapply (scoped_out I1 c (Fin.last _)); iexact Hr
  hexit c := by
    have hjoin := fun γ : Arrs1 m I1 Rl c => Pipeline.unscopedBufs_of_arrays (p := 1) (pcfgs (F := F)) adm (Ix := Unit) (Name := ℕ) (U := UU) (Lvl := ℕ) launch1.win launch1.arr_whole c
      (pdats m I1) ((dat1 (VB m) I1 c).share_full fun _ => rfl) (fun b => V5 m (outs0 m) c b) (fun b => VC m I1 Rl c γ b) γ.1
      (fun w => VC_arr m I1 Rl c γ w)
      (fun b hb => VC_of m I1 Rl c γ b fun h => hb (by
        simp only [List.mem_cons, List.not_mem_nil, or_false] at h
        rcases h with h | h | h | h | h
        · exact h ▸ Finset.mem_image.mpr ⟨6, Finset.mem_univ _, rfl⟩
        · exact h ▸ Finset.mem_image.mpr ⟨7, Finset.mem_univ _, rfl⟩
        · exact h ▸ Finset.mem_image.mpr ⟨8, Finset.mem_univ _, rfl⟩
        · exact h ▸ Finset.mem_image.mpr ⟨9, Finset.mem_univ _, rfl⟩
        · exact h ▸ Finset.mem_image.mpr ⟨10, Finset.mem_univ _, rfl⟩))
    have hforget : (rdat1 m I1 Rl c).arraysAt cfg1.N ⊢ (iprop(∃ A : (w : Fin cfg1.W) → Buf (Elt F) ((cfg1.win w).arr.view.loc (c : Thread nD τ)),
        ⌜∀ w, (rdat1 m I1 Rl c).ArrAt w cfg1.N (A w)⌝ ∗ (dat1 (VB m) I1 c).arrays A) : sProp 𝕄) := by
      unfold Pipeline.RDat.arraysAt Pipeline.Dat.arrays
      refine (BI.bigSep_exists_pi Finset.univ _).trans ?_
      iintro ⟨%A, H⟩
      ihave H' := (BI.bigSep_pure_sep Finset.univ (fun w => (rdat1 m I1 Rl c).ArrAt w cfg1.N (A w)) _) $$ H
      icases H' with ⟨%hA, H⟩
      iexists A
      isplitr
      · ipureintro; exact fun w => hA w (Finset.mem_univ w)
      iexact H
    rw [show (rdats m I1 Rl 1 c).arraysAt (Pipeline.pin (pcfgs (F := F)) adm 1).N = (rdat1 m I1 Rl c).arraysAt cfg1.N from rfl]
    iintro ⟨Ha, HO, -, Hrest⟩
    ihave Ha := hforget $$ Ha
    icases Ha with ⟨%A, %hA', Ha⟩
    imodintro
    isplitl [Ha Hrest]
    · iexists (⟨A, hA'⟩ : Arrs1 m I1 Rl c)
      rw [← Pipeline.unscopedBufs_held (Ix := Unit) (Name := ℕ) (U := UU) (Lvl := ℕ) c (VC m I1 Rl c ⟨A, hA'⟩)]
      iapply (hjoin ⟨A, hA'⟩); isplitl [Ha]; · iexact Ha
      iexact Hrest
    iapply (owes1_out m I1 c); iexact HO

/-! ## The run -/

/-- The last stretch of host operations. -/
def hseg : Pipeline.HostSeg (Ix := Unit) (Name := ℕ) (U := UU) (Lvl := ℕ) (pcfgs (F := F)) defs₀ 𝒱₀ L lv :=
  Pipeline.HostSeg.ofOpsEx _ _ _ _ _ (Γ := Arrs1 m I1 Rl) (Pipeline.ucRefs τ sig) hostOps2
    (fun op h => Pipeline.sub_ucRefs op ((List.forall_iff_forall_mem.mp hostOps2_sub) op h))
    (fun op h => (List.forall_iff_forall_mem.mp hostOps2_fresh) op h) (VC m I1 Rl) Re

/-- @main's segments. -/
abbrev psegs (hA : StepA (VB m) I1 Rl) (hB : StepB (VB m) I1 Rl) (hI0 : ∀ c f, I1 c 0 f) :
    List (Pipeline.RDat.Seg (pcfgs (F := F)) adm (rdats m I1 Rl) () defs₀ 𝒱₀ L lv) :=
  [.host (seg0 m 𝒱₀ L lv fun _ => Re), .region (reg0 m I1 Rl), .host (seg2 m (outs0 m) 𝒱₀ L lv fun _ => Re), .host (seg3 m (outs0 m) 𝒱₀ L lv fun _ => Re),
    .host (seg4 m (outs0 m) 𝒱₀ L lv fun _ => Re), .region (reg1 m I1 Rl hA hB hI0), .host (hseg m I1 Rl)]

set_option backward.isDefEq.respectTransparency.types false in
/-- THE RUN: from any memory with zero counters every execution ends, each core's buffers at `VD` for some contents the
    search kernel's write-backs may leave, and every counter at zero. -/
theorem run_main (hA : StepA (VB m) I1 Rl) (hB : StepB (VB m) I1 Rl) (hI0 : ∀ c f, I1 c 0 f) :
    θ_run defs (onTc (τ := τ) (main (F := F))) ⟨m, fun _ => 0, ρ⟩ (fun r => (∀ c : Dev nD, ∃ γ : Arrs1 m I1 Rl c,
      ∀ b ∈ Pipeline.ucRefs τ sig, r.2.mem ((c : Thread nD τ).1, b) = VD m I1 Rl c γ b) ∧ r.2.sem = fun _ => 0) := by
  refine Pipeline.RDat.θ_run_regions_kit_dev_sems (pcfgs (F := F)) adm (rdats m I1 Rl) () cellOf_inj emb₁ defs₀ 𝒱₀ L lv m ρ main
    (fun _ => psegs m I1 Rl hA hB hI0)
    (fun c Q => by
      rewrite [main_chain c, Pipeline.RDat.Seg.run_eq_chain,
        show (psegs m I1 Rl hA hB hI0).map Pipeline.RDat.Seg.prog = [
          StableHlo.seq hostOps0,
          Prog.lift (.customCall (Pipeline.entry 0) ()),
          StableHlo.seq hostOps1,
          StableHlo.seq hostOps1_1,
          StableHlo.seq hostOps1_2,
          Prog.lift (.customCall (Pipeline.entry 1) ()),
          StableHlo.seq hostOps2 ] from rfl]
      dsimp (config := { failIfUnchanged := false }) only
      exact .rfl)
    (fun c => by simp only [Pipeline.RDat.Seg.pipes_host, Pipeline.RDat.Seg.pipes_region, Pipeline.RDat.Seg.pipes_nil]; decide) 0 (fun _ _ => rfl)
    (fun _ => iprop(emp)) (initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl); iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ Re c))
    (Tₙ := fun c => iprop(∃ γ : Arrs1 m I1 Rl c, StableHlo.held (c : Thread nD τ) (Pipeline.ucRefs τ sig) (VD m I1 Rl c γ)))
    (hch := fun c => ?hch)
    (hinit := by
      refine Pipeline.initEach L lv fun c => ?_
      rw [show unscopedBufs c (fun b => m ((c : Thread nD τ).loc b)) = StableHlo.held (c : Thread nD τ) (Pipeline.ucRefs τ sig) (V0 m c) from Pipeline.unscopedBufs_held c (V0 m c)]
      iintro ⟨⟨Hh, -, HO, -, -, -⟩, -⟩
      imodintro
      isplitl [Hh]; · iexact Hh
      iexists ∅; iexact HO)
    (QY := fun c s => ∃ γ : Arrs1 m I1 Rl c, ∀ b ∈ Pipeline.ucRefs τ sig, s.mem ((c : Thread nD τ).1, b) = VD m I1 Rl c γ b)
    (hfin := fun c s' => ?_) (hQ := fun _ h hz => ⟨h, funext fun g => hz g (.inr (regions_no_unscoped g.2))⟩)
  case hch => exact ⟨.rfl, .rfl, .rfl, .rfl, .rfl, .rfl, .rfl, .rfl⟩
  unfold StableHlo.held
  iintro ⟨⟨%γ, Hh⟩, HSI⟩
  ihave Hr := (pointsTo_read_all (Pipeline.ucRefs τ sig) (fun b => ((c : Thread nD τ).1, b)) (VD m I1 Rl c γ) s') $$ [Hh HSI]
  · isplitl [Hh] <;> iassumption
  icases Hr with ⟨%h, HSI⟩
  imodintro
  isplitr
  · ipureintro; exact ⟨γ, h⟩
  · iexact HSI

theorem mem_uc (b : Ref sig .tc) (h : ¬ (Proc.devRef (τ := τ) .tc b).isScoped) : Proc.devRef (τ := τ) .tc b ∈ Pipeline.ucRefs τ sig :=
  Finset.mem_filter.mpr ⟨StableHlo.devRef_mem_tcRefs b, h⟩

/-- The frame: every execution ends with the arguments as they were and every counter at zero. -/
theorem frame :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2))
      ∧ r.2.sem = fun _ => 0) := by
  refine (θ_run _ _ _).mono ?_ (run_main m ρ (fun _ _ _ => True) (fun _ _ _ _ => True) ?_ ?_ fun _ _ => trivial)
  · rintro r ⟨h, hs⟩
    refine ⟨fun c => ?_, hs⟩
    obtain ⟨γ, hγ⟩ := h c
    exact ⟨(hγ _ (mem_uc main_arg0 (by decide))).trans (VD_arg m _ _ c γ main_arg0 (by decide) (by decide) (by decide) (by decide) (by decide) (by decide) (by decide)),
      (hγ _ (mem_uc main_arg1 (by decide))).trans (VD_arg m _ _ c γ main_arg1 (by decide) (by decide) (by decide) (by decide) (by decide) (by decide) (by decide)),
      (hγ _ (mem_uc main_arg2 (by decide))).trans (VD_arg m _ _ c γ main_arg2 (by decide) (by decide) (by decide) (by decide) (by decide) (by decide) (by decide))⟩
  · intro c t hc; intros; exact ⟨trivial, trivial, trivial, trivial, trivial, trivial⟩
  · intro c t hc; intros; exact ⟨trivial, trivial, trivial, trivial, trivial, trivial⟩

end Cert.KernelIdeal.Pf

end
-- ==== Proof.KI.Trip.lean ====
module
public import proofs.«01_k».proof.Proof.KI.Dats1
public import Idealize.ShloMosaic.Lib.Pointwise
public import Idealize.ShloMosaic.Lib.WritesUnit
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

/-- A clipped, rounded weight ratio: the code as a number. -/
def codeB (x : EReal) : EReal := min (Ideal.ofBits .f32 0x40E00000#32) (max (Ideal.ofBits .f32 0xC0E00000#32) (Ideal.liftRound Ideal.roundHalfEven x))
/-- The four-bit word of a code, in an integer of 32 bits. -/
def nibB (c : EReal) : BitVec 32 := IntOp.andi (BitVec.signExtend 32 (BitVec.setWidth 4 (BitVec.setWidth 8 (FloatOps.fptosi (F := Ideal) (φ := .bf16) 16 (c + Ideal.ofBits .bf16 0x4310#16))))) 15#32
/-- Two codes in a byte. -/
def byteB (c d : EReal) : BitVec 8 := BitVec.setWidth 8 (IntOp.ori (nibB c) (IntOp.shli .vector (nibB d) 4#32))

theorem pay41_at (v117 : FVec Ideal S128x256 .f32) (v119 : FVec Ideal S1x256 .f32) (r : Fin 64) (l : Fin 256) :
    k1_pay41 (F := Ideal) v117 v119 (ix4 0 0 r l) = byteB (codeB (v117 (ix2 ⟨r.val * 2, by omega⟩ l) * v119 (ix2 0 l))) (codeB (v117 (ix2 ⟨r.val * 2 + 1, by omega⟩ l) * v119 (ix2 0 l))) := by
  pointwise [k1_pay41, k1_pay40, k1_pay39, k1_pay38]
  rfl
theorem pay42_at (v115 : FVec Ideal S1x1x128x384 .bf16) (v117 : FVec Ideal S128x256 .f32) (v119 : FVec Ideal S1x256 .f32) (v152 : FVec Ideal S128x256 .f32) (v158 : FVec Ideal S1x256 .f32) (l : Fin 256) :
    k1_pay42 (F := Ideal) (k1_pay37 (F := Ideal) v115) (k1_pay38 (F := Ideal) v117 v119) (k1_pay39 (F := Ideal) v117 v119) (k1_pay40 (F := Ideal) v117 v119) v152 v158 (ix3 0 0 l)
      = (∑ j : Fin 128, (v117 (ix2 j l) * v119 (ix2 0 l) - codeB (v117 (ix2 j l) * v119 (ix2 0 l))) * (v152 (ix2 j l) - ∑ x : Fin 384, v115 (ix4 0 0 j x) * codeB (v117 (ix2 ⟨x.val % 128, by omega⟩ l) * v119 (ix2 0 l)))) * v158 (ix2 0 l) := by
  pointwise [k1_pay42, k1_pay37, k1_pay38, k1_pay39, k1_pay40]
  refine congrArg (· * v158 (ix2 0 l)) (Finset.sum_congr rfl fun j _ => congrArg (HMul.hMul _) (congrArg (HSub.hSub _) (Finset.sum_congr rfl fun x _ => congrArg (HMul.hMul _) ?_)))
  have e : ∀ a b : Fin 128, a.val = b.val → min (Ideal.ofBits .f32 0x40E00000#32) (max (Ideal.ofBits .f32 0xC0E00000#32) (Ideal.liftRound Ideal.roundHalfEven (v117 (ix2 a l) * v119 (ix2 0 l)))) = codeB (v117 (ix2 b l) * v119 (ix2 0 l)) := by
    intro a b h
    rw [Fin.ext h]; rfl
  split_ifs
  all_goals first
    | exact absurd rfl ‹_›
    | exact e _ _ (by dsimp only; omega)

/-- The loss of one row and ratio, from the tile's tables. -/
def lossV (T14 : FVec Ideal S8x20x128x384 .bf16) (T15 T16 : FVec Ideal S128x1024 .f32) (T18 T19 : FVec Ideal S24x1024 .f32) (g : Fin 8) (k : Fin 20) (l : Fin 1024) : EReal :=
  (∑ j : Fin 128, (T15 (ix2 j l) * T18 (ix2 ⟨k.val, by omega⟩ l) - codeB (T15 (ix2 j l) * T18 (ix2 ⟨k.val, by omega⟩ l))) * (T16 (ix2 j l) - ∑ x : Fin 384, T14 (ix4 g k j x) * codeB (T15 (ix2 ⟨x.val % 128, by omega⟩ l) * T18 (ix2 ⟨k.val, by omega⟩ l)))) * T19 (ix2 ⟨k.val, by omega⟩ l)
/-- The packed pair of codes of one row and ratio, from the tile's tables. -/
def byteV (T15 : FVec Ideal S128x1024 .f32) (T18 : FVec Ideal S24x1024 .f32) (k : Fin 20) (r : Fin 64) (l : Fin 1024) : BitVec 8 :=
  byteB (codeB (T15 (ix2 ⟨r.val * 2, by omega⟩ l) * T18 (ix2 ⟨k.val, by omega⟩ l))) (codeB (T15 (ix2 ⟨r.val * 2 + 1, by omega⟩ l) * T18 (ix2 ⟨k.val, by omega⟩ l)))

/-- A load through a unit-stride rectangle of a matrix reads the matrix at the shifted place. -/
theorem readAt2 {sp : Space} {e : EltTy} {d : Fin 2 → ℕ} (v : View sig .tc sp ⟨2, d⟩ e) (f : v.ty.Contents (Elt Ideal)) {off size off' : Fin 2 → ℕ} (inb : ∀ a, off a + size a ≤ d a)
    (h : off = off') (x : (⟨2, size⟩ : Shape).Idx) (y : (⟨2, d⟩ : Shape).Idx) (h0 : (y 0).val = off' 0 + (x 0).val) (h1 : (y 1).val = off' 1 + (x 1).val) :
    v.readAt (Elt Ideal) (Rect.unit (s := ⟨2, d⟩) off size inb).toLoadRect f x = v.read (Elt Ideal) f y := by
  subst h
  refine congrArg (v.read (Elt Ideal) f) (funext fun a => Fin.ext ?_)
  show off a + 1 * (x a).val = (y a).val
  rw [Nat.one_mul]
  match a with
  | ⟨0, _⟩ => exact h0.symm
  | ⟨1, _⟩ => exact h1.symm
/-- The same of an array of four axes. -/
theorem readAt4 {sp : Space} {e : EltTy} {d : Fin 4 → ℕ} (v : View sig .tc sp ⟨4, d⟩ e) (f : v.ty.Contents (Elt Ideal)) {off size off' : Fin 4 → ℕ} (inb : ∀ a, off a + size a ≤ d a)
    (h : off = off') (x : (⟨4, size⟩ : Shape).Idx) (y : (⟨4, d⟩ : Shape).Idx) (h0 : (y 0).val = off' 0 + (x 0).val) (h1 : (y 1).val = off' 1 + (x 1).val) (h2 : (y 2).val = off' 2 + (x 2).val) (h3 : (y 3).val = off' 3 + (x 3).val) :
    v.readAt (Elt Ideal) (Rect.unit (s := ⟨4, d⟩) off size inb).toLoadRect f x = v.read (Elt Ideal) f y := by
  subst h
  refine congrArg (v.read (Elt Ideal) f) (funext fun a => Fin.ext ?_)
  show off a + 1 * (x a).val = (y a).val
  rw [Nat.one_mul]
  match a with
  | ⟨0, _⟩ => exact h0.symm
  | ⟨1, _⟩ => exact h1.symm
  | ⟨2, _⟩ => exact h2.symm
  | ⟨3, _⟩ => exact h3.symm

/-- A stored piece of one row and ratio: it holds a whole-block function's values if its payload does, and lies in that row. -/
theorem piece3 {W q k g : ℕ} {off : Fin 3 → ℕ} (inb : ∀ a, off a + (![1, 1, W] : Fin 3 → ℕ) a ≤ S20x8x1024.size a) (hk : k < 20) (hg : g < 8) (hq : q + W ≤ 1024) (e : off = ![k, g, q])
    (w : (⟨3, ![1, 1, W]⟩ : Shape).Idx → EReal) (G : S20x8x1024.Idx → EReal) (hw : ∀ l : Fin W, w (ix3 0 0 l) = G (ix3 ⟨k, hk⟩ ⟨g, hg⟩ ⟨q + l.val, by omega⟩)) :
    (∀ x, w x = G ((Rect.unit (s := S20x8x1024) off ![1, 1, W] inb).emb x)) ∧ (∀ y ∈ (Rect.unit (s := S20x8x1024) off ![1, 1, W] inb).set, (y 0).val = k ∧ (y 1).val = g)
    ∧ ∀ l : Fin 1024, q ≤ l.val → l.val < q + W → ix3 ⟨k, hk⟩ ⟨g, hg⟩ l ∈ (Rect.unit (s := S20x8x1024) off ![1, 1, W] inb).set := by
  subst e
  refine ⟨?_, ?_, ?_⟩
  · intro (x : (⟨3, ![1, 1, W]⟩ : Shape).Idx)
    have hx : x = ix3 0 0 (x 2) := funext fun a => Fin.ext (by
      match a with
      | ⟨0, _⟩ => exact Nat.lt_one_iff.mp (x 0).isLt
      | ⟨1, _⟩ => exact Nat.lt_one_iff.mp (x 1).isLt
      | ⟨2, _⟩ => rfl)
    rw [hx]
    refine (hw (x 2)).trans (congrArg G (funext fun a => Fin.ext ?_))
    match a with
    | ⟨0, _⟩ => rfl
    | ⟨1, _⟩ => rfl
    | ⟨2, _⟩ => show q + (x 2).val = q + 1 * (x 2).val; omega
  · intro y hy
    rw [Rect.mem_set_unit] at hy
    have h0 := hy 0
    have h1 := hy 1
    simp only [Matrix.cons_val_zero, Matrix.cons_val_one] at h0 h1
    omega
  · intro l h1 h2
    rw [Rect.mem_set_unit]
    intro a
    match a with
    | ⟨0, _⟩ => exact ⟨le_refl k, Nat.lt_succ_self k⟩
    | ⟨1, _⟩ => exact ⟨le_refl g, Nat.lt_succ_self g⟩
    | ⟨2, _⟩ => exact ⟨h1, h2⟩
/-- The same of a stored piece of packed codes. -/
theorem piece4 {q k : ℕ} {off : Fin 4 → ℕ} (inb : ∀ a, off a + (![1, 1, 64, 256] : Fin 4 → ℕ) a ≤ S1x20x64x1024.size a) (hk : k < 20) (hq : q + 256 ≤ 1024) (e : off = ![0, k, 0, q])
    (w : (⟨4, ![1, 1, 64, 256]⟩ : Shape).Idx → BitVec 8) (G : S1x20x64x1024.Idx → BitVec 8) (hw : ∀ (r : Fin 64) (l : Fin 256), w (ix4 0 0 r l) = G (ix4 0 ⟨k, hk⟩ r ⟨q + l.val, by omega⟩)) :
    (∀ x, w x = G ((Rect.unit (s := S1x20x64x1024) off ![1, 1, 64, 256] inb).emb x)) ∧ (∀ y ∈ (Rect.unit (s := S1x20x64x1024) off ![1, 1, 64, 256] inb).set, (y 1).val = k)
    ∧ ∀ (r : Fin 64) (l : Fin 1024), q ≤ l.val → l.val < q + 256 → ix4 0 ⟨k, hk⟩ r l ∈ (Rect.unit (s := S1x20x64x1024) off ![1, 1, 64, 256] inb).set := by
  subst e
  refine ⟨?_, ?_, ?_⟩
  · intro (x : (⟨4, ![1, 1, 64, 256]⟩ : Shape).Idx)
    have hx : x = ix4 0 0 (x 2) (x 3) := funext fun a => Fin.ext (by
      match a with
      | ⟨0, _⟩ => exact Nat.lt_one_iff.mp (x 0).isLt
      | ⟨1, _⟩ => exact Nat.lt_one_iff.mp (x 1).isLt
      | ⟨2, _⟩ => rfl
      | ⟨3, _⟩ => rfl)
    rw [hx]
    refine (hw (x 2) (x 3)).trans (congrArg G (funext fun a => Fin.ext ?_))
    match a with
    | ⟨0, _⟩ => rfl
    | ⟨1, _⟩ => rfl
    | ⟨2, _⟩ => show (x 2).val = 0 + 1 * (x 2).val; omega
    | ⟨3, _⟩ => show q + (x 3).val = q + 1 * (x 3).val; omega
  · intro y hy
    rw [Rect.mem_set_unit] at hy
    have h1 := hy 1
    simp only [Matrix.cons_val_zero, Matrix.cons_val_one] at h1
    omega
  · intro r l h1 h2
    rw [Rect.mem_set_unit]
    intro a
    match a with
    | ⟨0, _⟩ => exact ⟨le_refl 0, Nat.one_pos⟩
    | ⟨1, _⟩ => exact ⟨le_refl k, Nat.lt_succ_self k⟩
    | ⟨2, _⟩ => exact ⟨Nat.zero_le _, by show r.val < 0 + 64; omega⟩
    | ⟨3, _⟩ => exact ⟨h1, h2⟩

variable (c : Dev nD) (i : grid1.Coords) (M3 : Memref sig .tc .smem S20 .f32) (h3 : M3.IsWhole) (M4 : Memref sig .tc .vmem S24x128 .f32) (h4 : M4.IsWhole) (M5 : Memref sig .tc .vmem S1024x128 .bf16) (h5 : M5.IsWhole) (M6 : Memref sig .tc .vmem S8x1024 .i32) (h6 : M6.IsWhole) (M7 : Memref sig .tc .vmem S1x128x128 .f32) (h7 : M7.IsWhole) (M8 : Memref sig .tc .vmem S1024x256 .bf16) (h8 : M8.IsWhole) (M9 : Memref sig .tc .vmem S20x8x1024 .f32) (h9 : M9.IsWhole) (M10 : Memref sig .tc .vmem S1x20x64x1024 .i8) (h10 : M10.IsWhole) (M11 : Memref sig .tc .vmem S20x8x1024 .f32) (h11 : M11.IsWhole) (M12 : Memref sig .tc .vmem S128x128 .i32) (h12 : M12.IsWhole) (M13 : Memref sig .tc .vmem S8x1024 .f32) (h13 : M13.IsWhole) (M14 : Memref sig .tc .vmem S8x20x128x384 .bf16) (h14 : M14.IsWhole) (M15 : Memref sig .tc .vmem S128x1024 .f32) (h15 : M15.IsWhole) (M16 : Memref sig .tc .vmem S128x1024 .f32) (h16 : M16.IsWhole) (M17 : Memref sig .tc .vmem S24x1024 .f32) (h17 : M17.IsWhole) (M18 : Memref sig .tc .vmem S24x1024 .f32) (h18 : M18.IsWhole) (M19 : Memref sig .tc .vmem S24x1024 .f32) (h19 : M19.IsWhole) (a2 : BitVec 32) (X14 : BufTy.Contents (Elt Ideal) M14.view.ty) (X15 : BufTy.Contents (Elt Ideal) M15.view.ty) (X16 : BufTy.Contents (Elt Ideal) M16.view.ty) (X17 : BufTy.Contents (Elt Ideal) M17.view.ty) (X18 : BufTy.Contents (Elt Ideal) M18.view.ty) (X19 : BufTy.Contents (Elt Ideal) M19.view.ty)

theorem trips_le (k : Fin k1_t1_loop.trips) : k.val < 20 := Nat.lt_of_lt_of_le k.isLt k1_t1_abs.2.1

/-- One trip's loss, a quarter of the rows at a time: what is stored at a place is the loss there. -/
theorem lossQ {off35 off18 : Fin 2 → ℕ} {off24 : Fin 4 → ℕ} (k : Fin 20) (g : Fin 8) (q : ℕ) (hq : q + 256 ≤ 1024) (inb24 : ∀ a, off24 a + S1x1x128x384.size a ≤ S8x20x128x384.size a) (inb15 : ∀ a, off35 a + S128x256.size a ≤ S128x1024.size a) (inb18 : ∀ a, off18 a + S1x256.size a ≤ S24x1024.size a)
    (e24 : off24 = ![g.val, k.val, 0, 0]) (e15 : off35 = ![0, q]) (e18 : off18 = ![k.val, q]) (l : Fin 256) :
    k1_pay42 (F := Ideal) (k1_pay37 (F := Ideal) (M14.view.readAt (Elt Ideal) (Rect.unit (s := S8x20x128x384) off24 S1x1x128x384.size inb24).toLoadRect X14))
        (k1_pay38 (F := Ideal) (M15.view.readAt (Elt Ideal) (Rect.unit (s := S128x1024) off35 S128x256.size inb15).toLoadRect X15) (M18.view.readAt (Elt Ideal) (Rect.unit (s := S24x1024) off18 S1x256.size inb18).toLoadRect X18))
        (k1_pay39 (F := Ideal) (M15.view.readAt (Elt Ideal) (Rect.unit (s := S128x1024) off35 S128x256.size inb15).toLoadRect X15) (M18.view.readAt (Elt Ideal) (Rect.unit (s := S24x1024) off18 S1x256.size inb18).toLoadRect X18))
        (k1_pay40 (F := Ideal) (M15.view.readAt (Elt Ideal) (Rect.unit (s := S128x1024) off35 S128x256.size inb15).toLoadRect X15) (M18.view.readAt (Elt Ideal) (Rect.unit (s := S24x1024) off18 S1x256.size inb18).toLoadRect X18))
        (M16.view.readAt (Elt Ideal) (Rect.unit (s := S128x1024) off35 S128x256.size inb15).toLoadRect X16) (M19.view.readAt (Elt Ideal) (Rect.unit (s := S24x1024) off18 S1x256.size inb18).toLoadRect X19) (ix3 0 0 l)
      = lossV (M14.view.read (Elt Ideal) X14) (M15.view.read (Elt Ideal) X15) (M16.view.read (Elt Ideal) X16) (M18.view.read (Elt Ideal) X18) (M19.view.read (Elt Ideal) X19) g k ⟨q + l.val, by omega⟩ := by
  rw [pay42_at]
  have h15 : ∀ j : Fin 128, M15.view.readAt (Elt Ideal) (Rect.unit (s := S128x1024) off35 S128x256.size inb15).toLoadRect X15 (ix2 j l) = M15.view.read (Elt Ideal) X15 (ix2 j ⟨q + l.val, by omega⟩) :=
    fun j => readAt2 M15.view X15 inb15 e15 _ _ (Nat.zero_add _).symm rfl
  have h16 : ∀ j : Fin 128, M16.view.readAt (Elt Ideal) (Rect.unit (s := S128x1024) off35 S128x256.size inb15).toLoadRect X16 (ix2 j l) = M16.view.read (Elt Ideal) X16 (ix2 j ⟨q + l.val, by omega⟩) :=
    fun j => readAt2 M16.view X16 inb15 e15 _ _ (Nat.zero_add _).symm rfl
  have h18 : M18.view.readAt (Elt Ideal) (Rect.unit (s := S24x1024) off18 S1x256.size inb18).toLoadRect X18 (ix2 0 l) = M18.view.read (Elt Ideal) X18 (ix2 ⟨k.val, by omega⟩ ⟨q + l.val, by omega⟩) :=
    readAt2 M18.view X18 inb18 e18 _ _ rfl rfl
  have h19 : M19.view.readAt (Elt Ideal) (Rect.unit (s := S24x1024) off18 S1x256.size inb18).toLoadRect X19 (ix2 0 l) = M19.view.read (Elt Ideal) X19 (ix2 ⟨k.val, by omega⟩ ⟨q + l.val, by omega⟩) :=
    readAt2 M19.view X19 inb18 e18 _ _ rfl rfl
  have h14 : ∀ (j : Fin 128) (x : Fin 384), M14.view.readAt (Elt Ideal) (Rect.unit (s := S8x20x128x384) off24 S1x1x128x384.size inb24).toLoadRect X14 (ix4 0 0 j x) = M14.view.read (Elt Ideal) X14 (ix4 g k j x) :=
    fun j x => readAt4 M14.view X14 inb24 e24 _ _ rfl rfl (Nat.zero_add _).symm (Nat.zero_add _).symm
  simp only [h15, h16, h18, h19, h14]
  rfl

/-- One trip's packed codes, a quarter of the rows at a time. -/
theorem byteQ {off35 off18 : Fin 2 → ℕ} (k : Fin 20) (q : ℕ) (hq : q + 256 ≤ 1024) (inb15 : ∀ a, off35 a + S128x256.size a ≤ S128x1024.size a) (inb18 : ∀ a, off18 a + S1x256.size a ≤ S24x1024.size a)
    (e15 : off35 = ![0, q]) (e18 : off18 = ![k.val, q]) (r : Fin 64) (l : Fin 256) :
    k1_pay41 (F := Ideal) (M15.view.readAt (Elt Ideal) (Rect.unit (s := S128x1024) off35 S128x256.size inb15).toLoadRect X15) (M18.view.readAt (Elt Ideal) (Rect.unit (s := S24x1024) off18 S1x256.size inb18).toLoadRect X18) (ix4 0 0 r l)
      = byteV (M15.view.read (Elt Ideal) X15) (M18.view.read (Elt Ideal) X18) k r ⟨q + l.val, by omega⟩ := by
  rw [pay41_at]
  have h15 : ∀ j : Fin 128, M15.view.readAt (Elt Ideal) (Rect.unit (s := S128x1024) off35 S128x256.size inb15).toLoadRect X15 (ix2 j l) = M15.view.read (Elt Ideal) X15 (ix2 j ⟨q + l.val, by omega⟩) :=
    fun j => readAt2 M15.view X15 inb15 e15 _ _ (Nat.zero_add _).symm rfl
  have h18 : M18.view.readAt (Elt Ideal) (Rect.unit (s := S24x1024) off18 S1x256.size inb18).toLoadRect X18 (ix2 0 l) = M18.view.read (Elt Ideal) X18 (ix2 ⟨k.val, by omega⟩ ⟨q + l.val, by omega⟩) :=
    readAt2 M18.view X18 inb18 e18 _ _ rfl rfl
  simp only [h15, h18]
  rfl

abbrev L9 (k : Fin k1_t1_loop.trips) := (tripL_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k).1
abbrev L10 (k : Fin k1_t1_loop.trips) := (tripL_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k).2.1
abbrev L11 (k : Fin k1_t1_loop.trips) := (tripL_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k).2.2

variable (k : Fin k1_t1_loop.trips)
/-- Trip `k`'s stores of the loss: each stores the loss of ratio `k` into the point's row, and together they fill it. -/
theorem trip9 (G : S20x8x1024.Idx → EReal)
    (hG : ∀ l : Fin 1024, G (ix3 ⟨k.val, trips_le k⟩ ⟨(i 2).val, (i 2).isLt⟩ l) = lossV (M14.view.read (Elt Ideal) X14) (M15.view.read (Elt Ideal) X15) (M16.view.read (Elt Ideal) X16) (M18.view.read (Elt Ideal) X18) (M19.view.read (Elt Ideal) X19) ⟨(i 2).val, (i 2).isLt⟩ ⟨k.val, trips_le k⟩ l) :
    (∀ p ∈ L9 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k, (∀ x : p.1.shape.Idx, p.2 x = G (p.1.emb x)) ∧ (∀ y ∈ p.1.set, (y 0).val = k.val ∧ (y 1).val = (i 2).val))
    ∧ ∀ l : Fin 1024, ∃ p ∈ L9 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k, ix3 ⟨k.val, trips_le k⟩ ⟨(i 2).val, (i 2).isLt⟩ l ∈ p.1.set := by
  unfold L9 tripL_k1_t1 trip_k1_t1
  dsimp only
  have P36 := piece3 (W := 256) (q := 768) (k1_off36_inb i k) (trips_le k) (i 2).isLt (by norm_num) (k1_off36_eq i k) _ G
    (fun l => (lossQ M14 M15 M16 M18 M19 X14 X15 X16 X18 X19 ⟨k.val, trips_le k⟩ ⟨(i 2).val, (i 2).isLt⟩ 768 (by norm_num) (k1_off24_inb i k) inb_S128x1024_S128x256_0_768 (k1_off34_inb k) (k1_off24_eq i k) rfl (k1_off34_eq k) l).trans (hG _).symm)
  have P33 := piece3 (W := 256) (q := 512) (k1_off33_inb i k) (trips_le k) (i 2).isLt (by norm_num) (k1_off33_eq i k) _ G
    (fun l => (lossQ M14 M15 M16 M18 M19 X14 X15 X16 X18 X19 ⟨k.val, trips_le k⟩ ⟨(i 2).val, (i 2).isLt⟩ 512 (by norm_num) (k1_off24_inb i k) inb_S128x1024_S128x256_0_512 (k1_off31_inb k) (k1_off24_eq i k) rfl (k1_off31_eq k) l).trans (hG _).symm)
  have P30 := piece3 (W := 256) (q := 256) (k1_off30_inb i k) (trips_le k) (i 2).isLt (by norm_num) (k1_off30_eq i k) _ G
    (fun l => (lossQ M14 M15 M16 M18 M19 X14 X15 X16 X18 X19 ⟨k.val, trips_le k⟩ ⟨(i 2).val, (i 2).isLt⟩ 256 (by norm_num) (k1_off24_inb i k) inb_S128x1024_S128x256_0_256 (k1_off28_inb k) (k1_off24_eq i k) rfl (k1_off28_eq k) l).trans (hG _).symm)
  have P27 := piece3 (W := 256) (q := 0) (k1_off27_inb i k) (trips_le k) (i 2).isLt (by norm_num) (k1_off27_eq i k) _ G
    (fun l => (lossQ M14 M15 M16 M18 M19 X14 X15 X16 X18 X19 ⟨k.val, trips_le k⟩ ⟨(i 2).val, (i 2).isLt⟩ 0 (by norm_num) (k1_off24_inb i k) inb_S128x1024_S128x256_0_0 (k1_off25_inb k) (k1_off24_eq i k) rfl (k1_off25_eq k) l).trans (hG _).symm)
  refine ⟨?_, ?_⟩
  · intro p hp
    simp only [List.mem_cons, List.not_mem_nil, or_false] at hp
    rcases hp with rfl | rfl | rfl | rfl
    · exact ⟨P36.1, P36.2.1⟩
    · exact ⟨P33.1, P33.2.1⟩
    · exact ⟨P30.1, P30.2.1⟩
    · exact ⟨P27.1, P27.2.1⟩
  · intro l
    rcases Nat.lt_or_ge l.val 256 with h | h
    · exact ⟨_, List.mem_cons_of_mem _ (List.mem_cons_of_mem _ (List.mem_cons_of_mem _ List.mem_cons_self)), P27.2.2 l (Nat.zero_le _) h⟩
    rcases Nat.lt_or_ge l.val 512 with h2 | h2
    · exact ⟨_, List.mem_cons_of_mem _ (List.mem_cons_of_mem _ List.mem_cons_self), P30.2.2 l h h2⟩
    rcases Nat.lt_or_ge l.val 768 with h3 | h3
    · exact ⟨_, List.mem_cons_of_mem _ List.mem_cons_self, P33.2.2 l h2 h3⟩
    · exact ⟨_, List.mem_cons_self, P36.2.2 l h3 l.isLt⟩

/-- Trip `k`'s stores of the packed codes. -/
theorem trip10 (G : S1x20x64x1024.Idx → BitVec 8)
    (hG : ∀ (r : Fin 64) (l : Fin 1024), G (ix4 0 ⟨k.val, trips_le k⟩ r l) = byteV (M15.view.read (Elt Ideal) X15) (M18.view.read (Elt Ideal) X18) ⟨k.val, trips_le k⟩ r l) :
    (∀ p ∈ L10 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k, (∀ x : p.1.shape.Idx, p.2 x = G (p.1.emb x)) ∧ (∀ y ∈ p.1.set, (y 1).val = k.val))
    ∧ ∀ (r : Fin 64) (l : Fin 1024), ∃ p ∈ L10 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k, ix4 0 ⟨k.val, trips_le k⟩ r l ∈ p.1.set := by
  unfold L10 tripL_k1_t1 trip_k1_t1
  dsimp only
  have P35 := piece4 (q := 768) (k1_off35_inb k) (trips_le k) (by norm_num) (k1_off35_eq k) _ G
    (fun r l => (byteQ M15 M18 X15 X18 ⟨k.val, trips_le k⟩ 768 (by norm_num) inb_S128x1024_S128x256_0_768 (k1_off34_inb k) rfl (k1_off34_eq k) r l).trans (hG _ _).symm)
  have P32 := piece4 (q := 512) (k1_off32_inb k) (trips_le k) (by norm_num) (k1_off32_eq k) _ G
    (fun r l => (byteQ M15 M18 X15 X18 ⟨k.val, trips_le k⟩ 512 (by norm_num) inb_S128x1024_S128x256_0_512 (k1_off31_inb k) rfl (k1_off31_eq k) r l).trans (hG _ _).symm)
  have P29 := piece4 (q := 256) (k1_off29_inb k) (trips_le k) (by norm_num) (k1_off29_eq k) _ G
    (fun r l => (byteQ M15 M18 X15 X18 ⟨k.val, trips_le k⟩ 256 (by norm_num) inb_S128x1024_S128x256_0_256 (k1_off28_inb k) rfl (k1_off28_eq k) r l).trans (hG _ _).symm)
  have P26 := piece4 (q := 0) (k1_off26_inb k) (trips_le k) (by norm_num) (k1_off26_eq k) _ G
    (fun r l => (byteQ M15 M18 X15 X18 ⟨k.val, trips_le k⟩ 0 (by norm_num) inb_S128x1024_S128x256_0_0 (k1_off25_inb k) rfl (k1_off25_eq k) r l).trans (hG _ _).symm)
  refine ⟨?_, ?_⟩
  · intro p hp
    simp only [List.mem_cons, List.not_mem_nil, or_false] at hp
    rcases hp with rfl | rfl | rfl | rfl
    · exact ⟨P35.1, P35.2.1⟩
    · exact ⟨P32.1, P32.2.1⟩
    · exact ⟨P29.1, P29.2.1⟩
    · exact ⟨P26.1, P26.2.1⟩
  · intro r l
    rcases Nat.lt_or_ge l.val 256 with h | h
    · exact ⟨_, List.mem_cons_of_mem _ (List.mem_cons_of_mem _ (List.mem_cons_of_mem _ List.mem_cons_self)), P26.2.2 r l (Nat.zero_le _) h⟩
    rcases Nat.lt_or_ge l.val 512 with h2 | h2
    · exact ⟨_, List.mem_cons_of_mem _ (List.mem_cons_of_mem _ List.mem_cons_self), P29.2.2 r l h h2⟩
    rcases Nat.lt_or_ge l.val 768 with h3 | h3
    · exact ⟨_, List.mem_cons_of_mem _ List.mem_cons_self, P32.2.2 r l h2 h3⟩
    · exact ⟨_, List.mem_cons_self, P35.2.2 r l h3 l.isLt⟩
/-- Trip `k`'s store of the scales. -/
theorem trip11 (G : S20x8x1024.Idx → EReal)
    (hG : ∀ l : Fin 1024, G (ix3 ⟨k.val, trips_le k⟩ ⟨(i 2).val, (i 2).isLt⟩ l) = (M17.view.read (Elt Ideal) X17) (ix2 ⟨k.val, (trips_le k).trans (by norm_num)⟩ l)) :
    (∀ p ∈ L11 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k, (∀ x : p.1.shape.Idx, p.2 x = G (p.1.emb x)) ∧ (∀ y ∈ p.1.set, (y 0).val = k.val ∧ (y 1).val = (i 2).val))
    ∧ ∀ l : Fin 1024, ∃ p ∈ L11 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k, ix3 ⟨k.val, trips_le k⟩ ⟨(i 2).val, (i 2).isLt⟩ l ∈ p.1.set := by
  unfold L11 tripL_k1_t1 trip_k1_t1
  dsimp only
  have P := piece3 (W := 1024) (q := 0) (k1_off23_inb i k) (trips_le k) (i 2).isLt (by norm_num) (k1_off23_eq i k) (k1_pay36 (F := Ideal) (M17.view.readAt (Elt Ideal) (Rect.unit (s := S24x1024) (k1_off22 k) S1x1024.size (k1_off22_inb k)).toLoadRect X17)) G
    (fun l => by
      refine Eq.trans ?_ (hG _).symm
      pointwise [k1_pay36]
      exact readAt2 M17.view X17 (k1_off22_inb k) (k1_off22_eq k) _ _ rfl (Nat.zero_add _).symm)
  refine ⟨?_, ?_⟩
  · intro p hp
    simp only [List.mem_cons, List.not_mem_nil, or_false] at hp
    subst hp
    exact ⟨P.1, P.2.1⟩
  · intro l
    exact ⟨_, List.mem_cons_self, P.2.2 l (Nat.zero_le _) (by omega)⟩
end Cert.KernelIdeal.Pf
end
-- ==== Proof.KI.Loop.lean ====
module
public import proofs.«01_k».proof.Proof.KI.Trip
public import Idealize.ShloMosaic.Lib.Pointwise
public import Idealize.ShloMosaic.Lib.WritesUnit
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

variable (c : Dev nD) (i : grid1.Coords) (M3 : Memref sig .tc .smem S20 .f32) (h3 : M3.IsWhole) (M4 : Memref sig .tc .vmem S24x128 .f32) (h4 : M4.IsWhole) (M5 : Memref sig .tc .vmem S1024x128 .bf16) (h5 : M5.IsWhole) (M6 : Memref sig .tc .vmem S8x1024 .i32) (h6 : M6.IsWhole) (M7 : Memref sig .tc .vmem S1x128x128 .f32) (h7 : M7.IsWhole) (M8 : Memref sig .tc .vmem S1024x256 .bf16) (h8 : M8.IsWhole) (M9 : Memref sig .tc .vmem S20x8x1024 .f32) (h9 : M9.IsWhole) (M10 : Memref sig .tc .vmem S1x20x64x1024 .i8) (h10 : M10.IsWhole) (M11 : Memref sig .tc .vmem S20x8x1024 .f32) (h11 : M11.IsWhole) (M12 : Memref sig .tc .vmem S128x128 .i32) (h12 : M12.IsWhole) (M13 : Memref sig .tc .vmem S8x1024 .f32) (h13 : M13.IsWhole) (M14 : Memref sig .tc .vmem S8x20x128x384 .bf16) (h14 : M14.IsWhole) (M15 : Memref sig .tc .vmem S128x1024 .f32) (h15 : M15.IsWhole) (M16 : Memref sig .tc .vmem S128x1024 .f32) (h16 : M16.IsWhole) (M17 : Memref sig .tc .vmem S24x1024 .f32) (h17 : M17.IsWhole) (M18 : Memref sig .tc .vmem S24x1024 .f32) (h18 : M18.IsWhole) (M19 : Memref sig .tc .vmem S24x1024 .f32) (h19 : M19.IsWhole) (a2 : BitVec 32) (X14 : BufTy.Contents (Elt Ideal) M14.view.ty) (X15 : BufTy.Contents (Elt Ideal) M15.view.ty) (X16 : BufTy.Contents (Elt Ideal) M16.view.ty) (X17 : BufTy.Contents (Elt Ideal) M17.view.ty) (X18 : BufTy.Contents (Elt Ideal) M18.view.ty) (X19 : BufTy.Contents (Elt Ideal) M19.view.ty)
theorem trips_eq : k1_t1_loop.trips = 20 := by decide +kernel

/-- The losses the loop stores, as a function of the place. -/
def G9 : S20x8x1024.Idx → EReal := fun y => lossV (M14.view.read (Elt Ideal) X14) (M15.view.read (Elt Ideal) X15) (M16.view.read (Elt Ideal) X16) (M18.view.read (Elt Ideal) X18) (M19.view.read (Elt Ideal) X19) ⟨(i 2).val, (i 2).isLt⟩ (y 0) (y 2)
/-- The packed codes the loop stores. -/
def G10 : S1x20x64x1024.Idx → BitVec 8 := fun y => byteV (M15.view.read (Elt Ideal) X15) (M18.view.read (Elt Ideal) X18) (y 1) (y 2) (y 3)
/-- The scales the loop stores. -/
def G11 : S20x8x1024.Idx → EReal := fun y => (M17.view.read (Elt Ideal) X17) (ix2 ⟨(y 0).val, Nat.lt_trans (y 0).isLt (by decide)⟩ (y 2))

/-- After `n` trips: every store agrees with the whole function and lies in the point's row, and the first `n` ratios are stored. -/
theorem loop9 : ∀ n : ℕ, n ≤ k1_t1_loop.trips →
    (∀ p ∈ (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 n).1, (∀ x : p.1.shape.Idx, p.2 x = G9 i M14 M15 M16 M18 M19 X14 X15 X16 X18 X19 (p.1.emb x)) ∧ (∀ y ∈ p.1.set, (y 1).val = (i 2).val))
    ∧ ∀ (k : Fin 20) (l : Fin 1024), k.val < n → ∃ p ∈ (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 n).1, ix3 k ⟨(i 2).val, (i 2).isLt⟩ l ∈ p.1.set
  | 0, _ => ⟨fun p hp => absurd hp (by rw [pb_k1_t1.eq_1]; exact List.not_mem_nil), fun k l h => absurd h (Nat.not_lt_zero _)⟩
  | n + 1, h => by
    have ih := loop9 n (Nat.le_of_succ_le h)
    have hs := pb_k1_t1_succ (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 ⟨n, h⟩
    have ht := trip9 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 ⟨n, h⟩ (G9 i M14 M15 M16 M18 M19 X14 X15 X16 X18 X19) (fun l => rfl)
    have e := congrArg (fun z => z.1) hs
    dsimp only at e
    rw [e]
    refine ⟨?_, ?_⟩
    · intro p hp
      rcases List.mem_append.mp hp with hp | hp
      · exact ⟨(ht.1 p hp).1, fun y hy => ((ht.1 p hp).2 y hy).2⟩
      · exact ih.1 p hp
    · intro k l hk
      rcases Nat.lt_or_ge k.val n with h' | h'
      · obtain ⟨p, hp, hy⟩ := ih.2 k l h'
        exact ⟨p, List.mem_append_right _ hp, hy⟩
      · obtain ⟨p, hp, hy⟩ := ht.2 l
        have hkn : k = ⟨n, trips_le ⟨n, h⟩⟩ := Fin.ext (by show k.val = n; omega)
        rw [hkn]
        exact ⟨p, List.mem_append_left _ hp, hy⟩
/-- After the whole loop: the point's row holds the stored values, the other rows what they held. -/
theorem loop9_read (f : BufTy.Contents (Elt Ideal) M9.view.ty) (k : Fin 20) (r : Fin 8) (l : Fin 1024) :
    M9.view.read (Elt Ideal) (M9.view.writes (Elt Ideal) f (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k1_t1_loop.trips).1) (ix3 k r l)
      = if r.val = (i 2).val then G9 i M14 M15 M16 M18 M19 X14 X15 X16 X18 X19 (ix3 k r l) else M9.view.read (Elt Ideal) f (ix3 k r l) := by
  have h := loop9 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k1_t1_loop.trips le_rfl
  split_ifs with hr
  · refine View.read_writes_apply_of_pieces _ _ _ _ (fun p hp => (h.1 p hp).1) _ ?_
    have := h.2 k l (by rw [trips_eq]; exact k.isLt)
    rwa [show r = ⟨(i 2).val, (i 2).isLt⟩ from Fin.ext hr]
  · refine View.read_writes_apply_of_forall_not_mem _ _ _ _ (fun p hp hy => hr ?_)
    exact (h.1 p hp).2 _ hy

/-- After `n` trips: every store agrees with the whole function and lies in the point's row, and the first `n` ratios are stored. -/
theorem loop11 : ∀ n : ℕ, n ≤ k1_t1_loop.trips →
    (∀ p ∈ (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 n).2.2, (∀ x : p.1.shape.Idx, p.2 x = G11 M17 X17 (p.1.emb x)) ∧ (∀ y ∈ p.1.set, (y 1).val = (i 2).val))
    ∧ ∀ (k : Fin 20) (l : Fin 1024), k.val < n → ∃ p ∈ (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 n).2.2, ix3 k ⟨(i 2).val, (i 2).isLt⟩ l ∈ p.1.set
  | 0, _ => ⟨fun p hp => absurd hp (by rw [pb_k1_t1.eq_1]; exact List.not_mem_nil), fun k l h => absurd h (Nat.not_lt_zero _)⟩
  | n + 1, h => by
    have ih := loop11 n (Nat.le_of_succ_le h)
    have hs := pb_k1_t1_succ (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 ⟨n, h⟩
    have ht := trip11 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 ⟨n, h⟩ (G11 M17 X17) (fun l => rfl)
    have e := congrArg (fun z => z.2.2) hs
    dsimp only at e
    rw [e]
    refine ⟨?_, ?_⟩
    · intro p hp
      rcases List.mem_append.mp hp with hp | hp
      · exact ⟨(ht.1 p hp).1, fun y hy => ((ht.1 p hp).2 y hy).2⟩
      · exact ih.1 p hp
    · intro k l hk
      rcases Nat.lt_or_ge k.val n with h' | h'
      · obtain ⟨p, hp, hy⟩ := ih.2 k l h'
        exact ⟨p, List.mem_append_right _ hp, hy⟩
      · obtain ⟨p, hp, hy⟩ := ht.2 l
        have hkn : k = ⟨n, trips_le ⟨n, h⟩⟩ := Fin.ext (by show k.val = n; omega)
        rw [hkn]
        exact ⟨p, List.mem_append_left _ hp, hy⟩
/-- After the whole loop: the point's row holds the stored values, the other rows what they held. -/
theorem loop11_read (f : BufTy.Contents (Elt Ideal) M11.view.ty) (k : Fin 20) (r : Fin 8) (l : Fin 1024) :
    M11.view.read (Elt Ideal) (M11.view.writes (Elt Ideal) f (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k1_t1_loop.trips).2.2) (ix3 k r l)
      = if r.val = (i 2).val then G11 M17 X17 (ix3 k r l) else M11.view.read (Elt Ideal) f (ix3 k r l) := by
  have h := loop11 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k1_t1_loop.trips le_rfl
  split_ifs with hr
  · refine View.read_writes_apply_of_pieces _ _ _ _ (fun p hp => (h.1 p hp).1) _ ?_
    have := h.2 k l (by rw [trips_eq]; exact k.isLt)
    rwa [show r = ⟨(i 2).val, (i 2).isLt⟩ from Fin.ext hr]
  · refine View.read_writes_apply_of_forall_not_mem _ _ _ _ (fun p hp hy => hr ?_)
    exact (h.1 p hp).2 _ hy

theorem loop10 : ∀ n : ℕ, n ≤ k1_t1_loop.trips →
    (∀ p ∈ (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 n).2.1, (∀ x : p.1.shape.Idx, p.2 x = G10 M15 M18 X15 X18 (p.1.emb x)))
    ∧ ∀ (k : Fin 20) (r : Fin 64) (l : Fin 1024), k.val < n → ∃ p ∈ (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 n).2.1, ix4 0 k r l ∈ p.1.set
  | 0, _ => ⟨fun p hp => absurd hp (by rw [pb_k1_t1.eq_1]; exact List.not_mem_nil), fun k r l h => absurd h (Nat.not_lt_zero _)⟩
  | n + 1, h => by
    have ih := loop10 n (Nat.le_of_succ_le h)
    have hs := pb_k1_t1_succ (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 ⟨n, h⟩
    have ht := trip10 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 ⟨n, h⟩ (G10 M15 M18 X15 X18) (fun r l => rfl)
    have e := congrArg (fun z => z.2.1) hs
    dsimp only at e
    rw [e]
    refine ⟨?_, ?_⟩
    · intro p hp
      rcases List.mem_append.mp hp with hp | hp
      · exact (ht.1 p hp).1
      · exact ih.1 p hp
    · intro k r l hk
      rcases Nat.lt_or_ge k.val n with h' | h'
      · obtain ⟨p, hp, hy⟩ := ih.2 k r l h'
        exact ⟨p, List.mem_append_right _ hp, hy⟩
      · obtain ⟨p, hp, hy⟩ := ht.2 r l
        have hkn : k = ⟨n, trips_le ⟨n, h⟩⟩ := Fin.ext (by show k.val = n; omega)
        rw [hkn]
        exact ⟨p, List.mem_append_left _ hp, hy⟩
/-- After the whole loop: the packed codes are the stored ones. -/
theorem loop10_read (f : BufTy.Contents (Elt Ideal) M10.view.ty) (k : Fin 20) (r : Fin 64) (l : Fin 1024) :
    M10.view.read (Elt Ideal) (M10.view.writes (Elt Ideal) f (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k1_t1_loop.trips).2.1) (ix4 0 k r l)
      = byteV (M15.view.read (Elt Ideal) X15) (M18.view.read (Elt Ideal) X18) k r l := by
  have h := loop10 c i M3 h3 M4 h4 M5 h5 M6 h6 M7 h7 M8 h8 M9 h9 M10 h10 M11 h11 M12 h12 M13 h13 M14 h14 M15 h15 M16 h16 M17 h17 M18 h18 M19 h19 a2 X14 X15 X16 X17 X18 X19 k1_t1_loop.trips le_rfl
  exact View.read_writes_apply_of_pieces _ _ (G10 M15 M18 X15 X18) _ (fun p hp => h.1 p hp) _ (h.2 k r l (by rw [trips_eq]; exact k.isLt))

end Cert.KernelIdeal.Pf
end
-- ==== Proof.KI.Slots.lean ====
module
public import proofs.«01_k».proof.Proof.KI.Loop
public import Idealize.ShloMosaic.Lib.VecWindow
public import Idealize.ShloMosaic.Lib.Pointwise
public import Idealize.ShloMosaic.Lib.WritesUnit
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

/-- The twenty clip ratios, as the float words both programs hold. -/
def ratW (k : Fin 20) : BitVec 32 := ![0x3F800000#32, 0x3F79999A#32, 0x3F733333#32, 0x3F6CCCCD#32, 0x3F666666#32, 0x3F600000#32, 0x3F59999A#32, 0x3F533333#32, 0x3F4CCCCD#32, 0x3F466666#32, 0x3F400000#32, 0x3F39999A#32, 0x3F333333#32, 0x3F2CCCCD#32, 0x3F266666#32, 0x3F200000#32, 0x3F19999A#32, 0x3F133333#32, 0x3F0CCCCD#32, 0x3F066666#32] k

/-- A matrix split in three parts laid side by side: it, the rest after it, and the rest after that. -/
def split3 (P : Fin 128 → Fin 128 → EReal) (a : Fin 128) (b : Fin 384) : EReal :=
  if h : b.val < 128 then P a ⟨b.val, h⟩ else if h' : b.val - 128 < 128 then P a ⟨b.val - 128, h'⟩ - P a ⟨b.val - 128, h'⟩
  else P a ⟨b.val - 128 - 128, by omega⟩ - P a ⟨b.val - 128 - 128, by omega⟩ - (P a ⟨b.val - 128 - 128, by omega⟩ - P a ⟨b.val - 128 - 128, by omega⟩)

theorem one_ratW : Ideal.ofBits .f32 (ratW 0) = 1 := Ideal.ofBits_one_f32

section
variable (c : Dev nD) {M7 : Memref sig .tc .vmem S1x128x128 .f32} (f7 : Bf Ideal c M7)

theorem slot0 (a : Fin 128) (b : Fin 384) : k1_pay5 (F := Ideal) (View.readAt (Elt Ideal) M7.view (Rect.unit (s := S1x128x128) ![0, 0, 0] ![1, 128, 128] inb_S1x128x128_S1x128x128_0_0_0).toLoadRect f7) (ix4 0 0 a b) = split3 (fun a b => M7.view.read (Elt Ideal) f7 (ix3 0 a b) * Ideal.ofBits .f32 (ratW 0)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay4, k1_pay5]
  simp only [split3, one_ratW, mul_one]

theorem slot1 (a : Fin 128) (b : Fin 384) : k1_pay6 (F := Ideal) (View.readAt (Elt Ideal) M7.view (Rect.unit (s := S1x128x128) ![0, 0, 0] ![1, 128, 128] inb_S1x128x128_S1x128x128_0_0_0).toLoadRect f7) (ix4 0 0 a b) = split3 (fun a b => M7.view.read (Elt Ideal) f7 (ix3 0 a b) * Ideal.ofBits .f32 (ratW 1)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay4, k1_pay6]
  rfl

theorem slot2 (a : Fin 128) (b : Fin 384) : k1_pay8 (F := Ideal) (searchRunA.sl.r_1 c M7 f7) (ix4 0 0 a b) = split3 (fun a b => M7.view.read (Elt Ideal) f7 (ix3 0 a b) * Ideal.ofBits .f32 (ratW 2)) a b := by
  simp only [searchRunA.sl.r_1]
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay4, k1_pay7, k1_pay8]
  rfl

theorem slot3 (a : Fin 128) (b : Fin 384) : k1_pay9 (F := Ideal) (searchRunA.sl.r c M7 f7) (ix4 0 0 a b) = split3 (fun a b => M7.view.read (Elt Ideal) f7 (ix3 0 a b) * Ideal.ofBits .f32 (ratW 3)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay4, k1_pay9]
  rfl

theorem slot4 (a : Fin 128) (b : Fin 384) : k1_pay10 (F := Ideal) (searchRunA.sl.r c M7 f7) (ix4 0 0 a b) = split3 (fun a b => M7.view.read (Elt Ideal) f7 (ix3 0 a b) * Ideal.ofBits .f32 (ratW 4)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay10, k1_pay4]
  rfl

theorem slot5 (a : Fin 128) (b : Fin 384) : k1_pay11 (F := Ideal) (searchRunA.sl.r c M7 f7) (ix4 0 0 a b) = split3 (fun a b => M7.view.read (Elt Ideal) f7 (ix3 0 a b) * Ideal.ofBits .f32 (ratW 5)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay11, k1_pay4]
  rfl

theorem slot6 (a : Fin 128) (b : Fin 384) : k1_pay12 (F := Ideal) (searchRunA.sl.r c M7 f7) searchRunA.sl.cst_64 (ix4 0 0 a b) = split3 (fun a b => M7.view.read (Elt Ideal) f7 (ix3 0 a b) * Ideal.ofBits .f32 (ratW 6)) a b := by
  simp only [searchRunA.sl.cst_64]
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay12, k1_pay4]
  rfl

theorem slot7 (a : Fin 128) (b : Fin 384) : k1_pay13 (F := Ideal) (searchRunA.sl.r c M7 f7) (ix4 0 0 a b) = split3 (fun a b => M7.view.read (Elt Ideal) f7 (ix3 0 a b) * Ideal.ofBits .f32 (ratW 7)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay13, k1_pay4]
  rfl

theorem slot8 (a : Fin 128) (b : Fin 384) : k1_pay14 (F := Ideal) (searchRunA.sl.r c M7 f7) (ix4 0 0 a b) = split3 (fun a b => M7.view.read (Elt Ideal) f7 (ix3 0 a b) * Ideal.ofBits .f32 (ratW 8)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay14, k1_pay4]
  rfl

theorem slot9 (a : Fin 128) (b : Fin 384) : k1_pay17 (F := Ideal) (searchRunA.sl.r_2 c M7 f7) (searchRunA.sl.r_3 c M7 f7) (ix4 0 0 a b) = split3 (fun a b => M7.view.read (Elt Ideal) f7 (ix3 0 a b) * Ideal.ofBits .f32 (ratW 9)) a b := by
  simp only [searchRunA.sl.r_3, searchRunA.sl.r_2]
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay15, k1_pay16, k1_pay17, k1_pay4]
  rfl

theorem slot10 (a : Fin 128) (b : Fin 384) : k1_pay18 (F := Ideal) (searchRunA.sl.r c M7 f7) (ix4 0 0 a b) = split3 (fun a b => M7.view.read (Elt Ideal) f7 (ix3 0 a b) * Ideal.ofBits .f32 (ratW 10)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay18, k1_pay4]
  rfl

theorem slot11 (a : Fin 128) (b : Fin 384) : k1_pay19 (F := Ideal) (searchRunA.sl.r c M7 f7) (ix4 0 0 a b) = split3 (fun a b => M7.view.read (Elt Ideal) f7 (ix3 0 a b) * Ideal.ofBits .f32 (ratW 11)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay19, k1_pay4]
  rfl

theorem slot12 (a : Fin 128) (b : Fin 384) : k1_pay24 (F := Ideal) (searchRunA.sl.r_4 c M7 f7) (searchRunA.sl.r_5 c M7 f7) (searchRunA.sl.r_6 c M7 f7) (ix4 0 0 a b) = split3 (fun a b => M7.view.read (Elt Ideal) f7 (ix3 0 a b) * Ideal.ofBits .f32 (ratW 12)) a b := by
  simp only [searchRunA.sl.r_5, searchRunA.sl.r_6, searchRunA.sl.r_4]
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay20, k1_pay21, k1_pay22, k1_pay23, k1_pay24, k1_pay4]
  rfl

theorem slot13 (a : Fin 128) (b : Fin 384) : k1_pay25 (F := Ideal) (searchRunA.sl.r c M7 f7) (ix4 0 0 a b) = split3 (fun a b => M7.view.read (Elt Ideal) f7 (ix3 0 a b) * Ideal.ofBits .f32 (ratW 13)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay25, k1_pay4]
  rfl

theorem slot14 (a : Fin 128) (b : Fin 384) : k1_pay26 (F := Ideal) (searchRunA.sl.r c M7 f7) (ix4 0 0 a b) = split3 (fun a b => M7.view.read (Elt Ideal) f7 (ix3 0 a b) * Ideal.ofBits .f32 (ratW 14)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay26, k1_pay4]
  rfl

theorem slot15 (a : Fin 128) (b : Fin 384) : k1_pay32 (F := Ideal) (searchRunA.sl.r_7 c M7 f7) (searchRunA.sl.r_8 c M7 f7) (searchRunA.sl.r_9 c M7 f7) (ix4 0 0 a b) = split3 (fun a b => M7.view.read (Elt Ideal) f7 (ix3 0 a b) * Ideal.ofBits .f32 (ratW 15)) a b := by
  simp only [searchRunA.sl.r_7, searchRunA.sl.r_9, searchRunA.sl.r_8]
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay27, k1_pay28, k1_pay29, k1_pay30, k1_pay31, k1_pay32, k1_pay4]
  rfl

theorem slot16 (a : Fin 128) (b : Fin 384) : k1_pay33 (F := Ideal) (searchRunA.sl.r c M7 f7) (ix4 0 0 a b) = split3 (fun a b => M7.view.read (Elt Ideal) f7 (ix3 0 a b) * Ideal.ofBits .f32 (ratW 16)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay33, k1_pay4]
  rfl

theorem slot17 (a : Fin 128) (b : Fin 384) : k1_pay34 (F := Ideal) (searchRunA.sl.r c M7 f7) (ix4 0 0 a b) = split3 (fun a b => M7.view.read (Elt Ideal) f7 (ix3 0 a b) * Ideal.ofBits .f32 (ratW 17)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay34, k1_pay4]
  rfl

theorem slot18 (a : Fin 128) (b : Fin 384) : k1_pay60 (F := Ideal) (searchRunA.sl.r_10 c M7 f7) (ix4 0 0 a b) = split3 (fun a b => M7.view.read (Elt Ideal) f7 (ix3 0 a b) * Ideal.ofBits .f32 (ratW 18)) a b := by
  simp only [searchRunA.sl.r_10]
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay35, k1_pay4, k1_pay60]
  rfl

theorem slot19 (a : Fin 128) (b : Fin 384) : k1_pay61 (F := Ideal) (searchRunA.sl.r c M7 f7) (ix4 0 0 a b) = split3 (fun a b => M7.view.read (Elt Ideal) f7 (ix3 0 a b) * Ideal.ofBits .f32 (ratW 19)) a b := by
  have hv : (View.readAt (Elt Ideal) M7.view (Rect.unit (s := S1x128x128) ![0, 0, 0] ![1, 128, 128] inb_S1x128x128_S1x128x128_0_0_0).toLoadRect f7) = M7.view.read (Elt Ideal) f7 := View.readAt_full M7.view f7 inb_S1x128x128_S1x128x128_0_0_0
  try unfold searchRunA.sl.r
  rw [hv]
  generalize M7.view.read (Elt Ideal) f7 = v
  pointwise [k1_pay4, k1_pay61]
  rfl
end

/-- A store of one slot: its values, the slots it touches, and that it covers its own. -/
theorem pieceS {g k : ℕ} {off : Fin 4 → ℕ} (inb : ∀ a, off a + (![1, 1, 128, 384] : Fin 4 → ℕ) a ≤ S8x20x128x384.size a) (hg : g < 8) (hk : k < 20) (e : off = ![g, k, 0, 0])
    (w : (⟨4, ![1, 1, 128, 384]⟩ : Shape).Idx → EReal) (G : S8x20x128x384.Idx → EReal) (hw : ∀ (r : Fin 128) (l : Fin 384), w (ix4 0 0 r l) = G (ix4 ⟨g, hg⟩ ⟨k, hk⟩ r l)) :
    (∀ x, w x = G ((Rect.unit (s := S8x20x128x384) off ![1, 1, 128, 384] inb).emb x)) ∧ (∀ y ∈ (Rect.unit (s := S8x20x128x384) off ![1, 1, 128, 384] inb).set, (y 0).val = g)
    ∧ ∀ (r : Fin 128) (l : Fin 384), ix4 ⟨g, hg⟩ ⟨k, hk⟩ r l ∈ (Rect.unit (s := S8x20x128x384) off ![1, 1, 128, 384] inb).set := by
  subst e
  refine ⟨?_, ?_, ?_⟩
  · intro (x : (⟨4, ![1, 1, 128, 384]⟩ : Shape).Idx)
    have hx : x = ix4 0 0 (x 2) (x 3) := funext fun a => Fin.ext (by
      match a with
      | ⟨0, _⟩ => exact Nat.lt_one_iff.mp (x 0).isLt
      | ⟨1, _⟩ => exact Nat.lt_one_iff.mp (x 1).isLt
      | ⟨2, _⟩ => rfl
      | ⟨3, _⟩ => rfl)
    rw [hx]
    refine (hw (x 2) (x 3)).trans (congrArg G (funext fun a => Fin.ext ?_))
    match a with
    | ⟨0, _⟩ => rfl
    | ⟨1, _⟩ => rfl
    | ⟨2, _⟩ => show (x 2).val = 0 + 1 * (x 2).val; omega
    | ⟨3, _⟩ => show (x 3).val = 0 + 1 * (x 3).val; omega
  · intro y hy
    rw [Rect.mem_set_unit] at hy
    have h := hy 0
    have h1 : g ≤ (y 0).val := h.1
    have h2 : (y 0).val < g + 1 := h.2
    omega
  · intro r l
    rw [Rect.mem_set_unit]
    intro a
    match a with
    | ⟨0, _⟩ => exact ⟨le_rfl, Nat.lt_succ_self _⟩
    | ⟨1, _⟩ => exact ⟨le_rfl, Nat.lt_succ_self _⟩
    | ⟨2, _⟩ => exact ⟨Nat.zero_le _, by show r.val < 0 + 128; omega⟩
    | ⟨3, _⟩ => exact ⟨Nat.zero_le _, by show l.val < 0 + 384; omega⟩

/-- What the twenty slots of a point of the first row block hold: its Gram block times each ratio, split. -/
def slotG (c : Dev nD) {M7 : Memref sig .tc .vmem S1x128x128 .f32} (f7 : Bf Ideal c M7) : S8x20x128x384.Idx → EReal :=
  fun y => split3 (fun a b => M7.view.read (Elt Ideal) f7 (ix3 0 a b) * Ideal.ofBits .f32 (ratW (y 1))) (y 2) (y 3)

/-- Stores that all lie in one row of slots and agree with one function: what is read after them. -/
theorem writes_split {sp : Space} {e : EltTy} {s : Shape} (v : View sig .tc sp s e) (f : v.ty.Contents (Elt Ideal)) (G : s.Idx → Elt Ideal e) (L : List (View.Piece (Elt Ideal) s e)) (gi : ℕ) {z : Fin s.rank}
    (hL : ∀ p ∈ L, (∀ x : p.1.shape.Idx, p.2 x = G (p.1.emb x)) ∧ ∀ y ∈ p.1.set, (y z).val = gi) (y : s.Idx) (hc : (y z).val = gi → ∃ p ∈ L, y ∈ p.1.set) :
    v.read (Elt Ideal) (v.writes (Elt Ideal) f L) y = if (y z).val = gi then G y else v.read (Elt Ideal) f y := by
  split_ifs with hr
  · exact View.read_writes_apply_of_pieces v f G L (fun p hp => (hL p hp).1) y (hc hr)
  · exact View.read_writes_apply_of_forall_not_mem v f y L (fun p hp hy => hr ((hL p hp).2 _ hy))

section
variable (c : Dev nD) (i : grid1.Coords) (M3 : Memref sig .tc .smem S20 .f32) (h3 : M3.IsWhole) (M4 : Memref sig .tc .vmem S24x128 .f32) (h4 : M4.IsWhole) (M5 : Memref sig .tc .vmem S1024x128 .bf16) (h5 : M5.IsWhole) (M6 : Memref sig .tc .vmem S8x1024 .i32) (h6 : M6.IsWhole) (M7 : Memref sig .tc .vmem S1x128x128 .f32) (h7 : M7.IsWhole) (M8 : Memref sig .tc .vmem S1024x256 .bf16) (h8 : M8.IsWhole) (M9 : Memref sig .tc .vmem S20x8x1024 .f32) (h9 : M9.IsWhole) (M10 : Memref sig .tc .vmem S1x20x64x1024 .i8) (h10 : M10.IsWhole) (M11 : Memref sig .tc .vmem S20x8x1024 .f32) (h11 : M11.IsWhole) (M12 : Memref sig .tc .vmem S128x128 .i32) (h12 : M12.IsWhole) (M13 : Memref sig .tc .vmem S8x1024 .f32) (h13 : M13.IsWhole) (M14 : Memref sig .tc .vmem S8x20x128x384 .bf16) (h14 : M14.IsWhole) (M15 : Memref sig .tc .vmem S128x1024 .f32) (h15 : M15.IsWhole) (M16 : Memref sig .tc .vmem S128x1024 .f32) (h16 : M16.IsWhole) (M17 : Memref sig .tc .vmem S24x1024 .f32) (h17 : M17.IsWhole) (M18 : Memref sig .tc .vmem S24x1024 .f32) (h18 : M18.IsWhole) (M19 : Memref sig .tc .vmem S24x1024 .f32) (h19 : M19.IsWhole) (hc : k1_cond1 i = 1#1) (f3 : Bf Ideal c M3) (f4 : Bf Ideal c M4) (f5 : Bf Ideal c M5) (f6 : Bf Ideal c M6) (f7 : Bf Ideal c M7) (f8 : Bf Ideal c M8) (f9 : Bf Ideal c M9) (f10 : Bf Ideal c M10) (f11 : Bf Ideal c M11) (f12 : Bf Ideal c M12) (f13 : Bf Ideal c M13) (f14 : Bf Ideal c M14) (f15 : Bf Ideal c M15) (f16 : Bf Ideal c M16) (f17 : Bf Ideal c M17) (f18 : Bf Ideal c M18) (f19 : Bf Ideal c M19)

set_option maxHeartbeats 4000000 in
/-- The scratch buffer of split matrices after a point of the first row block: the point's twenty slots hold its Gram block times each ratio, every other slot what it held. -/
theorem w14_read (g : Fin 8) (k : Fin 20) (a : Fin 128) (b : Fin 384) :
    M14.view.read (Elt Ideal) ((searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.2.1) (ix4 g k a b)
      = if g.val = (i 2).val then split3 (fun a b => M7.view.read (Elt Ideal) f7 (ix3 0 a b) * Ideal.ofBits .f32 (ratW k)) a b else M14.view.read (Elt Ideal) f14 (ix4 g k a b) := by
  unfold searchRunA
  dsimp only
  refine writes_split (z := (0 : Fin 4)) M14.view f14 (slotG c f7) _ (i 2).val ?_ (ix4 g k a b) ?_
  · exact List.forall_mem_cons.2 ⟨⟨(pieceS (k1_off20_inb i hc) (i 2).isLt (show 19 < 20 by omega) (k1_off20_eq i) _ (slotG c f7) fun a b => slot19 c f7 a b).1, (pieceS (k1_off20_inb i hc) (i 2).isLt (show 19 < 20 by omega) (k1_off20_eq i) _ (slotG c f7) fun a b => slot19 c f7 a b).2.1⟩,
    List.forall_mem_cons.2 ⟨⟨(pieceS (k1_off19_inb i hc) (i 2).isLt (show 18 < 20 by omega) (k1_off19_eq i) _ (slotG c f7) fun a b => slot18 c f7 a b).1, (pieceS (k1_off19_inb i hc) (i 2).isLt (show 18 < 20 by omega) (k1_off19_eq i) _ (slotG c f7) fun a b => slot18 c f7 a b).2.1⟩,
    List.forall_mem_cons.2 ⟨⟨(pieceS (k1_off18_inb i hc) (i 2).isLt (show 17 < 20 by omega) (k1_off18_eq i) _ (slotG c f7) fun a b => slot17 c f7 a b).1, (pieceS (k1_off18_inb i hc) (i 2).isLt (show 17 < 20 by omega) (k1_off18_eq i) _ (slotG c f7) fun a b => slot17 c f7 a b).2.1⟩,
    List.forall_mem_cons.2 ⟨⟨(pieceS (k1_off17_inb i hc) (i 2).isLt (show 16 < 20 by omega) (k1_off17_eq i) _ (slotG c f7) fun a b => slot16 c f7 a b).1, (pieceS (k1_off17_inb i hc) (i 2).isLt (show 16 < 20 by omega) (k1_off17_eq i) _ (slotG c f7) fun a b => slot16 c f7 a b).2.1⟩,
    List.forall_mem_cons.2 ⟨⟨(pieceS (k1_off16_inb i hc) (i 2).isLt (show 15 < 20 by omega) (k1_off16_eq i) _ (slotG c f7) fun a b => slot15 c f7 a b).1, (pieceS (k1_off16_inb i hc) (i 2).isLt (show 15 < 20 by omega) (k1_off16_eq i) _ (slotG c f7) fun a b => slot15 c f7 a b).2.1⟩,
    List.forall_mem_cons.2 ⟨⟨(pieceS (k1_off15_inb i hc) (i 2).isLt (show 14 < 20 by omega) (k1_off15_eq i) _ (slotG c f7) fun a b => slot14 c f7 a b).1, (pieceS (k1_off15_inb i hc) (i 2).isLt (show 14 < 20 by omega) (k1_off15_eq i) _ (slotG c f7) fun a b => slot14 c f7 a b).2.1⟩,
    List.forall_mem_cons.2 ⟨⟨(pieceS (k1_off14_inb i hc) (i 2).isLt (show 13 < 20 by omega) (k1_off14_eq i) _ (slotG c f7) fun a b => slot13 c f7 a b).1, (pieceS (k1_off14_inb i hc) (i 2).isLt (show 13 < 20 by omega) (k1_off14_eq i) _ (slotG c f7) fun a b => slot13 c f7 a b).2.1⟩,
    List.forall_mem_cons.2 ⟨⟨(pieceS (k1_off13_inb i hc) (i 2).isLt (show 12 < 20 by omega) (k1_off13_eq i) _ (slotG c f7) fun a b => slot12 c f7 a b).1, (pieceS (k1_off13_inb i hc) (i 2).isLt (show 12 < 20 by omega) (k1_off13_eq i) _ (slotG c f7) fun a b => slot12 c f7 a b).2.1⟩,
    List.forall_mem_cons.2 ⟨⟨(pieceS (k1_off12_inb i hc) (i 2).isLt (show 11 < 20 by omega) (k1_off12_eq i) _ (slotG c f7) fun a b => slot11 c f7 a b).1, (pieceS (k1_off12_inb i hc) (i 2).isLt (show 11 < 20 by omega) (k1_off12_eq i) _ (slotG c f7) fun a b => slot11 c f7 a b).2.1⟩,
    List.forall_mem_cons.2 ⟨⟨(pieceS (k1_off11_inb i hc) (i 2).isLt (show 10 < 20 by omega) (k1_off11_eq i) _ (slotG c f7) fun a b => slot10 c f7 a b).1, (pieceS (k1_off11_inb i hc) (i 2).isLt (show 10 < 20 by omega) (k1_off11_eq i) _ (slotG c f7) fun a b => slot10 c f7 a b).2.1⟩,
    List.forall_mem_cons.2 ⟨⟨(pieceS (k1_off10_inb i hc) (i 2).isLt (show 9 < 20 by omega) (k1_off10_eq i) _ (slotG c f7) fun a b => slot9 c f7 a b).1, (pieceS (k1_off10_inb i hc) (i 2).isLt (show 9 < 20 by omega) (k1_off10_eq i) _ (slotG c f7) fun a b => slot9 c f7 a b).2.1⟩,
    List.forall_mem_cons.2 ⟨⟨(pieceS (k1_off9_inb i hc) (i 2).isLt (show 8 < 20 by omega) (k1_off9_eq i) _ (slotG c f7) fun a b => slot8 c f7 a b).1, (pieceS (k1_off9_inb i hc) (i 2).isLt (show 8 < 20 by omega) (k1_off9_eq i) _ (slotG c f7) fun a b => slot8 c f7 a b).2.1⟩,
    List.forall_mem_cons.2 ⟨⟨(pieceS (k1_off8_inb i hc) (i 2).isLt (show 7 < 20 by omega) (k1_off8_eq i) _ (slotG c f7) fun a b => slot7 c f7 a b).1, (pieceS (k1_off8_inb i hc) (i 2).isLt (show 7 < 20 by omega) (k1_off8_eq i) _ (slotG c f7) fun a b => slot7 c f7 a b).2.1⟩,
    List.forall_mem_cons.2 ⟨⟨(pieceS (k1_off7_inb i hc) (i 2).isLt (show 6 < 20 by omega) (k1_off7_eq i) _ (slotG c f7) fun a b => slot6 c f7 a b).1, (pieceS (k1_off7_inb i hc) (i 2).isLt (show 6 < 20 by omega) (k1_off7_eq i) _ (slotG c f7) fun a b => slot6 c f7 a b).2.1⟩,
    List.forall_mem_cons.2 ⟨⟨(pieceS (k1_off6_inb i hc) (i 2).isLt (show 5 < 20 by omega) (k1_off6_eq i) _ (slotG c f7) fun a b => slot5 c f7 a b).1, (pieceS (k1_off6_inb i hc) (i 2).isLt (show 5 < 20 by omega) (k1_off6_eq i) _ (slotG c f7) fun a b => slot5 c f7 a b).2.1⟩,
    List.forall_mem_cons.2 ⟨⟨(pieceS (k1_off5_inb i hc) (i 2).isLt (show 4 < 20 by omega) (k1_off5_eq i) _ (slotG c f7) fun a b => slot4 c f7 a b).1, (pieceS (k1_off5_inb i hc) (i 2).isLt (show 4 < 20 by omega) (k1_off5_eq i) _ (slotG c f7) fun a b => slot4 c f7 a b).2.1⟩,
    List.forall_mem_cons.2 ⟨⟨(pieceS (k1_off4_inb i hc) (i 2).isLt (show 3 < 20 by omega) (k1_off4_eq i) _ (slotG c f7) fun a b => slot3 c f7 a b).1, (pieceS (k1_off4_inb i hc) (i 2).isLt (show 3 < 20 by omega) (k1_off4_eq i) _ (slotG c f7) fun a b => slot3 c f7 a b).2.1⟩,
    List.forall_mem_cons.2 ⟨⟨(pieceS (k1_off3_inb i hc) (i 2).isLt (show 2 < 20 by omega) (k1_off3_eq i) _ (slotG c f7) fun a b => slot2 c f7 a b).1, (pieceS (k1_off3_inb i hc) (i 2).isLt (show 2 < 20 by omega) (k1_off3_eq i) _ (slotG c f7) fun a b => slot2 c f7 a b).2.1⟩,
    List.forall_mem_cons.2 ⟨⟨(pieceS (k1_off2_inb i hc) (i 2).isLt (show 1 < 20 by omega) (k1_off2_eq i) _ (slotG c f7) fun a b => slot1 c f7 a b).1, (pieceS (k1_off2_inb i hc) (i 2).isLt (show 1 < 20 by omega) (k1_off2_eq i) _ (slotG c f7) fun a b => slot1 c f7 a b).2.1⟩,
    List.forall_mem_cons.2 ⟨⟨(pieceS (k1_off1_inb i hc) (i 2).isLt (show 0 < 20 by omega) (k1_off1_eq i) _ (slotG c f7) fun a b => slot0 c f7 a b).1, (pieceS (k1_off1_inb i hc) (i 2).isLt (show 0 < 20 by omega) (k1_off1_eq i) _ (slotG c f7) fun a b => slot0 c f7 a b).2.1⟩,
    List.forall_mem_nil _⟩⟩⟩⟩⟩⟩⟩⟩⟩⟩⟩⟩⟩⟩⟩⟩⟩⟩⟩⟩
  · intro hr
    rw [show g = ⟨(i 2).val, (i 2).isLt⟩ from Fin.ext hr]
    match k with
    | ⟨0, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))))), (pieceS (k1_off1_inb i hc) (i 2).isLt (show 0 < 20 by omega) (k1_off1_eq i) _ (slotG c f7) fun a b => slot0 c f7 a b).2.2 a b⟩
    | ⟨1, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))))), (pieceS (k1_off2_inb i hc) (i 2).isLt (show 1 < 20 by omega) (k1_off2_eq i) _ (slotG c f7) fun a b => slot1 c f7 a b).2.2 a b⟩
    | ⟨2, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))))), (pieceS (k1_off3_inb i hc) (i 2).isLt (show 2 < 20 by omega) (k1_off3_eq i) _ (slotG c f7) fun a b => slot2 c f7 a b).2.2 a b⟩
    | ⟨3, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))))), (pieceS (k1_off4_inb i hc) (i 2).isLt (show 3 < 20 by omega) (k1_off4_eq i) _ (slotG c f7) fun a b => slot3 c f7 a b).2.2 a b⟩
    | ⟨4, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))))), (pieceS (k1_off5_inb i hc) (i 2).isLt (show 4 < 20 by omega) (k1_off5_eq i) _ (slotG c f7) fun a b => slot4 c f7 a b).2.2 a b⟩
    | ⟨5, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))))), (pieceS (k1_off6_inb i hc) (i 2).isLt (show 5 < 20 by omega) (k1_off6_eq i) _ (slotG c f7) fun a b => slot5 c f7 a b).2.2 a b⟩
    | ⟨6, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))))), (pieceS (k1_off7_inb i hc) (i 2).isLt (show 6 < 20 by omega) (k1_off7_eq i) _ (slotG c f7) fun a b => slot6 c f7 a b).2.2 a b⟩
    | ⟨7, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))))), (pieceS (k1_off8_inb i hc) (i 2).isLt (show 7 < 20 by omega) (k1_off8_eq i) _ (slotG c f7) fun a b => slot7 c f7 a b).2.2 a b⟩
    | ⟨8, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))))), (pieceS (k1_off9_inb i hc) (i 2).isLt (show 8 < 20 by omega) (k1_off9_eq i) _ (slotG c f7) fun a b => slot8 c f7 a b).2.2 a b⟩
    | ⟨9, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))))), (pieceS (k1_off10_inb i hc) (i 2).isLt (show 9 < 20 by omega) (k1_off10_eq i) _ (slotG c f7) fun a b => slot9 c f7 a b).2.2 a b⟩
    | ⟨10, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self))))))))), (pieceS (k1_off11_inb i hc) (i 2).isLt (show 10 < 20 by omega) (k1_off11_eq i) _ (slotG c f7) fun a b => slot10 c f7 a b).2.2 a b⟩
    | ⟨11, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_of_mem _ (List.mem_cons_self)))))))), (pieceS (k1_off12_inb i hc) (i 2).isLt (show 11 < 20 by omega) (k1_off12_eq i) _ (slotG c f7) fun a b => slot11 c f7 a b).2.2 a b⟩
    | ⟨12, _⟩ => exact ⟨_, List.mem_cons_of_mem _ (List.mem_cons_of_mem _ (List.mem_cons_of_mem _ (List.mem_cons_of_mem _ (List.mem_cons_of_mem _ (List.mem_cons_of_mem _ (List.mem_cons_of_mem _ (List.mem_cons_self))))))), (pieceS (k1_off13_inb i hc) (i 2).isLt (show 12 < 20 by omega) (k1_off13_eq i) _ (slotG c f7) fun a b => slot12 c f7 a b).2.2 a b⟩
    | ⟨13, _⟩ => exact ⟨_, List.mem_cons_of_mem _ (List.mem_cons_of_mem _ (List.mem_cons_of_mem _ (List.mem_cons_of_mem _ (List.mem_cons_of_mem _ (List.mem_cons_of_mem _ (List.mem_cons_self)))))), (pieceS (k1_off14_inb i hc) (i 2).isLt (show 13 < 20 by omega) (k1_off14_eq i) _ (slotG c f7) fun a b => slot13 c f7 a b).2.2 a b⟩
    | ⟨14, _⟩ => exact ⟨_, List.mem_cons_of_mem _ (List.mem_cons_of_mem _ (List.mem_cons_of_mem _ (List.mem_cons_of_mem _ (List.mem_cons_of_mem _ (List.mem_cons_self))))), (pieceS (k1_off15_inb i hc) (i 2).isLt (show 14 < 20 by omega) (k1_off15_eq i) _ (slotG c f7) fun a b => slot14 c f7 a b).2.2 a b⟩
    | ⟨15, _⟩ => exact ⟨_, List.mem_cons_of_mem _ (List.mem_cons_of_mem _ (List.mem_cons_of_mem _ (List.mem_cons_of_mem _ (List.mem_cons_self)))), (pieceS (k1_off16_inb i hc) (i 2).isLt (show 15 < 20 by omega) (k1_off16_eq i) _ (slotG c f7) fun a b => slot15 c f7 a b).2.2 a b⟩
    | ⟨16, _⟩ => exact ⟨_, List.mem_cons_of_mem _ (List.mem_cons_of_mem _ (List.mem_cons_of_mem _ (List.mem_cons_self))), (pieceS (k1_off17_inb i hc) (i 2).isLt (show 16 < 20 by omega) (k1_off17_eq i) _ (slotG c f7) fun a b => slot16 c f7 a b).2.2 a b⟩
    | ⟨17, _⟩ => exact ⟨_, List.mem_cons_of_mem _ (List.mem_cons_of_mem _ (List.mem_cons_self)), (pieceS (k1_off18_inb i hc) (i 2).isLt (show 17 < 20 by omega) (k1_off18_eq i) _ (slotG c f7) fun a b => slot17 c f7 a b).2.2 a b⟩
    | ⟨18, _⟩ => exact ⟨_, List.mem_cons_of_mem _ (List.mem_cons_self), (pieceS (k1_off19_inb i hc) (i 2).isLt (show 18 < 20 by omega) (k1_off19_eq i) _ (slotG c f7) fun a b => slot18 c f7 a b).2.2 a b⟩
    | ⟨19, _⟩ => exact ⟨_, List.mem_cons_self, (pieceS (k1_off20_inb i hc) (i 2).isLt (show 19 < 20 by omega) (k1_off20_eq i) _ (slotG c f7) fun a b => slot19 c f7 a b).2.2 a b⟩
    | ⟨n + 20, h⟩ => exact absurd h (by omega)
end
end Cert.KernelIdeal.Pf
end
-- ==== Proof.KI.Tables.lean ====
module
public import proofs.«01_k».proof.Proof.KI.Slots
public import Idealize.ShloMosaic.Lib.Pointwise
public import Idealize.ShloMosaic.Lib.WritesUnit
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

/-- The largest magnitude among the weights of one row of a group. -/
def amx (v : Fin 128 → EReal) : EReal := Finset.fold max (Ideal.ofBits .f32 0xFF800000#32) (fun x => FloatOps.absf (F := Ideal) (φ := .f32) (v x)) Finset.univ

/-- The scale at one clip ratio: the ratio times the largest magnitude over seven, one where all weights are zero. -/
def scl (v : Fin 128 → EReal) (q : EReal) : EReal := if amx v = 0 then 1 else Ideal.div (q * amx v) (Ideal.ofBits .f32 0x40E00000#32)

/-- The scale at ratio one. -/
def unitV (v : Fin 128 → EReal) : EReal := if amx v = 0 then 1 else Ideal.div (amx v) (Ideal.ofBits .f32 0x40E00000#32)

section
variable (w : FVec Ideal S1024x128 .bf16) (rv : FVec Ideal S24x1 .f32) (G7 : FVec Ideal S1x128x128 .f32)

theorem p63 (j : Fin 128) (l : Fin 1024) : k1_pay63 (F := Ideal) w (ix2 j l) = w (ix2 l j) := by
  pointwise [k1_pay63, k1_pay62]
theorem p64 (j : Fin 128) (l : Fin 1024) : k1_pay64 (F := Ideal) w (ix2 j l) = w (ix2 l j) := by
  pointwise [k1_pay64, k1_pay63, k1_pay62]
theorem p65 (l : Fin 1024) : k1_pay65 (F := Ideal) w (ix2 0 l) = amx (fun j => w (ix2 l j)) := by
  pointwise [k1_pay65, k1_pay64, k1_pay63, k1_pay62]
  rfl
theorem p67 (k : Fin 24) (l : Fin 1024) : k1_pay67 (F := Ideal) w rv (ix2 k l) = scl (fun j => w (ix2 l j)) (rv (ix2 k 0)) := by
  pointwise [k1_pay67, k1_pay66]
  rw [p65]; rfl
theorem p69 (k : Fin 24) (l : Fin 1024) : k1_pay69 (F := Ideal) w rv (ix2 k l) = scl (fun j => w (ix2 l j)) (rv (ix2 k 0)) := by
  rw [← p67]; pointwise [k1_pay69]
theorem p68 (k : Fin 24) (l : Fin 1024) : k1_pay68 (F := Ideal) w rv (ix2 k l) = Ideal.div 1 (scl (fun j => w (ix2 l j)) (rv (ix2 k 0))) := by
  rw [← p67]; pointwise [k1_pay68]
theorem p70 (k : Fin 24) (l : Fin 1024) : k1_pay70 (F := Ideal) w rv (ix2 k l) = Ideal.div 1 (scl (fun j => w (ix2 l j)) (rv (ix2 k 0))) := by
  rw [← p68]; pointwise [k1_pay70]
theorem p72 (l : Fin 1024) : k1_pay72 (F := Ideal) (k1_pay66 (F := Ideal) w) (k1_pay71 (F := Ideal) w) searchRunB.sl.cst_15 (ix2 0 l) = unitV (fun j => w (ix2 l j)) := by
  pointwise [k1_pay72, k1_pay66, k1_pay71, searchRunB.sl.cst_15]
  rw [p65]; rfl
theorem p73 (k : Fin 24) (l : Fin 1024) : k1_pay73 (F := Ideal) (k1_pay66 (F := Ideal) w) (k1_pay67 (F := Ideal) w rv) (k1_pay71 (F := Ideal) w) searchRunB.sl.cst_15 (ix2 k l)
    = scl (fun j => w (ix2 l j)) (rv (ix2 k 0)) * unitV (fun j => w (ix2 l j)) := by
  rw [← p67, ← p72]; pointwise [k1_pay73]
theorem p74 (j : Fin 128) (l : Fin 1024) : k1_pay74 (F := Ideal) (k1_pay62 (F := Ideal) w) (k1_pay66 (F := Ideal) w) (k1_pay71 (F := Ideal) w) searchRunB.sl.cst_15 G7 (ix2 j l)
    = (∑ x : Fin 384, split3 (fun a b => G7 (ix3 0 a b)) j x * w (ix2 l ⟨x.val % 128, Nat.mod_lt _ (by omega)⟩)) * Ideal.div 1 (unitV (fun j => w (ix2 l j))) := by
  rw [← p72]
  generalize k1_pay66 (F := Ideal) w = a66
  generalize k1_pay71 (F := Ideal) w = a71
  pointwise [k1_pay74, k1_pay62]
  refine congrArg (· * _) (Finset.sum_congr rfl fun x _ => ?_)
  refine congrArg₂ (· * ·) rfl ?_
  have e : ∀ (y : Fin 128), y.val = x.val % 128 → w (ix2 l y) = w (ix2 l ⟨x.val % 128, Nat.mod_lt _ (by omega)⟩) := fun y h => congrArg (fun z => w (ix2 l z)) (Fin.ext h)
  have := x.isLt
  split_ifs
  all_goals exact e _ (by dsimp only; omega)
end

/-- Whether ratio `k` of twenty-four is the one an index word picks. -/
def pickB (k : Fin 24) (n : BitVec 32) : BitVec 1 := IntOp.andi (IntOp.cmpi .eq (BitVec.ofNat 32 k.val) n) (IntOp.cmpi .slt (BitVec.ofNat 32 k.val) 20#32)

/-- The scale an index word picks. -/
def sselK (v : Fin 128 → EReal) (q : Fin 24 → EReal) (n : BitVec 32) : EReal := ∑ k : Fin 24, Scalar.select (pickB k n) (scl v (q k)) 0

/-- The reciprocal of the scale an index word picks. -/
def riSel (v : Fin 128 → EReal) (q : Fin 24 → EReal) (n : BitVec 32) : EReal := ∑ k : Fin 24, Scalar.select (pickB k n) (Ideal.div 1 (scl v (q k))) 0

/-- Half a packed word: codes against a column of the pack matrix, as an integer, biased. -/
def halfK (t p : Fin 1024 → EReal) : BitVec 32 := IntOp.addi (FloatOps.fptosi (F := Ideal) (φ := .f32) 32 (∑ x, codeB (t x) * p x)) 34952#32

/-- A packed word out of its two halves. -/
def wordK (lo hi : BitVec 32) : BitVec 32 := IntOp.xori (IntOp.ori (IntOp.shli .vector hi 16#32) lo) 2290649224#32

/-- The kernel's loss of one row, group and ratio: slot `S` of the scaled Gram matrix, weights `v`, Gram matrix `G`, ratio `q`. -/
def lossK (S : Fin 128 → Fin 384 → EReal) (v : Fin 128 → EReal) (G : Fin 128 → Fin 128 → EReal) (q : EReal) : EReal :=
  (∑ j : Fin 128, (v j * Ideal.div 1 (scl v q) - codeB (v j * Ideal.div 1 (scl v q)))
    * ((∑ x : Fin 384, split3 G j x * v ⟨x.val % 128, Nat.mod_lt _ (by omega)⟩) * Ideal.div 1 (unitV v)
        - ∑ x : Fin 384, S j x * codeB (v ⟨x.val % 128, Nat.mod_lt _ (by omega)⟩ * Ideal.div 1 (scl v q)))) * (scl v q * unitV v)

theorem pay76_pt (a : FVec Ideal S24x1024 .f32) (x : IVec S1x1024 32) (l : Fin 1024) : k1_pay76 (F := Ideal) a x (ix2 0 l) = ∑ k : Fin 24, Scalar.select (pickB k (x (ix2 0 l))) (a (ix2 k l)) 0 := by
  pointwise [k1_pay76, k1_pay75]
  rfl

theorem pay1_pt (t : FVec Ideal S128x1024 .f32) (a : FVec Ideal S24x1024 .f32) (y : IVec S1x1024 32) (p : FVec Ideal S1024x256 .bf16) (j o : Fin 128) :
    k1_pay1 (F := Ideal) t a (k1_pay75 (F := Ideal) y) searchRunB.sl.cst_29 p (ix2 j o)
      = wordK (halfK (fun x => t (ix2 j x) * ∑ k : Fin 24, Scalar.select (pickB k (y (ix2 0 x))) (a (ix2 k x)) 0) (fun x => p (ix2 x ⟨o.val, by omega⟩)))
          (halfK (fun x => t (ix2 j x) * ∑ k : Fin 24, Scalar.select (pickB k (y (ix2 0 x))) (a (ix2 k x)) 0) (fun x => p (ix2 x ⟨128 + o.val, by omega⟩))) := by
  pointwise [k1_pay1, k1_pay75, searchRunB.sl.cst_29]
  rfl

section
variable (c : Dev nD) (i : grid1.Coords) (M3 : Memref sig .tc .smem S20 .f32) (h3 : M3.IsWhole) (M4 : Memref sig .tc .vmem S24x128 .f32) (h4 : M4.IsWhole) (M5 : Memref sig .tc .vmem S1024x128 .bf16) (h5 : M5.IsWhole) (M6 : Memref sig .tc .vmem S8x1024 .i32) (h6 : M6.IsWhole) (M7 : Memref sig .tc .vmem S1x128x128 .f32) (h7 : M7.IsWhole) (M8 : Memref sig .tc .vmem S1024x256 .bf16) (h8 : M8.IsWhole) (M9 : Memref sig .tc .vmem S20x8x1024 .f32) (h9 : M9.IsWhole) (M10 : Memref sig .tc .vmem S1x20x64x1024 .i8) (h10 : M10.IsWhole) (M11 : Memref sig .tc .vmem S20x8x1024 .f32) (h11 : M11.IsWhole) (M12 : Memref sig .tc .vmem S128x128 .i32) (h12 : M12.IsWhole) (M13 : Memref sig .tc .vmem S8x1024 .f32) (h13 : M13.IsWhole) (M14 : Memref sig .tc .vmem S8x20x128x384 .bf16) (h14 : M14.IsWhole) (M15 : Memref sig .tc .vmem S128x1024 .f32) (h15 : M15.IsWhole) (M16 : Memref sig .tc .vmem S128x1024 .f32) (h16 : M16.IsWhole) (M17 : Memref sig .tc .vmem S24x1024 .f32) (h17 : M17.IsWhole) (M18 : Memref sig .tc .vmem S24x1024 .f32) (h18 : M18.IsWhole) (M19 : Memref sig .tc .vmem S24x1024 .f32) (h19 : M19.IsWhole) (f3 : Bf Ideal c M3) (f4 : Bf Ideal c M4) (f5 : Bf Ideal c M5) (f6 : Bf Ideal c M6) (f7 : Bf Ideal c M7) (f8 : Bf Ideal c M8) (f9 : Bf Ideal c M9) (f10 : Bf Ideal c M10) (f11 : Bf Ideal c M11) (f12 : Bf Ideal c M12) (f13 : Bf Ideal c M13) (f14 : Bf Ideal c M14) (f15 : Bf Ideal c M15) (f16 : Bf Ideal c M16) (f17 : Bf Ideal c M17) (f18 : Bf Ideal c M18) (f19 : Bf Ideal c M19)

/-- The loop's losses at a place, from what the tables hold there. -/
theorem G9_eq (X14 : M14.view.ty.Contents (Elt Ideal)) (X15 : M15.view.ty.Contents (Elt Ideal)) (X16 : M16.view.ty.Contents (Elt Ideal)) (X18 : M18.view.ty.Contents (Elt Ideal)) (X19 : M19.view.ty.Contents (Elt Ideal))
    (S : Fin 128 → Fin 384 → EReal) (v : Fin 128 → EReal) (G : Fin 128 → Fin 128 → EReal) (q : EReal) (k : Fin 20) (r : Fin 8) (l : Fin 1024)
    (h15 : ∀ j : Fin 128, M15.view.read (Elt Ideal) X15 (ix2 j l) = v j)
    (h16 : ∀ j : Fin 128, M16.view.read (Elt Ideal) X16 (ix2 j l) = (∑ x : Fin 384, split3 G j x * v ⟨x.val % 128, Nat.mod_lt _ (by omega)⟩) * Ideal.div 1 (unitV v))
    (h18 : M18.view.read (Elt Ideal) X18 (ix2 ⟨k.val, by omega⟩ l) = Ideal.div 1 (scl v q))
    (h19 : M19.view.read (Elt Ideal) X19 (ix2 ⟨k.val, by omega⟩ l) = scl v q * unitV v)
    (h14 : ∀ (j : Fin 128) (x : Fin 384), M14.view.read (Elt Ideal) X14 (ix4 ⟨(i 2).val, (i 2).isLt⟩ k j x) = S j x) :
    G9 i M14 M15 M16 M18 M19 X14 X15 X16 X18 X19 (ix3 k r l) = lossK S v G q := by
  show lossV (M14.view.read (Elt Ideal) X14) (M15.view.read (Elt Ideal) X15) (M16.view.read (Elt Ideal) X16) (M18.view.read (Elt Ideal) X18) (M19.view.read (Elt Ideal) X19) ⟨(i 2).val, (i 2).isLt⟩ k l = _
  unfold lossV lossK
  simp only [h14, h15, h16, h18, h19]

/-- The ratios a buffer of repeated ratios holds. -/
def rcol (c : Dev nD) {M4 : Memref sig .tc .vmem S24x128 .f32} (f4 : Bf Ideal c M4) : Fin 24 → EReal := fun k => M4.view.read (Elt Ideal) f4 (ix2 k 0)

/-- One row of a block of weights. -/
def wrow5 (c : Dev nD) {M5 : Memref sig .tc .vmem S1024x128 .bf16} (f5 : Bf Ideal c M5) (l : Fin 1024) : Fin 128 → EReal := fun j => M5.view.read (Elt Ideal) f5 (ix2 l j)

theorem ld5 : M5.view.readAt (Elt Ideal) (Rect.unit (s := S1024x128) ![0, 0] ![1024, 128] inb_S1024x128_S1024x128_0_0).toLoadRect f5 = M5.view.read (Elt Ideal) f5 := View.readAt_full M5.view f5 inb_S1024x128_S1024x128_0_0
theorem ld7 : M7.view.readAt (Elt Ideal) (Rect.unit (s := S1x128x128) ![0, 0, 0] ![1, 128, 128] inb_S1x128x128_S1x128x128_0_0_0).toLoadRect f7 = M7.view.read (Elt Ideal) f7 := View.readAt_full M7.view f7 inb_S1x128x128_S1x128x128_0_0_0
theorem ld8 : M8.view.readAt (Elt Ideal) (Rect.unit (s := S1024x256) ![0, 0] ![1024, 256] inb_S1024x256_S1024x256_0_0).toLoadRect f8 = M8.view.read (Elt Ideal) f8 := View.readAt_full M8.view f8 inb_S1024x256_S1024x256_0_0
theorem ld4 (k : Fin 24) : M4.view.readAt (Elt Ideal) (Rect.unit (s := S24x128) ![0, 0] ![24, 1] inb_S24x128_S24x1_0_0).toLoadRect f4 (ix2 k 0) = rcol c f4 k :=
  readAt2 M4.view f4 inb_S24x128_S24x1_0_0 rfl _ _ (Nat.zero_add _).symm rfl
theorem ld6 (l : Fin 1024) : M6.view.readAt (Elt Ideal) (Rect.unit (s := S8x1024) (k1_off21 i) ![1, 1024] (k1_off21_inb i)).toLoadRect f6 (ix2 0 l) = M6.view.read (Elt Ideal) f6 (ix2 ⟨(i 2).val, (i 2).isLt⟩ l) :=
  readAt2 M6.view f6 (k1_off21_inb i) (k1_off21_eq i) _ _ rfl (Nat.zero_add _).symm

theorem t15A (j : Fin 128) (l : Fin 1024) : M15.view.read (Elt Ideal) (M15.view.writes (Elt Ideal) M15.view.junk (searchRunA.sl.H15_1 c M5 f5)) (ix2 j l) = wrow5 c f5 l j := by
  rw [searchRunA.sl.H15_1, View.read_writes_full M15.view _ inb_S128x1024_S128x1024_0_0, ld5]
  exact p64 _ _ _
theorem t16A (j : Fin 128) (l : Fin 1024) : M16.view.read (Elt Ideal) (M16.view.writes (Elt Ideal) M16.view.junk (searchRunA.sl.H16_1 c M5 M7 f5 f7)) (ix2 j l)
    = (∑ x : Fin 384, split3 (fun a b => M7.view.read (Elt Ideal) f7 (ix3 0 a b)) j x * wrow5 c f5 l ⟨x.val % 128, Nat.mod_lt _ (by omega)⟩) * Ideal.div 1 (unitV (wrow5 c f5 l)) := by
  simp only [searchRunA.sl.H16_1, searchRunA.sl.r_11, searchRunA.sl.r_12, searchRunA.sl.r_13, searchRunA.sl.r_14, searchRunA.sl.r_15, searchRunA.sl.r_16, searchRunA.sl.r_17]
  rw [View.read_writes_full M16.view _ inb_S128x1024_S128x1024_0_0, ld5, ld7]
  exact p74 _ _ _ _
theorem t17A (k : Fin 24) (l : Fin 1024) : M17.view.read (Elt Ideal) (M17.view.writes (Elt Ideal) M17.view.junk (searchRunA.sl.H17_1 c M4 M5 f4 f5)) (ix2 k l) = scl (wrow5 c f5 l) (rcol c f4 k) := by
  rw [searchRunA.sl.H17_1, View.read_writes_full M17.view _ inb_S24x1024_S24x1024_0_0, ld5, p69, ld4]; rfl
theorem t18A (k : Fin 24) (l : Fin 1024) : M18.view.read (Elt Ideal) (M18.view.writes (Elt Ideal) M18.view.junk (searchRunA.sl.H18_1 c M4 M5 f4 f5)) (ix2 k l) = Ideal.div 1 (scl (wrow5 c f5 l) (rcol c f4 k)) := by
  rw [searchRunA.sl.H18_1, View.read_writes_full M18.view _ inb_S24x1024_S24x1024_0_0, ld5, p70, ld4]; rfl
theorem t19A (k : Fin 24) (l : Fin 1024) : M19.view.read (Elt Ideal) (M19.view.writes (Elt Ideal) M19.view.junk (searchRunA.sl.H19_1 c M4 M5 f4 f5)) (ix2 k l) = scl (wrow5 c f5 l) (rcol c f4 k) * unitV (wrow5 c f5 l) := by
  simp only [searchRunA.sl.H19_1, searchRunA.sl.r_11, searchRunA.sl.r_12, searchRunA.sl.r_13, searchRunA.sl.r_14, searchRunA.sl.r_15, searchRunA.sl.r_16, searchRunA.sl.r_17]
  rw [View.read_writes_full M19.view _ inb_S24x1024_S24x1024_0_0, ld5]
  refine (p73 _ _ _ _).trans ?_
  rw [ld4]; rfl

/-- What a point leaves in its block of losses: the losses of its group's row, every other row as it was. -/
theorem w9A (hc : k1_cond1 i = 1#1) (k : Fin 20) (r : Fin 8) (l : Fin 1024) : M9.view.read (Elt Ideal) (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.1 (ix3 k r l)
    = if r.val = (i 2).val then lossK (fun j x => M14.view.read (Elt Ideal) (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.2.1 (ix4 ⟨(i 2).val, (i 2).isLt⟩ k j x)) (wrow5 c f5 l) (fun a b => M7.view.read (Elt Ideal) f7 (ix3 0 a b)) (rcol c f4 ⟨k.val, by omega⟩)
      else M9.view.read (Elt Ideal) f9 (ix3 k r l) := by
  have e : (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.1 = M9.view.writes (Elt Ideal) f9 (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 (BitVec.ofNat 32 (i 2).val) (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.2.1 (M15.view.writes (Elt Ideal) M15.view.junk (searchRunA.sl.H15_1 c M5 f5)) (M16.view.writes (Elt Ideal) M16.view.junk (searchRunA.sl.H16_1 c M5 M7 f5 f7)) (M17.view.writes (Elt Ideal) M17.view.junk (searchRunA.sl.H17_1 c M4 M5 f4 f5)) (M18.view.writes (Elt Ideal) M18.view.junk (searchRunA.sl.H18_1 c M4 M5 f4 f5)) (M19.view.writes (Elt Ideal) M19.view.junk (searchRunA.sl.H19_1 c M4 M5 f4 f5)) k1_t1_loop.trips).1 := by
    unfold searchRunA
    dsimp only
  refine (congrArg (fun z => M9.view.read (Elt Ideal) z (ix3 k r l)) e).trans ?_
  generalize (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.2.1 = X14
  refine (loop9_read c i M3 h3 M4 h4 M5 h5 M6 h6 M7 h7 M8 h8 M9 h9 M10 h10 M11 h11 M12 h12 M13 h13 M14 h14 M15 h15 M16 h16 M17 h17 M18 h18 M19 h19 _ _ _ _ _ _ _ f9 k r l).trans (if_congr Iff.rfl ?_ rfl)
  exact G9_eq i _ _ _ _ _ _ _ _ _ _ _ _ _ _ k r l (fun j => t15A c M5 M15 f5 j l) (fun j => t16A c M5 M7 M16 f5 f7 j l) (t18A c M4 M5 M18 f4 f5 _ l) (t19A c M4 M5 M19 f4 f5 _ l) (fun j x => rfl)
/-- What a point leaves in its block of packed codes. -/
theorem w10A (hc : k1_cond1 i = 1#1) (k : Fin 20) (r : Fin 64) (l : Fin 1024) : M10.view.read (Elt Ideal) (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.1 (ix4 0 k r l)
    = byteB (codeB (wrow5 c f5 l ⟨r.val * 2, by omega⟩ * Ideal.div 1 (scl (wrow5 c f5 l) (rcol c f4 ⟨k.val, by omega⟩)))) (codeB (wrow5 c f5 l ⟨r.val * 2 + 1, by omega⟩ * Ideal.div 1 (scl (wrow5 c f5 l) (rcol c f4 ⟨k.val, by omega⟩)))) := by
  refine (loop10_read c i M3 h3 M4 h4 M5 h5 M6 h6 M7 h7 M8 h8 M9 h9 M10 h10 M11 h11 M12 h12 M13 h13 M14 h14 M15 h15 M16 h16 M17 h17 M18 h18 M19 h19 _ _ _ _ _ _ _ f10 k r l).trans ?_
  unfold byteV
  simp only [t15A, t18A]
/-- What a point leaves in its block of scales. -/
theorem w11A (hc : k1_cond1 i = 1#1) (k : Fin 20) (r : Fin 8) (l : Fin 1024) : M11.view.read (Elt Ideal) (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.1 (ix3 k r l)
    = if r.val = (i 2).val then scl (wrow5 c f5 l) (rcol c f4 ⟨k.val, by omega⟩) else M11.view.read (Elt Ideal) f11 (ix3 k r l) := by
  refine (loop11_read c i M3 h3 M4 h4 M5 h5 M6 h6 M7 h7 M8 h8 M9 h9 M10 h10 M11 h11 M12 h12 M13 h13 M14 h14 M15 h15 M16 h16 M17 h17 M18 h18 M19 h19 _ _ _ _ _ _ _ f11 k r l).trans (if_congr Iff.rfl ?_ rfl)
  exact t17A c M4 M5 M17 f4 f5 _ _
/-- What a point leaves in its block of packed words. -/
theorem w12A (hc : k1_cond1 i = 1#1) (j o : Fin 128) : M12.view.read (Elt Ideal) (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.1 (ix2 j o)
    = wordK (halfK (fun x => wrow5 c f5 x j * riSel (wrow5 c f5 x) (rcol c f4) (M6.view.read (Elt Ideal) f6 (ix2 ⟨(i 2).val, (i 2).isLt⟩ x))) (fun x => M8.view.read (Elt Ideal) f8 (ix2 x ⟨o.val, by omega⟩)))
        (halfK (fun x => wrow5 c f5 x j * riSel (wrow5 c f5 x) (rcol c f4) (M6.view.read (Elt Ideal) f6 (ix2 ⟨(i 2).val, (i 2).isLt⟩ x))) (fun x => M8.view.read (Elt Ideal) f8 (ix2 x ⟨128 + o.val, by omega⟩))) := by
  unfold searchRunA
  simp only [searchRunA.sl.H12_1, searchRunA.sl.r_11, searchRunA.sl.r_12, searchRunA.sl.r_13, searchRunA.sl.r_14, searchRunA.sl.r_15, searchRunA.sl.r_16, searchRunA.sl.r_17]
  rw [View.read_writes_full M12.view _ inb_S128x128_S128x128_0_0, ld5, ld8]
  refine (pay1_pt _ _ _ _ j o).trans ?_
  simp only [p68, p63, ld4, ld6, riSel]
  rfl
/-- What a point leaves in its block of picked scales: its group's row, every other row as it was. -/
theorem w13A (hc : k1_cond1 i = 1#1) (r : Fin 8) (l : Fin 1024) : M13.view.read (Elt Ideal) (searchRunA (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.1 (ix2 r l)
    = if r.val = (i 2).val then sselK (wrow5 c f5 l) (rcol c f4) (M6.view.read (Elt Ideal) f6 (ix2 r l)) else M13.view.read (Elt Ideal) f13 (ix2 r l) := by
  unfold searchRunA
  simp only [searchRunA.sl.r_11, searchRunA.sl.r_12, searchRunA.sl.r_13, searchRunA.sl.r_14, searchRunA.sl.r_15, searchRunA.sl.r_16, searchRunA.sl.r_17]
  split_ifs with hr
  · refine (View.read_writes_cons_unit_of_mem M13.view f13 (k1_off21_inb i) _ [] (ix2 r l) (ix2 0 l) (k1_off21_eq i) ?_).trans ?_
    · intro a
      match a with
      | ⟨0, _⟩ => exact hr
      | ⟨1, _⟩ => exact (Nat.zero_add _).symm
    · rw [ld5]
      refine (pay76_pt _ _ l).trans ?_
      simp only [p67, ld4, ld6]
      rw [show r = ⟨(i 2).val, (i 2).isLt⟩ from Fin.ext hr]
      rfl
  · refine View.read_writes_cons_unit_of_not_mem M13.view f13 (k1_off21_inb i) _ [] (ix2 r l) (k1_off21_eq i) (0 : Fin 2) ?_
    rcases Nat.lt_or_gt_of_ne hr with h | h
    · exact Or.inl h
    · exact Or.inr h

theorem t15B (j : Fin 128) (l : Fin 1024) : M15.view.read (Elt Ideal) (M15.view.writes (Elt Ideal) M15.view.junk (searchRunB.sl.H15_1 c M5 f5)) (ix2 j l) = wrow5 c f5 l j := by
  rw [searchRunB.sl.H15_1, View.read_writes_full M15.view _ inb_S128x1024_S128x1024_0_0, ld5]
  exact p64 _ _ _
theorem t16B (j : Fin 128) (l : Fin 1024) : M16.view.read (Elt Ideal) (M16.view.writes (Elt Ideal) M16.view.junk (searchRunB.sl.H16_1 c M5 M7 f5 f7)) (ix2 j l)
    = (∑ x : Fin 384, split3 (fun a b => M7.view.read (Elt Ideal) f7 (ix3 0 a b)) j x * wrow5 c f5 l ⟨x.val % 128, Nat.mod_lt _ (by omega)⟩) * Ideal.div 1 (unitV (wrow5 c f5 l)) := by
  simp only [searchRunB.sl.H16_1, searchRunB.sl.r, searchRunB.sl.r_1, searchRunB.sl.r_2, searchRunB.sl.r_3, searchRunB.sl.r_4, searchRunB.sl.r_5, searchRunB.sl.r_6]
  rw [View.read_writes_full M16.view _ inb_S128x1024_S128x1024_0_0, ld5, ld7]
  exact p74 _ _ _ _
theorem t17B (k : Fin 24) (l : Fin 1024) : M17.view.read (Elt Ideal) (M17.view.writes (Elt Ideal) M17.view.junk (searchRunB.sl.H17_1 c M4 M5 f4 f5)) (ix2 k l) = scl (wrow5 c f5 l) (rcol c f4 k) := by
  rw [searchRunB.sl.H17_1, View.read_writes_full M17.view _ inb_S24x1024_S24x1024_0_0, ld5, p69, ld4]; rfl
theorem t18B (k : Fin 24) (l : Fin 1024) : M18.view.read (Elt Ideal) (M18.view.writes (Elt Ideal) M18.view.junk (searchRunB.sl.H18_1 c M4 M5 f4 f5)) (ix2 k l) = Ideal.div 1 (scl (wrow5 c f5 l) (rcol c f4 k)) := by
  rw [searchRunB.sl.H18_1, View.read_writes_full M18.view _ inb_S24x1024_S24x1024_0_0, ld5, p70, ld4]; rfl
theorem t19B (k : Fin 24) (l : Fin 1024) : M19.view.read (Elt Ideal) (M19.view.writes (Elt Ideal) M19.view.junk (searchRunB.sl.H19_1 c M4 M5 f4 f5)) (ix2 k l) = scl (wrow5 c f5 l) (rcol c f4 k) * unitV (wrow5 c f5 l) := by
  simp only [searchRunB.sl.H19_1, searchRunB.sl.r, searchRunB.sl.r_1, searchRunB.sl.r_2, searchRunB.sl.r_3, searchRunB.sl.r_4, searchRunB.sl.r_5, searchRunB.sl.r_6]
  rw [View.read_writes_full M19.view _ inb_S24x1024_S24x1024_0_0, ld5]
  refine (p73 _ _ _ _).trans ?_
  rw [ld4]; rfl

/-- What a point leaves in its block of losses: the losses of its group's row, every other row as it was. -/
theorem w9B (hc : ¬ k1_cond1 i = 1#1) (k : Fin 20) (r : Fin 8) (l : Fin 1024) : M9.view.read (Elt Ideal) (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.1 (ix3 k r l)
    = if r.val = (i 2).val then lossK (fun j x => M14.view.read (Elt Ideal) (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.2.1 (ix4 ⟨(i 2).val, (i 2).isLt⟩ k j x)) (wrow5 c f5 l) (fun a b => M7.view.read (Elt Ideal) f7 (ix3 0 a b)) (rcol c f4 ⟨k.val, by omega⟩)
      else M9.view.read (Elt Ideal) f9 (ix3 k r l) := by
  have e : (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.1 = M9.view.writes (Elt Ideal) f9 (pb_k1_t1 (F := Ideal) Variants.none c none i M3 h3 M4 h4 M5 h5 M6 h6 M7 h7 M8 h8 M9 h9 M10 h10 M11 h11 M12 h12 M13 h13 M14 h14 M15 h15 M16 h16 M17 h17 M18 h18 M19 h19 (BitVec.ofNat 32 (i 2).val) (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.2.1 (M15.view.writes (Elt Ideal) M15.view.junk (searchRunB.sl.H15_1 c M5 f5)) (M16.view.writes (Elt Ideal) M16.view.junk (searchRunB.sl.H16_1 c M5 M7 f5 f7)) (M17.view.writes (Elt Ideal) M17.view.junk (searchRunB.sl.H17_1 c M4 M5 f4 f5)) (M18.view.writes (Elt Ideal) M18.view.junk (searchRunB.sl.H18_1 c M4 M5 f4 f5)) (M19.view.writes (Elt Ideal) M19.view.junk (searchRunB.sl.H19_1 c M4 M5 f4 f5)) k1_t1_loop.trips).1 := by
    unfold searchRunB
    dsimp only
  refine (congrArg (fun z => M9.view.read (Elt Ideal) z (ix3 k r l)) e).trans ?_
  generalize (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.2.1 = X14
  refine (loop9_read c i M3 h3 M4 h4 M5 h5 M6 h6 M7 h7 M8 h8 M9 h9 M10 h10 M11 h11 M12 h12 M13 h13 M14 h14 M15 h15 M16 h16 M17 h17 M18 h18 M19 h19 _ _ _ _ _ _ _ f9 k r l).trans (if_congr Iff.rfl ?_ rfl)
  exact G9_eq i _ _ _ _ _ _ _ _ _ _ _ _ _ _ k r l (fun j => t15B c M5 M15 f5 j l) (fun j => t16B c M5 M7 M16 f5 f7 j l) (t18B c M4 M5 M18 f4 f5 _ l) (t19B c M4 M5 M19 f4 f5 _ l) (fun j x => rfl)
/-- What a point leaves in its block of packed codes. -/
theorem w10B (hc : ¬ k1_cond1 i = 1#1) (k : Fin 20) (r : Fin 64) (l : Fin 1024) : M10.view.read (Elt Ideal) (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.1 (ix4 0 k r l)
    = byteB (codeB (wrow5 c f5 l ⟨r.val * 2, by omega⟩ * Ideal.div 1 (scl (wrow5 c f5 l) (rcol c f4 ⟨k.val, by omega⟩)))) (codeB (wrow5 c f5 l ⟨r.val * 2 + 1, by omega⟩ * Ideal.div 1 (scl (wrow5 c f5 l) (rcol c f4 ⟨k.val, by omega⟩)))) := by
  refine (loop10_read c i M3 h3 M4 h4 M5 h5 M6 h6 M7 h7 M8 h8 M9 h9 M10 h10 M11 h11 M12 h12 M13 h13 M14 h14 M15 h15 M16 h16 M17 h17 M18 h18 M19 h19 _ _ _ _ _ _ _ f10 k r l).trans ?_
  unfold byteV
  simp only [t15B, t18B]
/-- What a point leaves in its block of scales. -/
theorem w11B (hc : ¬ k1_cond1 i = 1#1) (k : Fin 20) (r : Fin 8) (l : Fin 1024) : M11.view.read (Elt Ideal) (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.1 (ix3 k r l)
    = if r.val = (i 2).val then scl (wrow5 c f5 l) (rcol c f4 ⟨k.val, by omega⟩) else M11.view.read (Elt Ideal) f11 (ix3 k r l) := by
  refine (loop11_read c i M3 h3 M4 h4 M5 h5 M6 h6 M7 h7 M8 h8 M9 h9 M10 h10 M11 h11 M12 h12 M13 h13 M14 h14 M15 h15 M16 h16 M17 h17 M18 h18 M19 h19 _ _ _ _ _ _ _ f11 k r l).trans (if_congr Iff.rfl ?_ rfl)
  exact t17B c M4 M5 M17 f4 f5 _ _
/-- What a point leaves in its block of packed words. -/
theorem w12B (hc : ¬ k1_cond1 i = 1#1) (j o : Fin 128) : M12.view.read (Elt Ideal) (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.1 (ix2 j o)
    = wordK (halfK (fun x => wrow5 c f5 x j * riSel (wrow5 c f5 x) (rcol c f4) (M6.view.read (Elt Ideal) f6 (ix2 ⟨(i 2).val, (i 2).isLt⟩ x))) (fun x => M8.view.read (Elt Ideal) f8 (ix2 x ⟨o.val, by omega⟩)))
        (halfK (fun x => wrow5 c f5 x j * riSel (wrow5 c f5 x) (rcol c f4) (M6.view.read (Elt Ideal) f6 (ix2 ⟨(i 2).val, (i 2).isLt⟩ x))) (fun x => M8.view.read (Elt Ideal) f8 (ix2 x ⟨128 + o.val, by omega⟩))) := by
  unfold searchRunB
  simp only [searchRunB.sl.H12_1, searchRunB.sl.r, searchRunB.sl.r_1, searchRunB.sl.r_2, searchRunB.sl.r_3, searchRunB.sl.r_4, searchRunB.sl.r_5, searchRunB.sl.r_6]
  rw [View.read_writes_full M12.view _ inb_S128x128_S128x128_0_0, ld5, ld8]
  refine (pay1_pt _ _ _ _ j o).trans ?_
  simp only [p68, p63, ld4, ld6, riSel]
  rfl
/-- What a point leaves in its block of picked scales: its group's row, every other row as it was. -/
theorem w13B (hc : ¬ k1_cond1 i = 1#1) (r : Fin 8) (l : Fin 1024) : M13.view.read (Elt Ideal) (searchRunB (F := Ideal) c i M3 h3 M4 h4 M5 h5 M6 h6 M7 h7 M8 h8 M9 h9 M10 h10 M11 h11 M12 h12 M13 h13 M14 h14 M15 h15 M16 h16 M17 h17 M18 h18 M19 h19 hc f3 f4 f5 f6 f7 f8 f9 f10 f11 f12 f13 f14 f15 f16 f17 f18 f19).1.2.2.2.2.1 (ix2 r l)
    = if r.val = (i 2).val then sselK (wrow5 c f5 l) (rcol c f4) (M6.view.read (Elt Ideal) f6 (ix2 r l)) else M13.view.read (Elt Ideal) f13 (ix2 r l) := by
  unfold searchRunB
  simp only [searchRunB.sl.r, searchRunB.sl.r_1, searchRunB.sl.r_2, searchRunB.sl.r_3, searchRunB.sl.r_4, searchRunB.sl.r_5, searchRunB.sl.r_6]
  split_ifs with hr
  · refine (View.read_writes_cons_unit_of_mem M13.view f13 (k1_off21_inb i) _ [] (ix2 r l) (ix2 0 l) (k1_off21_eq i) ?_).trans ?_
    · intro a
      match a with
      | ⟨0, _⟩ => exact hr
      | ⟨1, _⟩ => exact (Nat.zero_add _).symm
    · rw [ld5]
      refine (pay76_pt _ _ l).trans ?_
      simp only [p67, ld4, ld6]
      rw [show r = ⟨(i 2).val, (i 2).isLt⟩ from Fin.ext hr]
      rfl
  · refine View.read_writes_cons_unit_of_not_mem M13.view f13 (k1_off21_inb i) _ [] (ix2 r l) (k1_off21_eq i) (0 : Fin 2) ?_
    rcases Nat.lt_or_gt_of_ne hr with h | h
    · exact Or.inl h
    · exact Or.inr h
end
end Cert.KernelIdeal.Pf
end
-- ==== Proof.KI.GramPt.lean ====
module
public import proofs.«01_k».proof.Proof.KI.Tables
/-! One point of the Gram kernel at the ideal numbers: every group's block gains the products of the point's columns. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

/-- The products of a block's columns, summed over its rows: group, first position, second position. -/
def sqV (x : S2304x2048.Idx → EReal) (y : S16x128x128.Idx) : EReal :=
  ∑ t : Fin 2304, x (ix2 t ⟨(y 0).val * 128 + (y 1).val, by have : (y 0).val < 16 := (y 0).isLt; have : (y 1).val < 128 := (y 1).isLt; omega⟩)
    * x (ix2 t ⟨(y 0).val * 128 + (y 2).val, by have : (y 0).val < 16 := (y 0).isLt; have : (y 2).val < 128 := (y 2).isLt; omega⟩)

theorem pay3_pt (u : FVec Ideal S2304x128 .bf16) (w : FVec Ideal S1x128x128 .f32) (a b : Fin 128) :
    k0_pay3 (F := Ideal) u w (ix3 0 a b) = w (ix3 0 a b) + ∑ t : Fin 2304, u (ix2 t a) * u (ix2 t b) := by
  pointwise [k0_pay3]

section
variable {sp : Space} (v : View sig .tc sp S16x128x128 .f32) (f : v.ty.Contents (Elt Ideal)) (L : List (View.Piece (Elt Ideal) S16x128x128 .f32))

/-- A store of one group's block on top of stores of the groups before it. -/
theorem gstep (g : ℕ) (hg : g < 16) (inb : ∀ a, (![g, 0, 0] : Fin 3 → ℕ) a + S1x128x128.size a ≤ S16x128x128.size a) (w : S1x128x128.Idx → EReal) (G : S16x128x128.Idx → EReal)
    (hL : ∀ y : S16x128x128.Idx, (y 0).val < g → v.read (Elt Ideal) (v.writes (Elt Ideal) f L) y = G y) (hw : ∀ a b : Fin 128, w (ix3 0 a b) = G (ix3 ⟨g, hg⟩ a b)) :
    ∀ y : S16x128x128.Idx, (y 0).val < g + 1 → v.read (Elt Ideal) (v.writes (Elt Ideal) f (⟨Rect.unit (s := S16x128x128) ![g, 0, 0] S1x128x128.size inb, w⟩ :: L)) y = G y := by
  intro y hy
  by_cases h : (y 0).val = g
  · have hx : y = ix3 ⟨g, hg⟩ (y 1) (y 2) := funext fun a => Fin.ext (by
      match a with
      | ⟨0, _⟩ => exact h
      | ⟨1, _⟩ => rfl
      | ⟨2, _⟩ => rfl)
    refine (View.read_writes_cons_hit_of_coords v f (Rect.unit (s := S16x128x128) ![g, 0, 0] S1x128x128.size inb) w L (ix3 0 (y 1) (y 2)) y ?_).trans ((hw (y 1) (y 2)).trans (congrArg G hx.symm))
    intro a
    match a with
    | ⟨0, _⟩ => show (y 0).val = g + 1 * 0; omega
    | ⟨1, _⟩ => show (y 1).val = 0 + 1 * (y 1).val; omega
    | ⟨2, _⟩ => show (y 2).val = 0 + 1 * (y 2).val; omega
  · refine (View.read_writes_cons_miss_of_axis v f _ L y 0 g 1 rfl rfl rfl ?_).trans (hL y (by omega))
    omega

/-- A store of one group's block leaves the later groups zero. -/
theorem zstep (g : ℕ) (inb : ∀ a, (![g, 0, 0] : Fin 3 → ℕ) a + S1x128x128.size a ≤ S16x128x128.size a) (w : S1x128x128.Idx → EReal)
    (hL : ∀ y : S16x128x128.Idx, g ≤ (y 0).val → v.read (Elt Ideal) (v.writes (Elt Ideal) f L) y = 0) :
    ∀ y : S16x128x128.Idx, g + 1 ≤ (y 0).val → v.read (Elt Ideal) (v.writes (Elt Ideal) f (⟨Rect.unit (s := S16x128x128) ![g, 0, 0] S1x128x128.size inb, w⟩ :: L)) y = 0 := by
  intro y hy
  refine (View.read_writes_cons_miss_of_axis v f _ L y 0 g 1 rfl rfl rfl ?_).trans (hL y (by omega))
  omega

/-- Both at once: the groups below `g` stored, the others zero. -/
theorem gzstep (g : ℕ) (hg : g < 16) (inb : ∀ a, (![g, 0, 0] : Fin 3 → ℕ) a + S1x128x128.size a ≤ S16x128x128.size a) (w : S1x128x128.Idx → EReal) (G : S16x128x128.Idx → EReal)
    (hL : (∀ y : S16x128x128.Idx, (y 0).val < g → v.read (Elt Ideal) (v.writes (Elt Ideal) f L) y = G y) ∧ ∀ y : S16x128x128.Idx, g ≤ (y 0).val → v.read (Elt Ideal) (v.writes (Elt Ideal) f L) y = 0)
    (hw : (∀ y : S16x128x128.Idx, g ≤ (y 0).val → v.read (Elt Ideal) (v.writes (Elt Ideal) f L) y = 0) → ∀ a b : Fin 128, w (ix3 0 a b) = G (ix3 ⟨g, hg⟩ a b)) :
    (∀ y : S16x128x128.Idx, (y 0).val < g + 1 → v.read (Elt Ideal) (v.writes (Elt Ideal) f (⟨Rect.unit (s := S16x128x128) ![g, 0, 0] S1x128x128.size inb, w⟩ :: L)) y = G y)
      ∧ ∀ y : S16x128x128.Idx, g + 1 ≤ (y 0).val → v.read (Elt Ideal) (v.writes (Elt Ideal) f (⟨Rect.unit (s := S16x128x128) ![g, 0, 0] S1x128x128.size inb, w⟩ :: L)) y = 0 :=
  ⟨gstep v f L g hg inb w G hL.1 (hw hL.2), zstep v f L g inb w hL.2⟩

/-- A load of one group's block reads the contents there. -/
theorem gload (g : ℕ) (hg : g < 16) (inb : ∀ a, (![g, 0, 0] : Fin 3 → ℕ) a + S1x128x128.size a ≤ S16x128x128.size a) (a b : Fin 128) :
    v.readAt (Elt Ideal) (Rect.unit (s := S16x128x128) ![g, 0, 0] S1x128x128.size inb).toLoadRect f (ix3 0 a b) = v.read (Elt Ideal) f (ix3 ⟨g, hg⟩ a b) := by
  refine congrArg (v.read (Elt Ideal) f) (funext fun d => Fin.ext ?_)
  match d with
  | ⟨0, _⟩ => show g + 1 * 0 = g; omega
  | ⟨1, _⟩ => show 0 + 1 * a.val = a.val; omega
  | ⟨2, _⟩ => show 0 + 1 * b.val = b.val; omega
end

/-- One group's payload: the block's old values plus the products of the group's columns. -/
theorem gpay {sp : Space} (v : View sig .tc sp S2304x2048 .bf16) (f : v.ty.Contents (Elt Ideal)) (g o : ℕ) (hg : g < 16) (ho : o = g * 128)
    (inb : ∀ a, (![0, o] : Fin 2 → ℕ) a + S2304x128.size a ≤ S2304x2048.size a) (w : S1x128x128.Idx → EReal) (A : S16x128x128.Idx → EReal) (a b : Fin 128)
    (hw : w (ix3 0 a b) = A (ix3 ⟨g, hg⟩ a b)) :
    k0_pay3 (F := Ideal) (v.readAt (Elt Ideal) (Rect.unit (s := S2304x2048) ![0, o] S2304x128.size inb).toLoadRect f) w (ix3 0 a b)
      = A (ix3 ⟨g, hg⟩ a b) + sqV (v.read (Elt Ideal) f) (ix3 ⟨g, hg⟩ a b) := by
  subst ho
  rw [pay3_pt, hw]
  refine congrArg (A (ix3 ⟨g, hg⟩ a b) + ·) (Finset.sum_congr rfl fun t _ => ?_)
  refine congrArg₂ (· * ·) ?_ ?_
  · exact readAt2 v f inb rfl (ix2 t a) _ (Nat.zero_add _).symm rfl
  · exact readAt2 v f inb rfl (ix2 t b) _ (Nat.zero_add _).symm rfl

section
variable (c : Dev nD) (i : grid0.Coords) (M0 : Memref sig .tc .vmem S2304x2048 .bf16) (h0 : M0.IsWhole) (M1 : Memref sig .tc .vmem S16x128x128 .f32) (h1 : M1.IsWhole)
  (f0 : Bf Ideal c M0) (f1 : Bf Ideal c M1)

set_option maxHeartbeats 4000000 in
theorem gramB (hc : ¬ cond0 i) (y : S16x128x128.Idx) : M1.view.read (Elt Ideal) (gramRunB (F := Ideal) c i M0 h0 M1 h1 hc f0 f1).1 y
    = M1.view.read (Elt Ideal) f1 y + sqV (M0.view.read (Elt Ideal) f0) y := by
  have e : (gramRunB (F := Ideal) c i M0 h0 M1 h1 hc f0 f1).1 = M1.view.writes (Elt Ideal) M1.view.junk (gramRunB.sl.H1_16 c M0 M1 f0 f1) := by
    unfold gramRunB
    dsimp only
  rw [e]
  unfold gramRunB.sl.H1_16
  exact (gstep M1.view _ _ 15 (by omega) inb_S16x128x128_S1x128x128_15_0_0 _ (fun y => M1.view.read (Elt Ideal) f1 y + sqV (M0.view.read (Elt Ideal) f0) y)
    (gstep M1.view _ _ 14 (by omega) inb_S16x128x128_S1x128x128_14_0_0 _ (fun y => M1.view.read (Elt Ideal) f1 y + sqV (M0.view.read (Elt Ideal) f0) y)
    (gstep M1.view _ _ 13 (by omega) inb_S16x128x128_S1x128x128_13_0_0 _ (fun y => M1.view.read (Elt Ideal) f1 y + sqV (M0.view.read (Elt Ideal) f0) y)
    (gstep M1.view _ _ 12 (by omega) inb_S16x128x128_S1x128x128_12_0_0 _ (fun y => M1.view.read (Elt Ideal) f1 y + sqV (M0.view.read (Elt Ideal) f0) y)
    (gstep M1.view _ _ 11 (by omega) inb_S16x128x128_S1x128x128_11_0_0 _ (fun y => M1.view.read (Elt Ideal) f1 y + sqV (M0.view.read (Elt Ideal) f0) y)
    (gstep M1.view _ _ 10 (by omega) inb_S16x128x128_S1x128x128_10_0_0 _ (fun y => M1.view.read (Elt Ideal) f1 y + sqV (M0.view.read (Elt Ideal) f0) y)
    (gstep M1.view _ _ 9 (by omega) inb_S16x128x128_S1x128x128_9_0_0 _ (fun y => M1.view.read (Elt Ideal) f1 y + sqV (M0.view.read (Elt Ideal) f0) y)
    (gstep M1.view _ _ 8 (by omega) inb_S16x128x128_S1x128x128_8_0_0 _ (fun y => M1.view.read (Elt Ideal) f1 y + sqV (M0.view.read (Elt Ideal) f0) y)
    (gstep M1.view _ _ 7 (by omega) inb_S16x128x128_S1x128x128_7_0_0 _ (fun y => M1.view.read (Elt Ideal) f1 y + sqV (M0.view.read (Elt Ideal) f0) y)
    (gstep M1.view _ _ 6 (by omega) inb_S16x128x128_S1x128x128_6_0_0 _ (fun y => M1.view.read (Elt Ideal) f1 y + sqV (M0.view.read (Elt Ideal) f0) y)
    (gstep M1.view _ _ 5 (by omega) inb_S16x128x128_S1x128x128_5_0_0 _ (fun y => M1.view.read (Elt Ideal) f1 y + sqV (M0.view.read (Elt Ideal) f0) y)
    (gstep M1.view _ _ 4 (by omega) inb_S16x128x128_S1x128x128_4_0_0 _ (fun y => M1.view.read (Elt Ideal) f1 y + sqV (M0.view.read (Elt Ideal) f0) y)
    (gstep M1.view _ _ 3 (by omega) inb_S16x128x128_S1x128x128_3_0_0 _ (fun y => M1.view.read (Elt Ideal) f1 y + sqV (M0.view.read (Elt Ideal) f0) y)
    (gstep M1.view _ _ 2 (by omega) inb_S16x128x128_S1x128x128_2_0_0 _ (fun y => M1.view.read (Elt Ideal) f1 y + sqV (M0.view.read (Elt Ideal) f0) y)
    (gstep M1.view _ _ 1 (by omega) inb_S16x128x128_S1x128x128_1_0_0 _ (fun y => M1.view.read (Elt Ideal) f1 y + sqV (M0.view.read (Elt Ideal) f0) y)
    (gstep M1.view _ _ 0 (by omega) inb_S16x128x128_S1x128x128_0_0_0 _ (fun y => M1.view.read (Elt Ideal) f1 y + sqV (M0.view.read (Elt Ideal) f0) y)
    (fun y h => absurd h (Nat.not_lt_zero _))
    (fun a b => gpay M0.view f0 0 0 (by omega) rfl inb_S2304x2048_S2304x128_0_0 _ (M1.view.read (Elt Ideal) f1) a b (gload M1.view f1 0 (by omega) inb_S16x128x128_S1x128x128_0_0_0 a b)))
    (fun a b => gpay M0.view f0 1 128 (by omega) rfl inb_S2304x2048_S2304x128_0_128 _ (M1.view.read (Elt Ideal) f1) a b (gload M1.view f1 1 (by omega) inb_S16x128x128_S1x128x128_1_0_0 a b)))
    (fun a b => gpay M0.view f0 2 256 (by omega) rfl inb_S2304x2048_S2304x128_0_256 _ (M1.view.read (Elt Ideal) f1) a b (gload M1.view f1 2 (by omega) inb_S16x128x128_S1x128x128_2_0_0 a b)))
    (fun a b => gpay M0.view f0 3 384 (by omega) rfl inb_S2304x2048_S2304x128_0_384 _ (M1.view.read (Elt Ideal) f1) a b (gload M1.view f1 3 (by omega) inb_S16x128x128_S1x128x128_3_0_0 a b)))
    (fun a b => gpay M0.view f0 4 512 (by omega) rfl inb_S2304x2048_S2304x128_0_512 _ (M1.view.read (Elt Ideal) f1) a b (gload M1.view f1 4 (by omega) inb_S16x128x128_S1x128x128_4_0_0 a b)))
    (fun a b => gpay M0.view f0 5 640 (by omega) rfl inb_S2304x2048_S2304x128_0_640 _ (M1.view.read (Elt Ideal) f1) a b (gload M1.view f1 5 (by omega) inb_S16x128x128_S1x128x128_5_0_0 a b)))
    (fun a b => gpay M0.view f0 6 768 (by omega) rfl inb_S2304x2048_S2304x128_0_768 _ (M1.view.read (Elt Ideal) f1) a b (gload M1.view f1 6 (by omega) inb_S16x128x128_S1x128x128_6_0_0 a b)))
    (fun a b => gpay M0.view f0 7 896 (by omega) rfl inb_S2304x2048_S2304x128_0_896 _ (M1.view.read (Elt Ideal) f1) a b (gload M1.view f1 7 (by omega) inb_S16x128x128_S1x128x128_7_0_0 a b)))
    (fun a b => gpay M0.view f0 8 1024 (by omega) rfl inb_S2304x2048_S2304x128_0_1024 _ (M1.view.read (Elt Ideal) f1) a b (gload M1.view f1 8 (by omega) inb_S16x128x128_S1x128x128_8_0_0 a b)))
    (fun a b => gpay M0.view f0 9 1152 (by omega) rfl inb_S2304x2048_S2304x128_0_1152 _ (M1.view.read (Elt Ideal) f1) a b (gload M1.view f1 9 (by omega) inb_S16x128x128_S1x128x128_9_0_0 a b)))
    (fun a b => gpay M0.view f0 10 1280 (by omega) rfl inb_S2304x2048_S2304x128_0_1280 _ (M1.view.read (Elt Ideal) f1) a b (gload M1.view f1 10 (by omega) inb_S16x128x128_S1x128x128_10_0_0 a b)))
    (fun a b => gpay M0.view f0 11 1408 (by omega) rfl inb_S2304x2048_S2304x128_0_1408 _ (M1.view.read (Elt Ideal) f1) a b (gload M1.view f1 11 (by omega) inb_S16x128x128_S1x128x128_11_0_0 a b)))
    (fun a b => gpay M0.view f0 12 1536 (by omega) rfl inb_S2304x2048_S2304x128_0_1536 _ (M1.view.read (Elt Ideal) f1) a b (gload M1.view f1 12 (by omega) inb_S16x128x128_S1x128x128_12_0_0 a b)))
    (fun a b => gpay M0.view f0 13 1664 (by omega) rfl inb_S2304x2048_S2304x128_0_1664 _ (M1.view.read (Elt Ideal) f1) a b (gload M1.view f1 13 (by omega) inb_S16x128x128_S1x128x128_13_0_0 a b)))
    (fun a b => gpay M0.view f0 14 1792 (by omega) rfl inb_S2304x2048_S2304x128_0_1792 _ (M1.view.read (Elt Ideal) f1) a b (gload M1.view f1 14 (by omega) inb_S16x128x128_S1x128x128_14_0_0 a b)))
    (fun a b => gpay M0.view f0 15 1920 (by omega) rfl inb_S2304x2048_S2304x128_0_1920 _ (M1.view.read (Elt Ideal) f1) a b (gload M1.view f1 15 (by omega) inb_S16x128x128_S1x128x128_15_0_0 a b))) y (y 0).isLt

set_option maxHeartbeats 4000000 in
theorem gramA (hc : cond0 i) (y : S16x128x128.Idx) : M1.view.read (Elt Ideal) (gramRunA (F := Ideal) c i M0 h0 M1 h1 hc f0).1 y
    = 0 + sqV (M0.view.read (Elt Ideal) f0) y := by
  have e : (gramRunA (F := Ideal) c i M0 h0 M1 h1 hc f0).1 = M1.view.writes (Elt Ideal) M1.view.junk (gramRunA.sl.H1_17 c M0 M1 f0) := by
    unfold gramRunA
    dsimp only
  rw [e]
  unfold gramRunA.sl.H1_17 gramRunA.sl.H1_16 gramRunA.sl.H1_15 gramRunA.sl.H1_14 gramRunA.sl.H1_13 gramRunA.sl.H1_12 gramRunA.sl.H1_11 gramRunA.sl.H1_10 gramRunA.sl.H1_9 gramRunA.sl.H1_8 gramRunA.sl.H1_7 gramRunA.sl.H1_6 gramRunA.sl.H1_5 gramRunA.sl.H1_4 gramRunA.sl.H1_3 gramRunA.sl.H1_2
  have z0 : ∀ y : S16x128x128.Idx, M1.view.read (Elt Ideal) (M1.view.writes (Elt Ideal) M1.view.junk
      [⟨Rect.unit (s := S16x128x128) ![0, 0, 0] S16x128x128.size inb_S16x128x128_S16x128x128_0_0_0, k0_pay2 (F := Ideal)⟩]) y = 0 := fun y => by
    refine (View.read_writes_cons_hit_of_coords M1.view _ (Rect.unit (s := S16x128x128) ![0, 0, 0] S16x128x128.size inb_S16x128x128_S16x128x128_0_0_0) _ _ y y ?_).trans ?_
    · intro a
      match a with
      | ⟨0, _⟩ => show (y 0).val = 0 + 1 * (y 0).val; omega
      | ⟨1, _⟩ => show (y 1).val = 0 + 1 * (y 1).val; omega
      | ⟨2, _⟩ => show (y 2).val = 0 + 1 * (y 2).val; omega
    · pointwise [k0_pay2]
  exact (gzstep M1.view _ _ 15 (by omega) inb_S16x128x128_S1x128x128_15_0_0 _ (fun y => 0 + sqV (M0.view.read (Elt Ideal) f0) y)
    (gzstep M1.view _ _ 14 (by omega) inb_S16x128x128_S1x128x128_14_0_0 _ (fun y => 0 + sqV (M0.view.read (Elt Ideal) f0) y)
    (gzstep M1.view _ _ 13 (by omega) inb_S16x128x128_S1x128x128_13_0_0 _ (fun y => 0 + sqV (M0.view.read (Elt Ideal) f0) y)
    (gzstep M1.view _ _ 12 (by omega) inb_S16x128x128_S1x128x128_12_0_0 _ (fun y => 0 + sqV (M0.view.read (Elt Ideal) f0) y)
    (gzstep M1.view _ _ 11 (by omega) inb_S16x128x128_S1x128x128_11_0_0 _ (fun y => 0 + sqV (M0.view.read (Elt Ideal) f0) y)
    (gzstep M1.view _ _ 10 (by omega) inb_S16x128x128_S1x128x128_10_0_0 _ (fun y => 0 + sqV (M0.view.read (Elt Ideal) f0) y)
    (gzstep M1.view _ _ 9 (by omega) inb_S16x128x128_S1x128x128_9_0_0 _ (fun y => 0 + sqV (M0.view.read (Elt Ideal) f0) y)
    (gzstep M1.view _ _ 8 (by omega) inb_S16x128x128_S1x128x128_8_0_0 _ (fun y => 0 + sqV (M0.view.read (Elt Ideal) f0) y)
    (gzstep M1.view _ _ 7 (by omega) inb_S16x128x128_S1x128x128_7_0_0 _ (fun y => 0 + sqV (M0.view.read (Elt Ideal) f0) y)
    (gzstep M1.view _ _ 6 (by omega) inb_S16x128x128_S1x128x128_6_0_0 _ (fun y => 0 + sqV (M0.view.read (Elt Ideal) f0) y)
    (gzstep M1.view _ _ 5 (by omega) inb_S16x128x128_S1x128x128_5_0_0 _ (fun y => 0 + sqV (M0.view.read (Elt Ideal) f0) y)
    (gzstep M1.view _ _ 4 (by omega) inb_S16x128x128_S1x128x128_4_0_0 _ (fun y => 0 + sqV (M0.view.read (Elt Ideal) f0) y)
    (gzstep M1.view _ _ 3 (by omega) inb_S16x128x128_S1x128x128_3_0_0 _ (fun y => 0 + sqV (M0.view.read (Elt Ideal) f0) y)
    (gzstep M1.view _ _ 2 (by omega) inb_S16x128x128_S1x128x128_2_0_0 _ (fun y => 0 + sqV (M0.view.read (Elt Ideal) f0) y)
    (gzstep M1.view _ _ 1 (by omega) inb_S16x128x128_S1x128x128_1_0_0 _ (fun y => 0 + sqV (M0.view.read (Elt Ideal) f0) y)
    (gzstep M1.view _ _ 0 (by omega) inb_S16x128x128_S1x128x128_0_0_0 _ (fun y => 0 + sqV (M0.view.read (Elt Ideal) f0) y)
    (⟨fun y h => absurd h (Nat.not_lt_zero _), fun y _ => z0 y⟩)
    (fun hz a b => gpay M0.view f0 0 0 (by omega) rfl inb_S2304x2048_S2304x128_0_0 _ (fun _ => 0) a b ((gload M1.view _ 0 (by omega) inb_S16x128x128_S1x128x128_0_0_0 a b).trans (hz _ (le_refl _)))))
    (fun hz a b => gpay M0.view f0 1 128 (by omega) rfl inb_S2304x2048_S2304x128_0_128 _ (fun _ => 0) a b ((gload M1.view _ 1 (by omega) inb_S16x128x128_S1x128x128_1_0_0 a b).trans (hz _ (le_refl _)))))
    (fun hz a b => gpay M0.view f0 2 256 (by omega) rfl inb_S2304x2048_S2304x128_0_256 _ (fun _ => 0) a b ((gload M1.view _ 2 (by omega) inb_S16x128x128_S1x128x128_2_0_0 a b).trans (hz _ (le_refl _)))))
    (fun hz a b => gpay M0.view f0 3 384 (by omega) rfl inb_S2304x2048_S2304x128_0_384 _ (fun _ => 0) a b ((gload M1.view _ 3 (by omega) inb_S16x128x128_S1x128x128_3_0_0 a b).trans (hz _ (le_refl _)))))
    (fun hz a b => gpay M0.view f0 4 512 (by omega) rfl inb_S2304x2048_S2304x128_0_512 _ (fun _ => 0) a b ((gload M1.view _ 4 (by omega) inb_S16x128x128_S1x128x128_4_0_0 a b).trans (hz _ (le_refl _)))))
    (fun hz a b => gpay M0.view f0 5 640 (by omega) rfl inb_S2304x2048_S2304x128_0_640 _ (fun _ => 0) a b ((gload M1.view _ 5 (by omega) inb_S16x128x128_S1x128x128_5_0_0 a b).trans (hz _ (le_refl _)))))
    (fun hz a b => gpay M0.view f0 6 768 (by omega) rfl inb_S2304x2048_S2304x128_0_768 _ (fun _ => 0) a b ((gload M1.view _ 6 (by omega) inb_S16x128x128_S1x128x128_6_0_0 a b).trans (hz _ (le_refl _)))))
    (fun hz a b => gpay M0.view f0 7 896 (by omega) rfl inb_S2304x2048_S2304x128_0_896 _ (fun _ => 0) a b ((gload M1.view _ 7 (by omega) inb_S16x128x128_S1x128x128_7_0_0 a b).trans (hz _ (le_refl _)))))
    (fun hz a b => gpay M0.view f0 8 1024 (by omega) rfl inb_S2304x2048_S2304x128_0_1024 _ (fun _ => 0) a b ((gload M1.view _ 8 (by omega) inb_S16x128x128_S1x128x128_8_0_0 a b).trans (hz _ (le_refl _)))))
    (fun hz a b => gpay M0.view f0 9 1152 (by omega) rfl inb_S2304x2048_S2304x128_0_1152 _ (fun _ => 0) a b ((gload M1.view _ 9 (by omega) inb_S16x128x128_S1x128x128_9_0_0 a b).trans (hz _ (le_refl _)))))
    (fun hz a b => gpay M0.view f0 10 1280 (by omega) rfl inb_S2304x2048_S2304x128_0_1280 _ (fun _ => 0) a b ((gload M1.view _ 10 (by omega) inb_S16x128x128_S1x128x128_10_0_0 a b).trans (hz _ (le_refl _)))))
    (fun hz a b => gpay M0.view f0 11 1408 (by omega) rfl inb_S2304x2048_S2304x128_0_1408 _ (fun _ => 0) a b ((gload M1.view _ 11 (by omega) inb_S16x128x128_S1x128x128_11_0_0 a b).trans (hz _ (le_refl _)))))
    (fun hz a b => gpay M0.view f0 12 1536 (by omega) rfl inb_S2304x2048_S2304x128_0_1536 _ (fun _ => 0) a b ((gload M1.view _ 12 (by omega) inb_S16x128x128_S1x128x128_12_0_0 a b).trans (hz _ (le_refl _)))))
    (fun hz a b => gpay M0.view f0 13 1664 (by omega) rfl inb_S2304x2048_S2304x128_0_1664 _ (fun _ => 0) a b ((gload M1.view _ 13 (by omega) inb_S16x128x128_S1x128x128_13_0_0 a b).trans (hz _ (le_refl _)))))
    (fun hz a b => gpay M0.view f0 14 1792 (by omega) rfl inb_S2304x2048_S2304x128_0_1792 _ (fun _ => 0) a b ((gload M1.view _ 14 (by omega) inb_S16x128x128_S1x128x128_14_0_0 a b).trans (hz _ (le_refl _)))))
    (fun hz a b => gpay M0.view f0 15 1920 (by omega) rfl inb_S2304x2048_S2304x128_0_1920 _ (fun _ => 0) a b ((gload M1.view _ 15 (by omega) inb_S16x128x128_S1x128x128_15_0_0 a b).trans (hz _ (le_refl _))))).1 y (y 0).isLt
end
end Cert.KernelIdeal.Pf
end
-- ==== Proof.KI.Blocks.lean ====
module
public import proofs.«01_k».proof.Proof.KI.Tables
public import Idealize.ShloMosaic.Lib.Pipeline.ValueKit
/-! The search kernel's five results as functions of the arrays it reads, and its input blocks at coordinates: grid point
    `t` has panel `t / 48` of eight groups, row block `t / 8 % 6` of 1024 rows, and group `t % 8` of the panel. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic
open Idealize.ShloMosaic.Pipeline (Dat RDat Cfg Window)

variable (V : Vals Ideal) (c : Dev nD)

/-- The weights of one row and group. -/
def wV (r : Fin 6144) (g : Fin 16) : Fin 128 → EReal := fun j => (V c main_arg1 : FVec Ideal S6144x2048 .bf16) (ix2 r ⟨g.val * 128 + j.val, by omega⟩)
/-- The ratios of the padded table. -/
def rV : Fin 24 → EReal := fun k => (V c main_v0 : FVec Ideal S24x128 .f32) (ix2 k 0)
/-- A group's Gram matrix. -/
def gV (g : Fin 16) : Fin 128 → Fin 128 → EReal := fun a b => (V c main_v2 : FVec Ideal S16x128x128 .f32) (ix3 g a b)
/-- The chosen ratio's index. -/
def nV (g : Fin 16) (r : Fin 6144) : BitVec 32 := (V c main_v3 : IVec S16x6144 32) (ix2 g r)
/-- The pack matrix. -/
def pV (x : Fin 1024) (o : Fin 256) : EReal := (V c main_v9 : FVec Ideal S1024x256 .bf16) (ix2 x o)

/-- The slot of the scaled Gram matrices of one group and ratio. -/
def slotV (g : Fin 16) (k : Fin 20) : Fin 128 → Fin 384 → EReal := split3 (fun a b => gV V c g a b * Ideal.ofBits .f32 (ratW k))
/-- The losses. -/
def lossA (g : Fin 16) (r : Fin 6144) (k : Fin 20) : EReal := lossK (slotV V c g k) (wV V c r g) (gV V c g) (rV V c ⟨k.val, by omega⟩)
/-- One code. -/
def codeA (g : Fin 16) (r : Fin 6144) (k : Fin 24) (j : Fin 128) : EReal := codeB (wV V c r g j * Ideal.div 1 (scl (wV V c r g) (rV V c k)))
/-- The packed codes. -/
def bytesA (g : Fin 16) (r : Fin 6144) (k : Fin 20) (i : Fin 64) : BitVec 8 :=
  byteB (codeA V c g r ⟨k.val, by omega⟩ ⟨i.val * 2, by omega⟩) (codeA V c g r ⟨k.val, by omega⟩ ⟨i.val * 2 + 1, by omega⟩)
/-- The scales. -/
def scaleA (g : Fin 16) (r : Fin 6144) (k : Fin 20) : EReal := scl (wV V c r g) (rV V c ⟨k.val, by omega⟩)
/-- The packed words of one group, block of 1024 rows, position in the group and word. -/
def qwA (g : Fin 16) (b : Fin 6) (j o : Fin 128) : BitVec 32 :=
  wordK (halfK (fun x => wV V c ⟨b.val * 1024 + x.val, by omega⟩ g j * riSel (wV V c ⟨b.val * 1024 + x.val, by omega⟩ g) (rV V c) (nV V c g ⟨b.val * 1024 + x.val, by omega⟩)) (fun x => pV V c x ⟨o.val, by omega⟩))
    (halfK (fun x => wV V c ⟨b.val * 1024 + x.val, by omega⟩ g j * riSel (wV V c ⟨b.val * 1024 + x.val, by omega⟩ g) (rV V c) (nV V c g ⟨b.val * 1024 + x.val, by omega⟩)) (fun x => pV V c x ⟨128 + o.val, by omega⟩))
/-- The chosen scales. -/
def sselA (g : Fin 16) (r : Fin 6144) : EReal := sselK (wV V c r g) (rV V c) (nV V c g r)

theorem lt96 (t : Fin cfg1.N) : t.val < 96 := t.isLt

/-- The row of the weights under row `l` of point `t`'s block. -/
def rowT (t : Fin cfg1.N) (l : Fin 1024) : Fin 6144 := ⟨t.val / 8 % 6 * 1024 + l.val, by omega⟩
/-- The group under row `r` of point `t`'s panel. -/
def grpT (t : Fin cfg1.N) (r : Fin 8) : Fin 16 := ⟨t.val / 48 * 8 + r.val, by have := lt96 t; omega⟩
/-- Point `t`'s group in its panel. -/
def gT (t : Fin cfg1.N) : Fin 8 := ⟨t.val % 8, by omega⟩
/-- Point `t`'s block of rows. -/
def bT (t : Fin cfg1.N) : Fin 6 := ⟨t.val / 8 % 6, by omega⟩

theorem c0T : ∀ t : Fin cfg1.N, ((grid1.coords t) 0).val = t.val / 48 := (by decide +kernel : ∀ t : Fin grid1.N, _)
theorem c1T : ∀ t : Fin cfg1.N, ((grid1.coords t) 1).val = t.val / 8 % 6 := (by decide +kernel : ∀ t : Fin grid1.N, _)
theorem c2T : ∀ t : Fin cfg1.N, ((grid1.coords t) 2).val = t.val % 8 := (by decide +kernel : ∀ t : Fin grid1.N, _)
theorem e1 : ∀ t : Fin cfg1.N, win1_1.index t = ![0, 0] := (by decide +kernel : ∀ t : Fin grid1.N, _)
theorem e2 : ∀ t : Fin cfg1.N, win1_2.index t = ![t.val / 8 % 6, t.val / 48 * 8 + t.val % 8] := (by decide +kernel : ∀ t : Fin grid1.N, _)
theorem e3 : ∀ t : Fin cfg1.N, win1_3.index t = ![t.val / 48, t.val / 8 % 6] := (by decide +kernel : ∀ t : Fin grid1.N, _)
theorem e4 : ∀ t : Fin cfg1.N, win1_4.index t = ![t.val / 48 * 8 + t.val % 8, 0, 0] := (by decide +kernel : ∀ t : Fin grid1.N, _)
theorem e5 : ∀ t : Fin cfg1.N, win1_5.index t = ![0, 0] := (by decide +kernel : ∀ t : Fin grid1.N, _)
theorem e6 : ∀ t : Fin cfg1.N, win1_6.index t = ![0, t.val / 48, t.val / 8 % 6] := (by decide +kernel : ∀ t : Fin grid1.N, _)
theorem e7 : ∀ t : Fin cfg1.N, win1_7.index t = ![t.val / 48 * 8 + t.val % 8, 0, 0, t.val / 8 % 6] := (by decide +kernel : ∀ t : Fin grid1.N, _)
theorem e8 : ∀ t : Fin cfg1.N, win1_8.index t = ![0, t.val / 48, t.val / 8 % 6] := (by decide +kernel : ∀ t : Fin grid1.N, _)
theorem e9 : ∀ t : Fin cfg1.N, win1_9.index t = ![t.val / 48 * 8 + t.val % 8, t.val / 8 % 6] := (by decide +kernel : ∀ t : Fin grid1.N, _)
theorem e10 : ∀ t : Fin cfg1.N, win1_10.index t = ![t.val / 48, t.val / 8 % 6] := (by decide +kernel : ∀ t : Fin grid1.N, _)

variable (t : Fin cfg1.N)

theorem b1 (k : Fin 24) : (iblk1 V c 1 t : S24x128.Idx → EReal) (ix2 k 0) = rV V c k := by
  refine congrArg (V c main_v0) ?_
  blk_ext [e1]
theorem b2 (l : Fin 1024) (j : Fin 128) : (iblk1 V c 2 t : S1024x128.Idx → EReal) (ix2 l j) = wV V c (rowT t l) (grpT t (gT t)) j := by
  refine congrArg (V c main_arg1) ?_
  blk_ext [e2, rowT, grpT, gT]
theorem b3 (r : Fin 8) (l : Fin 1024) : (iblk1 V c 3 t : S8x1024.Idx → BitVec 32) (ix2 r l) = nV V c (grpT t r) (rowT t l) := by
  refine congrArg (V c main_v3) ?_
  blk_ext [e3, rowT, grpT]
theorem b4 (a b : Fin 128) : (iblk1 V c 4 t : S1x128x128.Idx → EReal) (ix3 0 a b) = gV V c (grpT t (gT t)) a b := by
  refine congrArg (V c main_v2) ?_
  blk_ext [e4, grpT, gT]
theorem b5 (x : Fin 1024) (o : Fin 256) : (iblk1 V c 5 t : S1024x256.Idx → EReal) (ix2 x o) = pV V c x o := by
  refine congrArg (V c main_v9) ?_
  blk_ext [e5]
end Cert.KernelIdeal.Pf
end
-- ==== Proof.KI.GramSum.lean ====
module
public import proofs.«01_k».proof.Proof.KI.GramPt
public import proofs.«01_k».proof.Proof.KI.Blocks
public import proofs.«01_k».proof.Proof.KI.Run
/-! The Gram kernel's result: the products of the columns of each group, summed over all the tokens. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic
open Idealize.ShloMosaic.Pipeline (Dat RDat Cfg Window)

section
variable (V : Vals Ideal) (c : Dev nD)

/-- The activations, by token and column. -/
def xV (t : Fin 9216) (j : Fin 2048) : EReal := (V c main_v1 : FVec Ideal S9216x2048 .bf16) (ix2 t j)

theorem ex0 : ∀ t : Fin cfg0.N, win0_0.index t = ![t.val, 0] := (by decide +kernel : ∀ t : Fin grid0.N, _)
theorem ex1 : ∀ t : Fin cfg0.N, win0_1.index t = ![0, 0, 0] := (by decide +kernel : ∀ t : Fin grid0.N, _)
theorem lt4 (t : Fin cfg0.N) : t.val < 4 := t.isLt

theorem xblk_at (t : Fin cfg0.N) (r : Fin 2304) (j : Fin 2048) : (xblk V c t : S2304x2048.Idx → EReal) (ix2 r j) = xV V c ⟨t.val * 2304 + r.val, by have := lt4 t; omega⟩ j := by
  refine congrArg (V c main_v1) ?_
  blk_ext [ex0]

theorem sqV_at (x : S2304x2048.Idx → EReal) (g : Fin 16) (a b : Fin 128) : sqV x (ix3 g a b)
    = ∑ t : Fin 2304, x (ix2 t ⟨g.val * 128 + a.val, by omega⟩) * x (ix2 t ⟨g.val * 128 + b.val, by omega⟩) := rfl

/-- The accumulator after each point. -/
def a0V : S16x128x128.Idx → EReal := (acc0 V c).1
def a1V : S16x128x128.Idx → EReal := (acc1 V c).1
def a2V : S16x128x128.Idx → EReal := (acc2 V c).1
def a3V : S16x128x128.Idx → EReal := (acc3 V c).1
/-- The activations' block of each point. -/
def xb (t : Fin cfg0.N) : S2304x2048.Idx → EReal := xblk V c t

theorem acc0_at (y : S16x128x128.Idx) : a0V V c y = 0 + sqV (xb V c t0_0) y :=
  gramA c (grid0.coords t0_0) (stage0_0 0) (hstage0_0 0) (stage0_1 0) (hstage0_1 0) (xblk V c t0_0) cond0_0 y
theorem acc1_at (y : S16x128x128.Idx) : a1V V c y = a0V V c y + sqV (xb V c t0_1) y :=
  gramB c (grid0.coords t0_1) (stage0_0 1) (hstage0_0 1) (stage0_1 0) (hstage0_1 0) (xblk V c t0_1) (acc0 V c).1 cond0_1 y
theorem acc2_at (y : S16x128x128.Idx) : a2V V c y = a1V V c y + sqV (xb V c t0_2) y :=
  gramB c (grid0.coords t0_2) (stage0_0 0) (hstage0_0 0) (stage0_1 0) (hstage0_1 0) (xblk V c t0_2) (acc1 V c).1 cond0_2 y
theorem acc3_at (y : S16x128x128.Idx) : a3V V c y = a2V V c y + sqV (xb V c t0_3) y :=
  gramB c (grid0.coords t0_3) (stage0_0 1) (hstage0_0 1) (stage0_1 0) (hstage0_1 0) (xblk V c t0_3) (acc2 V c).1 cond0_3 y

theorem acc3_sum (g : Fin 16) (a b : Fin 128) : a3V V c (ix3 g a b)
    = ∑ t : Fin 9216, xV V c t ⟨g.val * 128 + a.val, by omega⟩ * xV V c t ⟨g.val * 128 + b.val, by omega⟩ := by
  rw [acc3_at, acc2_at, acc1_at, acc0_at, zero_add, sqV_at, sqV_at, sqV_at, sqV_at]
  rw [Fin.sum_univ_tiles (N := 9216) 4 2304 (by norm_num), Fin.sum_univ_four]
  refine congrArg₂ (· + ·) (congrArg₂ (· + ·) (congrArg₂ (· + ·) ?_ ?_) ?_) ?_
  all_goals exact Finset.sum_congr rfl fun t _ => congrArg₂ (· * ·) (xblk_at V c _ t _) (xblk_at V c _ t _)

theorem whole0_1 : (cfg0.win 1).WholeAt t0_3 := by decide +kernel

theorem accAt3 : accAt V c 3 = a3V V c := by
  unfold a3V
  rw [accAt]
  all_goals decide
theorem after1 (t : Fin cfg0.N) : (dat0 V c).after 1 t = accAt V c t.val := rfl
theorem after_last : (dat0 V c).after 1 t0_3 = a3V V c :=
  (after1 V c t0_3).trans ((congrArg (accAt V c) (show t0_3.val = 3 from rfl)).trans (accAt3 V c))

attribute [local irreducible] a3V in
theorem gram_at (y : S16x128x128.Idx) : ((dat0 V c).arrAt 1 cfg0.N : S16x128x128.Idx → EReal) y = a3V V c y := by
  refine (Dat.arrAt_emb_eq_after_last (dat0 V c) 1 t0_3 whole0_1 y).trans ?_
  rw [after_last]
  rfl
end

variable (m : (ℓ : Loc nD τ sig) → Buf (Elt Ideal) ℓ)
theorem gramArr_at (c : Dev nD) (g : Fin 16) (a b : Fin 128) : (gramArr m c : S16x128x128.Idx → EReal) (ix3 g a b)
    = ∑ t : Fin 9216, xV (VA m) c t ⟨g.val * 128 + a.val, by omega⟩ * xV (VA m) c t ⟨g.val * 128 + b.val, by omega⟩ :=
  (gram_at (VA m) c (ix3 g a b)).trans (acc3_sum (VA m) c g a b)
end Cert.KernelIdeal.Pf
end
-- ==== Proof.KI.Host.lean ====
module
public import proofs.«01_k».proof.Proof.KI.GramSum
public import Idealize.ShloMosaic.Lib.StableHlo.RunRead
/-! What the search kernel reads, as functions of the three arguments. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

/-- The three arguments. -/
def argX : FVec Ideal S12x768x2048 .bf16 := V0 m c main_arg0
def argW : FVec Ideal S6144x2048 .bf16 := V0 m c main_arg1
def argN : IVec S6144x16 32 := V0 m c main_arg2

theorem VB_arg1 : VB m c main_arg1 = argW m c :=
  (V5_of m (outs0 m) c main_arg1 (by decide)).trans <| (V4_of m (outs0 m) c main_arg1 (by decide)).trans <| (V3_of m (outs0 m) c main_arg1 (by decide)).trans <|
    (V2_of m (outs0 m) c main_arg1 (by decide)).trans <| V1_of m c main_arg1 (by decide)
theorem VB_v2 : VB m c main_v2 = gramArr m c :=
  (V5_of m (outs0 m) c main_v2 (by decide)).trans <| (V4_of m (outs0 m) c main_v2 (by decide)).trans <| (V3_of m (outs0 m) c main_v2 (by decide)).trans <| by
    refine Eq.trans ?_ (outs0_main_v2 m 2 c)
    simp only [V2, Function.update_self]
theorem VB_v0 : VB m c main_v0 = V1 m c main_v0 :=
  (V5_of m (outs0 m) c main_v0 (by decide)).trans <| (V4_of m (outs0 m) c main_v0 (by decide)).trans <| (V3_of m (outs0 m) c main_v0 (by decide)).trans <| V2_of m (outs0 m) c main_v0 (by decide)
theorem VB_v3 : VB m c main_v3 = V3 m (outs0 m) c main_v3 :=
  (V5_of m (outs0 m) c main_v3 (by decide)).trans <| V4_of m (outs0 m) c main_v3 (by decide)
theorem V2_arg2 : V2 m (outs0 m) c main_arg2 = argN m c :=
  (V2_of m (outs0 m) c main_arg2 (by decide)).trans <| V1_of m c main_arg2 (by decide)
theorem V2_cst1 : V2 m (outs0 m) c main_cst_1 = V1 m c main_cst_1 := V2_of m (outs0 m) c main_cst_1 (by decide)

theorem V1_v1 : V1 m c main_v1 = shapeCast S9216x2048 (argX m c) shapeCasts_S12x768x2048_S9216x2048 := by
  show StableHlo.after hostOps0 (V0 m c) (Proc.devRef .tc main_v1) = _
  after_reads_simp
  rfl
theorem v1_at (t : Fin 12) (u : Fin 768) (j : Fin 2048) : xV (VA m) c ⟨t.val * 768 + u.val, by omega⟩ j = argX m c (ix3 t u j) := by
  unfold xV VA
  rw [V1_v1]
  pointwise

theorem V1_v0 : (V1 m c main_v0 : FVec Ideal S24x128 .f32) = broadcastInDim S24x128 ![0] bcast_S24_S24x128_0 (fun i => Ideal.ofBits .f32 (lit1 (S24.rowMajor i)) : FVec Ideal S24 .f32) := by
  show StableHlo.after hostOps0 (V0 m c) (Proc.devRef .tc main_v0) = _
  after_reads_simp
  rfl
theorem v0_at (k : Fin 24) : rV (VB m) c k = Ideal.ofBits .f32 (lit1 k) := by
  unfold rV
  rw [VB_v0, V1_v0]
  pointwise
  exact congrArg (fun z => Ideal.ofBits .f32 (lit1 z)) (Fin.ext ((by decide +kernel : ∀ k : Fin 24, (S24.rowMajor (ix1 k)).val = k.val) k))

theorem V3_v3 : (V3 m (outs0 m) c main_v3 : IVec S16x6144 32) = transpose S16x6144 [1, 0] (argN m c) transposes_S6144x16_S16x6144_1_0 := by
  show StableHlo.after hostOps1 (V2 m (outs0 m) c) (Proc.devRef .tc main_v3) = _
  after_reads_simp
  rw [← V2_arg2]
theorem v3_at (g : Fin 16) (r : Fin 6144) : nV (VB m) c g r = argN m c (ix2 r g) := by
  unfold nV
  rw [VB_v3, V3_v3]
  pointwise

/-- The pack matrix's weights: 1, 16, 256, 4096 for the even and for the odd code of a byte. -/
def packW : FVec Ideal S8x2 .bf16 := fun i => Ideal.ofBits .bf16 (lit2 (S8x2.rowMajor i))
theorem V2_cst1' : (V2 m (outs0 m) c main_cst_1 : FVec Ideal S8x2 .bf16) = packW := by
  rw [V2_cst1]
  show StableHlo.after hostOps0 (V0 m c) (Proc.devRef .tc main_cst_1) = _
  after_reads_simp
  rfl
theorem VB_v9 : (VB m c main_v9 : FVec Ideal S1024x256 .bf16) = shapeCast S1024x256
      (select (cmpi CmpIPredicate.eq (iotaInDim S128x8x2x128 32 0) (iotaInDim S128x8x2x128 32 3))
        (broadcastInDim S128x8x2x128 ![0, 1, 2, 3] bcast_S1x8x2x1_S128x8x2x128_0_1_2_3 (broadcastInDim S1x8x2x1 ![1, 2] bcast_S8x2_S1x8x2x1_1_2 packW))
        (broadcastInDim S128x8x2x128 ![] bcast_S_S128x8x2x128 (constant S_ FTy.bf16 0#16)))
      shapeCasts_S128x8x2x128_S1024x256 := by
  show StableHlo.after hostOps1_2 (StableHlo.after hostOps1_1 (StableHlo.after hostOps1 (V2 m (outs0 m) c))) (Proc.devRef .tc main_v9) = _
  rw [← V2_cst1' m c]
  after_reads_simp
  rfl
theorem v9_at (a : Fin 128) (i : Fin 8) (h : Fin 2) (o : Fin 128) : pV (VB m) c ⟨a.val * 8 + i.val, by omega⟩ ⟨h.val * 128 + o.val, by omega⟩
    = if a = o then packW (ix2 i h) else 0 := by
  unfold pV
  rw [VB_v9]
  pointwise
  rw [(by decide +kernel : ∀ a o : Fin 128, IntOp.cmpi CmpIPredicate.eq (BitVec.ofNat 32 a.val) (BitVec.ofNat 32 o.val) = if a = o then 1#1 else 0#1) a o]
  split <;> rfl
end Cert.KernelIdeal.Pf
end
-- ==== Proof.KI.StepRel.lean ====
module
public import proofs.«01_k».proof.Proof.KI.Blocks
/-! The relation of the search kernel's points: what the scratch slots hold and what each result's block holds. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic
open Idealize.ShloMosaic.Pipeline (Dat RDat Cfg Window)

variable (V : Vals Ideal)

/-- After `t` points, the slots of the panel's groups visited so far hold the scaled Gram matrices. -/
def I1v (c : Dev nD) (t : Fin (cfg1.N + 1)) (f : Bf Ideal c (Memref.whole cc1_scratch0)) : Prop :=
  ∀ (g : Fin 8) (k : Fin 20) (a : Fin 128) (b : Fin 384), g.val < t.val % 48 →
    ((Memref.whole cc1_scratch0).view.read (Elt Ideal) f : S8x20x128x384.Idx → EReal) (ix4 g k a b) = slotV V c ⟨(t.val / 48 * 8 + g.val) % 16, Nat.mod_lt _ (by omega)⟩ k a b

/-- What point `t` leaves in the five results' blocks: the rows of the panel's groups visited so far, or the whole block. -/
def Rlv (c : Dev nD) : (w : Fin cfg1.W) → (t : Fin cfg1.N) → ((cfg1.win w).block.Idx → Elt Ideal (cfg1.win w).elt) → Prop
  | ⟨6, _⟩, t, X => ∀ (k : Fin 20) (r : Fin 8) (l : Fin 1024), r.val ≤ t.val % 8 → (X : S20x8x1024.Idx → EReal) (ix3 k r l) = lossA V c (grpT t r) (rowT t l) k
  | ⟨7, _⟩, t, X => ∀ (k : Fin 20) (r : Fin 64) (l : Fin 1024), (X : S1x20x64x1024.Idx → BitVec 8) (ix4 0 k r l) = bytesA V c (grpT t (gT t)) (rowT t l) k r
  | ⟨8, _⟩, t, X => ∀ (k : Fin 20) (r : Fin 8) (l : Fin 1024), r.val ≤ t.val % 8 → (X : S20x8x1024.Idx → EReal) (ix3 k r l) = scaleA V c (grpT t r) (rowT t l) k
  | ⟨9, _⟩, t, X => ∀ (j o : Fin 128), (X : S128x128.Idx → BitVec 32) (ix2 j o) = qwA V c (grpT t (gT t)) (bT t) j o
  | ⟨10, _⟩, t, X => ∀ (r : Fin 8) (l : Fin 1024), r.val ≤ t.val % 8 → (X : S8x1024.Idx → EReal) (ix2 r l) = sselA V c (grpT t r) (rowT t l)
  | _, _, _ => True

end Cert.KernelIdeal.Pf
end
-- ==== Proof.KI.Arrays.lean ====
module
public import proofs.«01_k».proof.Proof.KI.StepRel
/-! The search kernel's five result arrays, from what its points leave in the results' blocks. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic
open Idealize.ShloMosaic.Pipeline (Dat RDat Cfg Window)

variable (V : Vals Ideal) (c : Dev nD)

/-- The search kernel's data read through the relation of its points. -/
abbrev rdV := (dat1 V (I1v V) c).toRRel fg1 (Rlv V c)

/-- What every block has, wherever it is written back, every element of the array has. -/
theorem arr_forall (w : Fin cfg1.W) (hw : fg1 w = true) (G : Buf (Elt Ideal) ((cfg1.win w).arr.view.loc (c.tc : Thread nD τ))) (hG : (rdV V c).ArrAt w cfg1.N G)
    (P : ((cfg1.win w).arr.view.loc (c.tc : Thread nD τ)).2.ty.Idx → Elt Ideal ((cfg1.win w).arr.view.loc (c.tc : Thread nD τ)).2.ty.elt → Prop)
    (hcov : (cfg1.win w).Covers) (harr : (cfg1.win w).arr.IsWhole)
    (hP : ∀ t, (cfg1.win w).flush t = true → ∀ X, Rlv V c w t X → ∀ y : ((cfg1.win w).xblock (cfg1.grid.coords t)).Idx,
      P (((cfg1.win w).blk t).view.emb y) (_root_.cast (congrArg (Elt Ideal) ((cfg1.win w).blk t).view.elt_eq.symm) (X ((cfg1.win w).xinj (cfg1.grid.coords t) y)))) (i) :
    P i (G i) := by
  obtain ⟨X, hX, hA⟩ := hG.exists_exact
  have e := hA (Function.update (fun _ _ _ => Classical.arbitrary _) w X) fun u _ _ => by rw [Function.update_self]
  rw [e]
  refine Dat.arrAt_forall_of_covers _ w P hcov (fun t hf y => ?_) i harr
  rw [RDat.withAfter_after, Function.update_self]
  exact hP t hf (X t) (Dat.toRRel_leaves _ hw (hX t t.isLt hf)) y

theorem arr6 (G : S20x16x6144.Idx → EReal) (hG : (rdV V c).ArrAt 6 cfg1.N G) (i : S20x16x6144.Idx) : G i = lossA V c (i 1) (i 2) (i 0) := by
  refine arr_forall V c 6 rfl G hG (fun i v => v = lossA V c (i 1) (i 2) (i 0)) (by decide +kernel) (Memref.isWhole_whole _) (fun t hf X hX y => ?_) i
  have h7 := (flush1_6 t).mp hf
  have hy : ((cfg1.win 6).xinj (cfg1.grid.coords t) y) = (ix3 (((cfg1.win 6).xinj (cfg1.grid.coords t) y) 0 ) (((cfg1.win 6).xinj (cfg1.grid.coords t) y) 1) (((cfg1.win 6).xinj (cfg1.grid.coords t) y) 2) : S20x8x1024.Idx) := by
    funext a
    match a with
    | ⟨0, _⟩ => rfl
    | ⟨1, _⟩ => rfl
    | ⟨2, _⟩ => rfl
  have hx := hX (((cfg1.win 6).xinj (cfg1.grid.coords t) y) 0 ) (((cfg1.win 6).xinj (cfg1.grid.coords t) y) 1) (((cfg1.win 6).xinj (cfg1.grid.coords t) y) 2) (by
    have : (((cfg1.win 6).xinj (cfg1.grid.coords t) y) 1).val < 8 := (((cfg1.win 6).xinj (cfg1.grid.coords t) y) 1).isLt
    omega)
  rw [← hy] at hx
  refine Eq.trans hx ?_
  have c0 : ((cfg1.win 6).blk t).view.emb y 0 = ((cfg1.win 6).xinj (cfg1.grid.coords t) y) 0 := Fin.ext (by blk_simp [e6, grpT, rowT, gT, bT])
  have c1 : ((cfg1.win 6).blk t).view.emb y 1 = grpT t (((cfg1.win 6).xinj (cfg1.grid.coords t) y) 1) := Fin.ext (by blk_simp [e6, grpT, rowT, gT, bT])
  have c2 : ((cfg1.win 6).blk t).view.emb y 2 = rowT t (((cfg1.win 6).xinj (cfg1.grid.coords t) y) 2) := Fin.ext (by blk_simp [e6, grpT, rowT, gT, bT])
  rw [c0, c1, c2]

theorem arr7 (G : S16x20x64x6144.Idx → BitVec 8) (hG : (rdV V c).ArrAt 7 cfg1.N G) (i : S16x20x64x6144.Idx) : G i = bytesA V c (i 0) (i 3) (i 1) (i 2) := by
  refine arr_forall V c 7 rfl G hG (fun i v => v = bytesA V c (i 0) (i 3) (i 1) (i 2)) (by decide +kernel) (Memref.isWhole_whole _) (fun t hf X hX y => ?_) i
  have hy : ((cfg1.win 7).xinj (cfg1.grid.coords t) y) = (ix4 0 (((cfg1.win 7).xinj (cfg1.grid.coords t) y) 1) (((cfg1.win 7).xinj (cfg1.grid.coords t) y) 2) (((cfg1.win 7).xinj (cfg1.grid.coords t) y) 3) : S1x20x64x1024.Idx) := by
    funext a
    match a with
    | ⟨0, _⟩ => exact Fin.ext (by have : (((cfg1.win 7).xinj (cfg1.grid.coords t) y) 0).val < 1 := (((cfg1.win 7).xinj (cfg1.grid.coords t) y) 0).isLt; show (((cfg1.win 7).xinj (cfg1.grid.coords t) y) 0).val = 0; omega)
    | ⟨1, _⟩ => rfl
    | ⟨2, _⟩ => rfl
    | ⟨3, _⟩ => rfl
  have hx := hX (((cfg1.win 7).xinj (cfg1.grid.coords t) y) 1) (((cfg1.win 7).xinj (cfg1.grid.coords t) y) 2) (((cfg1.win 7).xinj (cfg1.grid.coords t) y) 3)
  rw [← hy] at hx
  refine Eq.trans hx ?_
  have c0 : ((cfg1.win 7).blk t).view.emb y 0 = grpT t (gT t) := Fin.ext (by have : (((cfg1.win 7).xinj (cfg1.grid.coords t) y) 0).val < 1 := (((cfg1.win 7).xinj (cfg1.grid.coords t) y) 0).isLt; have : (y 0).val < 1 := this; blk_simp [e7, grpT, rowT, gT, bT])
  have c1 : ((cfg1.win 7).blk t).view.emb y 1 = ((cfg1.win 7).xinj (cfg1.grid.coords t) y) 1 := Fin.ext (by have : (((cfg1.win 7).xinj (cfg1.grid.coords t) y) 0).val < 1 := (((cfg1.win 7).xinj (cfg1.grid.coords t) y) 0).isLt; have : (y 0).val < 1 := this; blk_simp [e7, grpT, rowT, gT, bT])
  have c2 : ((cfg1.win 7).blk t).view.emb y 2 = ((cfg1.win 7).xinj (cfg1.grid.coords t) y) 2 := Fin.ext (by have : (((cfg1.win 7).xinj (cfg1.grid.coords t) y) 0).val < 1 := (((cfg1.win 7).xinj (cfg1.grid.coords t) y) 0).isLt; have : (y 0).val < 1 := this; blk_simp [e7, grpT, rowT, gT, bT])
  have c3 : ((cfg1.win 7).blk t).view.emb y 3 = rowT t (((cfg1.win 7).xinj (cfg1.grid.coords t) y) 3) := Fin.ext (by have : (((cfg1.win 7).xinj (cfg1.grid.coords t) y) 0).val < 1 := (((cfg1.win 7).xinj (cfg1.grid.coords t) y) 0).isLt; have : (y 0).val < 1 := this; blk_simp [e7, grpT, rowT, gT, bT])
  rw [c0, c1, c2, c3]

theorem arr8 (G : S20x16x6144.Idx → EReal) (hG : (rdV V c).ArrAt 8 cfg1.N G) (i : S20x16x6144.Idx) : G i = scaleA V c (i 1) (i 2) (i 0) := by
  refine arr_forall V c 8 rfl G hG (fun i v => v = scaleA V c (i 1) (i 2) (i 0)) (by decide +kernel) (Memref.isWhole_whole _) (fun t hf X hX y => ?_) i
  have h7 := (flush1_8 t).mp hf
  have hy : ((cfg1.win 8).xinj (cfg1.grid.coords t) y) = (ix3 (((cfg1.win 8).xinj (cfg1.grid.coords t) y) 0 ) (((cfg1.win 8).xinj (cfg1.grid.coords t) y) 1) (((cfg1.win 8).xinj (cfg1.grid.coords t) y) 2) : S20x8x1024.Idx) := by
    funext a
    match a with
    | ⟨0, _⟩ => rfl
    | ⟨1, _⟩ => rfl
    | ⟨2, _⟩ => rfl
  have hx := hX (((cfg1.win 8).xinj (cfg1.grid.coords t) y) 0 ) (((cfg1.win 8).xinj (cfg1.grid.coords t) y) 1) (((cfg1.win 8).xinj (cfg1.grid.coords t) y) 2) (by
    have : (((cfg1.win 8).xinj (cfg1.grid.coords t) y) 1).val < 8 := (((cfg1.win 8).xinj (cfg1.grid.coords t) y) 1).isLt
    omega)
  rw [← hy] at hx
  refine Eq.trans hx ?_
  have c0 : ((cfg1.win 8).blk t).view.emb y 0 = ((cfg1.win 8).xinj (cfg1.grid.coords t) y) 0 := Fin.ext (by blk_simp [e8, grpT, rowT, gT, bT])
  have c1 : ((cfg1.win 8).blk t).view.emb y 1 = grpT t (((cfg1.win 8).xinj (cfg1.grid.coords t) y) 1) := Fin.ext (by blk_simp [e8, grpT, rowT, gT, bT])
  have c2 : ((cfg1.win 8).blk t).view.emb y 2 = rowT t (((cfg1.win 8).xinj (cfg1.grid.coords t) y) 2) := Fin.ext (by blk_simp [e8, grpT, rowT, gT, bT])
  rw [c0, c1, c2]

theorem arr10 (G : S16x6144.Idx → EReal) (hG : (rdV V c).ArrAt 10 cfg1.N G) (i : S16x6144.Idx) : G i = sselA V c (i 0) (i 1) := by
  refine arr_forall V c 10 rfl G hG (fun i v => v = sselA V c (i 0) (i 1)) (by decide +kernel) (Memref.isWhole_whole _) (fun t hf X hX y => ?_) i
  have h7 := (flush1_10 t).mp hf
  have hy : ((cfg1.win 10).xinj (cfg1.grid.coords t) y) = (ix2 (((cfg1.win 10).xinj (cfg1.grid.coords t) y) 0 ) (((cfg1.win 10).xinj (cfg1.grid.coords t) y) 1) : S8x1024.Idx) := by
    funext a
    match a with
    | ⟨0, _⟩ => rfl
    | ⟨1, _⟩ => rfl
  have hx := hX (((cfg1.win 10).xinj (cfg1.grid.coords t) y) 0 ) (((cfg1.win 10).xinj (cfg1.grid.coords t) y) 1) (by
    have : (((cfg1.win 10).xinj (cfg1.grid.coords t) y) 0).val < 8 := (((cfg1.win 10).xinj (cfg1.grid.coords t) y) 0).isLt
    omega)
  rw [← hy] at hx
  refine Eq.trans hx ?_
  have c0 : ((cfg1.win 10).blk t).view.emb y 0 = grpT t (((cfg1.win 10).xinj (cfg1.grid.coords t) y) 0) := Fin.ext (by blk_simp [e10, grpT, rowT, gT, bT])
  have c1 : ((cfg1.win 10).blk t).view.emb y 1 = rowT t (((cfg1.win 10).xinj (cfg1.grid.coords t) y) 1) := Fin.ext (by blk_simp [e10, grpT, rowT, gT, bT])
  rw [c0, c1]

theorem arr9 (G : S2048x768.Idx → BitVec 32) (hG : (rdV V c).ArrAt 9 cfg1.N G) (i : S2048x768.Idx) : G i = qwA V c ⟨(i 0).val / 128, by have : (i 0).val < 2048 := (i 0).isLt; omega⟩ ⟨(i 1).val / 128, by have : (i 1).val < 768 := (i 1).isLt; omega⟩ ⟨(i 0).val % 128, Nat.mod_lt _ (by omega)⟩ ⟨(i 1).val % 128, Nat.mod_lt _ (by omega)⟩ := by
  refine arr_forall V c 9 rfl G hG (fun i v => v = qwA V c ⟨(i 0).val / 128, by have : (i 0).val < 2048 := (i 0).isLt; omega⟩ ⟨(i 1).val / 128, by have : (i 1).val < 768 := (i 1).isLt; omega⟩ ⟨(i 0).val % 128, Nat.mod_lt _ (by omega)⟩ ⟨(i 1).val % 128, Nat.mod_lt _ (by omega)⟩) (by decide +kernel) (Memref.isWhole_whole _) (fun t hf X hX y => ?_) i
  have hy : ((cfg1.win 9).xinj (cfg1.grid.coords t) y) = (ix2 (((cfg1.win 9).xinj (cfg1.grid.coords t) y) 0) (((cfg1.win 9).xinj (cfg1.grid.coords t) y) 1) : S128x128.Idx) := by
    funext a
    match a with
    | ⟨0, _⟩ => rfl
    | ⟨1, _⟩ => rfl
  have hx := hX (((cfg1.win 9).xinj (cfg1.grid.coords t) y) 0) (((cfg1.win 9).xinj (cfg1.grid.coords t) y) 1)
  rw [← hy] at hx
  refine Eq.trans hx ?_
  have h0 : (((cfg1.win 9).xinj (cfg1.grid.coords t) y) 0).val < 128 := (((cfg1.win 9).xinj (cfg1.grid.coords t) y) 0).isLt
  have h1 : (((cfg1.win 9).xinj (cfg1.grid.coords t) y) 1).val < 128 := (((cfg1.win 9).xinj (cfg1.grid.coords t) y) 1).isLt
  have h0' : (y 0).val < 128 := h0
  have h1' : (y 1).val < 128 := h1
  have e0 : (((cfg1.win 9).blk t).view.emb y 0).val = (t.val / 48 * 8 + t.val % 8) * 128 + (((cfg1.win 9).xinj (cfg1.grid.coords t) y) 0).val := by blk_simp [e9]
  have e1 : (((cfg1.win 9).blk t).view.emb y 1).val = (t.val / 8 % 6) * 128 + (((cfg1.win 9).xinj (cfg1.grid.coords t) y) 1).val := by blk_simp [e9]
  have ht := lt96 t
  simp only [e0, e1]
  congr 1
  · exact Fin.ext (by show t.val / 48 * 8 + t.val % 8 = ((t.val / 48 * 8 + t.val % 8) * 128 + (y 0).val) / 128; omega)
  · exact Fin.ext (by show t.val / 8 % 6 = (t.val / 8 % 6 * 128 + (y 1).val) / 128; omega)
  · exact Fin.ext (by show (y 0).val = ((t.val / 48 * 8 + t.val % 8) * 128 + (y 0).val) % 128; omega)
  · exact Fin.ext (by show (y 1).val = (t.val / 8 % 6 * 128 + (y 1).val) % 128; omega)
end Cert.KernelIdeal.Pf
end
-- ==== Proof.KI.Steps.lean ====
module
public import proofs.«01_k».proof.Proof.KI.Blocks
public import proofs.«01_k».proof.Proof.KI.StepRel
/-! The predicates the search kernel's blocks and its scaled Gram matrices are held to, and that every grid point keeps them. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic
open Idealize.ShloMosaic.Pipeline (Dat RDat Cfg Window)

variable (V : Vals Ideal)

theorem flush_false6 (t : Fin cfg1.N) (h : t.val % 8 ≠ 7) : (cfg1.win 6).flush t = false := Bool.eq_false_iff.mpr fun e => h ((flush1_6 t).mp e)
theorem flush_false8 (t : Fin cfg1.N) (h : t.val % 8 ≠ 7) : (cfg1.win 8).flush t = false := Bool.eq_false_iff.mpr fun e => h ((flush1_8 t).mp e)
theorem flush_false10 (t : Fin cfg1.N) (h : t.val % 8 ≠ 7) : (cfg1.win 10).flush t = false := Bool.eq_false_iff.mpr fun e => h ((flush1_10 t).mp e)

/-- The point before. -/
def prevT (t : Fin cfg1.N) : Fin cfg1.N := ⟨t.val - 1, Nat.lt_of_le_of_lt (Nat.sub_le _ _) t.isLt⟩

theorem prev_grp (t : Fin cfg1.N) (h : t.val % 8 ≠ 0) (r : Fin 8) : grpT (prevT t) r = grpT t r := Fin.ext (by simp only [grpT, prevT]; omega)
theorem prev_row (t : Fin cfg1.N) (h : t.val % 8 ≠ 0) (l : Fin 1024) : rowT (prevT t) l = rowT t l := Fin.ext (by simp only [rowT, prevT]; omega)

/-- What a point finds in window 6, off a run's first point, is what the point before left. -/
theorem found6 (c : Dev nD) (t : Fin cfg1.N) (h : t.val % 8 ≠ 0) (Y : (cfg1.win 6).block.Idx → Elt Ideal (cfg1.win 6).elt)
    (hY : ((dat1 V (I1v V) c).toRRel fg1 (Rlv V c)).Finds 6 t Y) : Rlv V c 6 (prevT t) Y := by
  rw [RDat.finds_of_pos _ rfl (fun e => h (by rw [e]))] at hY
  rcases hY with hf | hL
  · have := (flush1_6 _).mp hf
    simp only at this
    omega
  · exact Dat.toRRel_leaves _ rfl hL

/-- What a point finds in window 8, off a run's first point, is what the point before left. -/
theorem found8 (c : Dev nD) (t : Fin cfg1.N) (h : t.val % 8 ≠ 0) (Y : (cfg1.win 8).block.Idx → Elt Ideal (cfg1.win 8).elt)
    (hY : ((dat1 V (I1v V) c).toRRel fg1 (Rlv V c)).Finds 8 t Y) : Rlv V c 8 (prevT t) Y := by
  rw [RDat.finds_of_pos _ rfl (fun e => h (by rw [e]))] at hY
  rcases hY with hf | hL
  · have := (flush1_8 _).mp hf
    simp only at this
    omega
  · exact Dat.toRRel_leaves _ rfl hL

/-- What a point finds in window 10, off a run's first point, is what the point before left. -/
theorem found10 (c : Dev nD) (t : Fin cfg1.N) (h : t.val % 8 ≠ 0) (Y : (cfg1.win 10).block.Idx → Elt Ideal (cfg1.win 10).elt)
    (hY : ((dat1 V (I1v V) c).toRRel fg1 (Rlv V c)).Finds 10 t Y) : Rlv V c 10 (prevT t) Y := by
  rw [RDat.finds_of_pos _ rfl (fun e => h (by rw [e]))] at hY
  rcases hY with hf | hL
  · have := (flush1_10 _).mp hf
    simp only at this
    omega
  · exact Dat.toRRel_leaves _ rfl hL

/-- Row `r` of a block that a point finds, for the groups before the point's own. -/
theorem row6 (c : Dev nD) (t : Fin cfg1.N) (Y : (cfg1.win 6).block.Idx → Elt Ideal (cfg1.win 6).elt)
    (hY : ((dat1 V (I1v V) c).toRRel fg1 (Rlv V c)).Finds 6 t Y) (k : Fin 20) (r : Fin 8) (l : Fin 1024) (hr : r.val < t.val % 8) :
    (Y : S20x8x1024.Idx → EReal) (ix3 k r l) = lossA V c (grpT t r) (rowT t l) k := by
  have h : t.val % 8 ≠ 0 := by omega
  have := found6 V c t h Y hY k r l (by simp only [prevT]; omega)
  rwa [prev_grp t h, prev_row t h] at this
theorem row8 (c : Dev nD) (t : Fin cfg1.N) (Y : (cfg1.win 8).block.Idx → Elt Ideal (cfg1.win 8).elt)
    (hY : ((dat1 V (I1v V) c).toRRel fg1 (Rlv V c)).Finds 8 t Y) (k : Fin 20) (r : Fin 8) (l : Fin 1024) (hr : r.val < t.val % 8) :
    (Y : S20x8x1024.Idx → EReal) (ix3 k r l) = scaleA V c (grpT t r) (rowT t l) k := by
  have h : t.val % 8 ≠ 0 := by omega
  have := found8 V c t h Y hY k r l (by simp only [prevT]; omega)
  rwa [prev_grp t h, prev_row t h] at this
theorem row10 (c : Dev nD) (t : Fin cfg1.N) (Y : (cfg1.win 10).block.Idx → Elt Ideal (cfg1.win 10).elt)
    (hY : ((dat1 V (I1v V) c).toRRel fg1 (Rlv V c)).Finds 10 t Y) (r : Fin 8) (l : Fin 1024) (hr : r.val < t.val % 8) :
    (Y : S8x1024.Idx → EReal) (ix2 r l) = sselA V c (grpT t r) (rowT t l) := by
  have h : t.val % 8 ≠ 0 := by omega
  have := found10 V c t h Y hY r l (by simp only [prevT]; omega)
  rwa [prev_grp t h, prev_row t h] at this

theorem cond_A : ∀ t : Fin cfg1.N, k1_cond1 (grid1.coords t) = 1#1 → t.val % 48 < 8 := (by decide +kernel : ∀ t : Fin grid1.N, _)
theorem cond_B : ∀ t : Fin cfg1.N, ¬ k1_cond1 (grid1.coords t) = 1#1 → 8 ≤ t.val % 48 := (by decide +kernel : ∀ t : Fin grid1.N, _)

theorem slot_grp (c : Dev nD) (t : Fin cfg1.N) (g : Fin 8) : (⟨(t.val / 48 * 8 + g.val) % 16, Nat.mod_lt _ (by omega)⟩ : Fin 16) = grpT t g := by
  have := lt96 t
  refine Fin.ext ?_
  simp only [grpT]
  omega

theorem gT_eq (t : Fin cfg1.N) : (⟨((grid1.coords t) 2).val, ((grid1.coords t) 2).isLt⟩ : Fin 8) = gT t := Fin.ext (c2T t)

theorem loss_congr {S S' : Fin 128 → Fin 384 → EReal} {v v' : Fin 128 → EReal} {G G' : Fin 128 → Fin 128 → EReal} {q q' : EReal}
    (hS : ∀ j x, S j x = S' j x) (hv : v = v') (hG : G = G') (hq : q = q') : lossK S v G q = lossK S' v' G' q' := by
  obtain rfl : S = S' := funext fun j => funext fun x => hS j x
  subst hv hG hq
  rfl

section
variable {c : Dev nD} {t : Fin cfg1.N} {f4 : Bf Ideal c (win1_1.stage (cfg1.slots t 1))} {f5 : Bf Ideal c (win1_2.stage (cfg1.slots t 2))} {f6 : Bf Ideal c (win1_3.stage (cfg1.slots t 3))} {f7 : Bf Ideal c (win1_4.stage (cfg1.slots t 4))} {f8 : Bf Ideal c (win1_5.stage (cfg1.slots t 5))}
theorem rd4 (h4 : (win1_1.stage (cfg1.slots t 1)).view.read (Elt Ideal) f4 = iblk1 V c 1 t) : rcol c f4 = rV V c :=
  funext fun k => (congrFun h4 (ix2 k 0)).trans (b1 V c t k)
theorem rd5 (h5 : (win1_2.stage (cfg1.slots t 2)).view.read (Elt Ideal) f5 = iblk1 V c 2 t) (l : Fin 1024) : wrow5 c f5 l = wV V c (rowT t l) (grpT t (gT t)) :=
  funext fun j => (congrFun h5 (ix2 l j)).trans (b2 V c t l j)
theorem rd6 (h6 : (win1_3.stage (cfg1.slots t 3)).view.read (Elt Ideal) f6 = iblk1 V c 3 t) (r : Fin 8) (l : Fin 1024) : ((win1_3.stage (cfg1.slots t 3)).view.read (Elt Ideal) f6 : S8x1024.Idx → BitVec 32) (ix2 r l) = nV V c (grpT t r) (rowT t l) :=
  (congrFun h6 (ix2 r l)).trans (b3 V c t r l)
theorem rd7 (h7 : (win1_4.stage (cfg1.slots t 4)).view.read (Elt Ideal) f7 = iblk1 V c 4 t) : (fun a b : Fin 128 => ((win1_4.stage (cfg1.slots t 4)).view.read (Elt Ideal) f7 : S1x128x128.Idx → EReal) (ix3 0 a b)) = gV V c (grpT t (gT t)) :=
  funext fun a => funext fun b => (congrFun h7 (ix3 0 a b)).trans (b4 V c t a b)
theorem rd8 (h8 : (win1_5.stage (cfg1.slots t 5)).view.read (Elt Ideal) f8 = iblk1 V c 5 t) (x : Fin 1024) (o : Fin 256) : ((win1_5.stage (cfg1.slots t 5)).view.read (Elt Ideal) f8 : S1024x256.Idx → EReal) (ix2 x o) = pV V c x o :=
  (congrFun h8 (ix2 x o)).trans (b5 V c t x o)
end

set_option maxHeartbeats 4000000 in
theorem stepA : StepA V (I1v V) (Rlv V) := by
  intro c t hc f3 f4 f5 f6 f7 f8 f9 f10 f11 f12 f13 f14 f15 f16 f17 f18 f19 h3 h4 h5 h6 h7 h8 hI H9 H10 H11 H12 H13
  have i2 := c2T t
  have h14 : ∀ (g : Fin 8) (k : Fin 20) (a : Fin 128) (b : Fin 384), g.val ≤ t.val % 48 →
      ((Memref.whole cc1_scratch0).view.read (Elt Ideal) (runA c t hc f3 f4 f5 f6 f7 f8 f9 f10 f11 f12 f13 f14 f15 f16 f17 f18 f19).1.2.2.2.2.2.1 : S8x20x128x384.Idx → EReal) (ix4 g k a b) = slotV V c (grpT t g) k a b := by
    intro g k a b hg
    have hm := cond_A t hc
    refine (w14_read c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) hc f3 f4 f5 f6 f7 f8 f9 f10 f11 f12 f13 f14 f15 f16 f17 f18 f19 g k a b).trans ?_
    by_cases e : g.val = ((grid1.coords t) 2).val
    · rw [if_pos e]
      have eg : g = gT t := Fin.ext (e.trans (c2T t))
      subst eg
      have := rd7 V h7
      exact congrArg (fun P : Fin 128 → Fin 128 → EReal => split3 (fun a b => P a b * Ideal.ofBits .f32 (ratW k)) a b) this
    · rw [if_neg e]
      have e2 := c2T t
      exact (hI g k a b (by simp only [Fin.val_castSucc]; omega)).trans (congrArg (fun z => slotV V c z k a b) (slot_grp c t g))
  have hsl : ∀ (k : Fin 20) (j : Fin 128) (x : Fin 384), ((Memref.whole cc1_scratch0).view.read (Elt Ideal) (runA c t hc f3 f4 f5 f6 f7 f8 f9 f10 f11 f12 f13 f14 f15 f16 f17 f18 f19).1.2.2.2.2.2.1 : S8x20x128x384.Idx → EReal) (ix4 ⟨((grid1.coords t) 2).val, ((grid1.coords t) 2).isLt⟩ k j x) = slotV V c (grpT t (gT t)) k j x := by
    intro k j x
    rw [gT_eq]
    exact h14 (gT t) k j x (by have : (gT t).val = t.val % 8 := rfl; omega)
  refine ⟨?_, ?_, ?_, ?_, ?_, ?_⟩
  · intro g k a b hg
    have hg' := g.isLt
    have e1 : (t.succ).val = t.val + 1 := rfl
    rw [e1] at hg
    refine (h14 g k a b (by omega)).trans (congrArg (fun z => slotV V c z k a b) (Fin.ext ?_))
    have := lt96 t
    simp only [grpT, e1]
    omega
  · intro k r l hr
    refine (w9A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc k r l).trans ?_
    by_cases e : r.val = ((grid1.coords t) 2).val
    · rw [if_pos e]
      have eg : r = gT t := Fin.ext (e.trans i2)
      subst eg
      have e1 := rd4 V h4
      have e2 := rd5 V h5 l
      have e3 := rd7 V h7
      unfold lossA
      exact loss_congr (hsl k) e2 e3 (congrFun e1 _)
    · rw [if_neg e]
      exact row6 V c t _ H9 k r l (by omega)
  · intro k r l
    refine (w10A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc k r l).trans ?_
    rw [rd4 V h4, rd5 V h5 l]
    rfl
  · intro k r l hr
    refine (w11A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc k r l).trans ?_
    by_cases e : r.val = ((grid1.coords t) 2).val
    · rw [if_pos e]
      have eg : r = gT t := Fin.ext (e.trans i2)
      subst eg
      rw [rd4 V h4, rd5 V h5 l]
      rfl
    · rw [if_neg e]
      exact row8 V c t _ H11 k r l (by omega)
  · intro j o
    refine (w12A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc j o).trans ?_
    rw [rd4 V h4, gT_eq]
    simp only [rd5 V h5, rd6 V h6, rd8 V h8]
    rfl
  · intro r l hr
    refine (w13A c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc r l).trans ?_
    by_cases e : r.val = ((grid1.coords t) 2).val
    · rw [if_pos e]
      have eg : r = gT t := Fin.ext (e.trans i2)
      subst eg
      rw [rd4 V h4, rd5 V h5 l, rd6 V h6]
      rfl
    · rw [if_neg e]
      exact row10 V c t _ H13 r l (by omega)

set_option maxHeartbeats 4000000 in
theorem stepB : StepB V (I1v V) (Rlv V) := by
  intro c t hc f3 f4 f5 f6 f7 f8 f9 f10 f11 f12 f13 f14 f15 f16 f17 f18 f19 h3 h4 h5 h6 h7 h8 hI H9 H10 H11 H12 H13
  have i2 := c2T t
  have h14 : ∀ (g : Fin 8) (k : Fin 20) (a : Fin 128) (b : Fin 384), g.val ≤ t.val % 48 →
      ((Memref.whole cc1_scratch0).view.read (Elt Ideal) (runB c t hc f3 f4 f5 f6 f7 f8 f9 f10 f11 f12 f13 f14 f15 f16 f17 f18 f19).1.2.2.2.2.2.1 : S8x20x128x384.Idx → EReal) (ix4 g k a b) = slotV V c (grpT t g) k a b := by
    intro g k a b hg
    have hm := cond_B t hc
    have hg' := g.isLt
    refine Eq.trans ?_ ((hI g k a b (by simp only [Fin.val_castSucc]; omega)).trans (congrArg (fun z => slotV V c z k a b) (slot_grp c t g)))
    exact congrArg (fun z => ((Memref.whole cc1_scratch0).view.read (Elt Ideal) z : S8x20x128x384.Idx → EReal) (ix4 g k a b)) (by unfold runB searchRunB; rfl)
  have hsl : ∀ (k : Fin 20) (j : Fin 128) (x : Fin 384), ((Memref.whole cc1_scratch0).view.read (Elt Ideal) (runB c t hc f3 f4 f5 f6 f7 f8 f9 f10 f11 f12 f13 f14 f15 f16 f17 f18 f19).1.2.2.2.2.2.1 : S8x20x128x384.Idx → EReal) (ix4 ⟨((grid1.coords t) 2).val, ((grid1.coords t) 2).isLt⟩ k j x) = slotV V c (grpT t (gT t)) k j x := by
    intro k j x
    rw [gT_eq]
    exact h14 (gT t) k j x (by have : (gT t).val = t.val % 8 := rfl; omega)
  refine ⟨?_, ?_, ?_, ?_, ?_, ?_⟩
  · intro g k a b hg
    have hg' := g.isLt
    have e1 : (t.succ).val = t.val + 1 := rfl
    rw [e1] at hg
    refine (h14 g k a b (by omega)).trans (congrArg (fun z => slotV V c z k a b) (Fin.ext ?_))
    have := lt96 t
    simp only [grpT, e1]
    omega
  · intro k r l hr
    refine (w9B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc k r l).trans ?_
    by_cases e : r.val = ((grid1.coords t) 2).val
    · rw [if_pos e]
      have eg : r = gT t := Fin.ext (e.trans i2)
      subst eg
      have e1 := rd4 V h4
      have e2 := rd5 V h5 l
      have e3 := rd7 V h7
      unfold lossA
      exact loss_congr (hsl k) e2 e3 (congrFun e1 _)
    · rw [if_neg e]
      exact row6 V c t _ H9 k r l (by omega)
  · intro k r l
    refine (w10B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc k r l).trans ?_
    rw [rd4 V h4, rd5 V h5 l]
    rfl
  · intro k r l hr
    refine (w11B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc k r l).trans ?_
    by_cases e : r.val = ((grid1.coords t) 2).val
    · rw [if_pos e]
      have eg : r = gT t := Fin.ext (e.trans i2)
      subst eg
      rw [rd4 V h4, rd5 V h5 l]
      rfl
    · rw [if_neg e]
      exact row8 V c t _ H11 k r l (by omega)
  · intro j o
    refine (w12B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc j o).trans ?_
    rw [rd4 V h4, gT_eq]
    simp only [rd5 V h5, rd6 V h6, rd8 V h8]
    rfl
  · intro r l hr
    refine (w13B c (grid1.coords t) (win1_0.stage (cfg1.slots t 0)) (hstage1_0 ((cfg1.slots t 0).cast nbuf1_0)) (win1_1.stage (cfg1.slots t 1)) (hstage1_1 ((cfg1.slots t 1).cast nbuf1_1)) (win1_2.stage (cfg1.slots t 2)) (hstage1_2 ((cfg1.slots t 2).cast nbuf1_2)) (win1_3.stage (cfg1.slots t 3)) (hstage1_3 ((cfg1.slots t 3).cast nbuf1_3)) (win1_4.stage (cfg1.slots t 4)) (hstage1_4 ((cfg1.slots t 4).cast nbuf1_4)) (win1_5.stage (cfg1.slots t 5)) (hstage1_5 ((cfg1.slots t 5).cast nbuf1_5)) (win1_6.stage (cfg1.slots t 6)) (hstage1_6 ((cfg1.slots t 6).cast nbuf1_6)) (win1_7.stage (cfg1.slots t 7)) (hstage1_7 ((cfg1.slots t 7).cast nbuf1_7)) (win1_8.stage (cfg1.slots t 8)) (hstage1_8 ((cfg1.slots t 8).cast nbuf1_8)) (win1_9.stage (cfg1.slots t 9)) (hstage1_9 ((cfg1.slots t 9).cast nbuf1_9)) (win1_10.stage (cfg1.slots t 10)) (hstage1_10 ((cfg1.slots t 10).cast nbuf1_10)) (Memref.whole cc1_scratch0) (Memref.isWhole_whole _) (Memref.whole cc1_scratch1) (Memref.isWhole_whole _) (Memref.whole cc1_scratch2) (Memref.isWhole_whole _) (Memref.whole cc1_scratch3) (Memref.isWhole_whole _) (Memref.whole cc1_scratch4) (Memref.isWhole_whole _) (Memref.whole cc1_scratch5) (Memref.isWhole_whole _) f3 f4 f5 f6 f7 f8 f9 f10 f11 f12 f13 f14 f15 f16 f17 f18 f19 hc r l).trans ?_
    by_cases e : r.val = ((grid1.coords t) 2).val
    · rw [if_pos e]
      have eg : r = gT t := Fin.ext (e.trans i2)
      subst eg
      rw [rd4 V h4, rd5 V h5 l, rd6 V h6]
      rfl
    · rw [if_neg e]
      exact row10 V c t _ H13 r l (by omega)

end Cert.KernelIdeal.Pf
end
-- ==== Proof.KI.Results.lean ====
module
public import proofs.«01_k».proof.Proof.KI.Host
public import proofs.«01_k».proof.Proof.KI.Arrays
public import proofs.«01_k».proof.Proof.KI.Steps
/-! The kernel's five results as functions of the search kernel's inputs, and its run. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

variable (m : (ℓ : Loc nD τ sig) → Buf (Elt Ideal) ℓ) (c : Dev nD)

theorem slots0 (c : Dev nD) (f) : I1v (VB m) c 0 f := fun g k a b h => absurd h (Nat.not_lt_zero _)

/-- The search kernel's result arrays. -/
abbrev Gam := Arrs1 m (I1v (VB m)) (Rlv (VB m)) c

section
variable (γ : Gam m c)
theorem res_v11 (r : Fin 6144) (g : Fin 16) (k : Fin 20) : (VD m (I1v (VB m)) (Rlv (VB m)) c γ main_v11 : FVec Ideal S6144x16x20 .f32) (ix3 r g k) = lossA (VB m) c g r k := by
  have e : (VD m (I1v (VB m)) (Rlv (VB m)) c γ main_v11 : FVec Ideal S6144x16x20 .f32) = transpose S6144x16x20 [2, 1, 0] (γ.1 6 : FVec Ideal S20x16x6144 .f32) transposes_S20x16x6144_S6144x16x20_2_1_0 := by
    rw [← VC_6]
    unfold VD
    after_reads_simp
  rw [e]
  pointwise
  exact arr6 (VB m) c _ (γ.2 6) (ix3 k g r)
theorem res_v13 (r : Fin 6144) (g : Fin 16) (k : Fin 20) : (VD m (I1v (VB m)) (Rlv (VB m)) c γ main_v13 : FVec Ideal S6144x16x20 .f32) (ix3 r g k) = scaleA (VB m) c g r k := by
  have e : (VD m (I1v (VB m)) (Rlv (VB m)) c γ main_v13 : FVec Ideal S6144x16x20 .f32) = transpose S6144x16x20 [2, 1, 0] (γ.1 8 : FVec Ideal S20x16x6144 .f32) transposes_S20x16x6144_S6144x16x20_2_1_0 := by
    rw [← VC_8]
    unfold VD
    after_reads_simp
  rw [e]
  pointwise
  exact arr8 (VB m) c _ (γ.2 8) (ix3 k g r)
theorem res_v12 (r : Fin 6144) (g : Fin 16) (k : Fin 20) (i : Fin 64) : (VD m (I1v (VB m)) (Rlv (VB m)) c γ main_v12 : IVec S6144x16x20x64 8) (ix4 r g k i) = bytesA (VB m) c g r k i := by
  have e : (VD m (I1v (VB m)) (Rlv (VB m)) c γ main_v12 : IVec S6144x16x20x64 8) = transpose S6144x16x20x64 [3, 0, 1, 2] (γ.1 7 : IVec S16x20x64x6144 8) transposes_S16x20x64x6144_S6144x16x20x64_3_0_1_2 := by
    rw [← VC_7]
    unfold VD
    after_reads_simp
  rw [e]
  pointwise
  exact arr7 (VB m) c _ (γ.2 7) (ix4 g k i r)
theorem res_v10_3 (i : Fin 2048) (q : Fin 768) : (VD m (I1v (VB m)) (Rlv (VB m)) c γ main_v10_3 : IVec S2048x768 32) (ix2 i q)
    = qwA (VB m) c ⟨i.val / 128, by omega⟩ ⟨q.val / 128, by omega⟩ ⟨i.val % 128, Nat.mod_lt _ (by omega)⟩ ⟨q.val % 128, Nat.mod_lt _ (by omega)⟩ := by
  rw [VD_of m (I1v (VB m)) (Rlv (VB m)) c γ main_v10_3 (by decide), VC_9]
  exact arr9 (VB m) c _ (γ.2 9) (ix2 i q)
theorem res_v10_4 (g : Fin 16) (r : Fin 6144) : (VD m (I1v (VB m)) (Rlv (VB m)) c γ main_v10_4 : FVec Ideal S16x6144 .f32) (ix2 g r) = sselA (VB m) c g r := by
  rw [VD_of m (I1v (VB m)) (Rlv (VB m)) c γ main_v10_4 (by decide), VC_10]
  exact arr10 (VB m) c _ (γ.2 10) (ix2 g r)
end
end Cert.KernelIdeal.Pf
end
-- ==== Proof.KI.Scal.lean ====
module
public import proofs.«01_k».proof.Proof.KI.Tables
public import Idealize.ShloMosaic.Lib.IdealHost
/-! Scales and codes of finite weights: the scale is a positive real, a code is an integer between -7 and 7. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

theorem c7 : Ideal.ofBits .f32 0x40E00000#32 = ((7 : ℝ) : EReal) := by
  simp [Ideal.ofBits, Ideal.ieee, -EReal.coe_mul]; norm_num
theorem cm7 : Ideal.ofBits .f32 0xC0E00000#32 = ((-7 : ℝ) : EReal) := by
  simp [Ideal.ofBits, Ideal.ieee, -EReal.coe_mul]; norm_num
theorem cbot : Ideal.ofBits .f32 0xFF800000#32 = (⊥ : EReal) := by
  simp [Ideal.ofBits, Ideal.ieee, -EReal.coe_mul]
theorem c144 : Ideal.ofBits .bf16 0x4310#16 = ((144 : ℝ) : EReal) := by
  simp [Ideal.ofBits, Ideal.ieee, -EReal.coe_mul]
theorem max_coe (x y : ℝ) : max (x : EReal) (y : EReal) = ((max x y : ℝ) : EReal) := (EReal.coe_strictMono.monotone.map_max).symm
theorem min_coe (x y : ℝ) : min (x : EReal) (y : EReal) = ((min x y : ℝ) : EReal) := (EReal.coe_strictMono.monotone.map_min).symm

/-- The code of a real. -/
def codeZ (r : ℝ) : ℤ := min 7 (max (-7) (Ideal.roundHalfEven r))
theorem codeZ_le (r : ℝ) : codeZ r ≤ 7 := min_le_left _ _
theorem le_codeZ (r : ℝ) : -7 ≤ codeZ r := le_min (by norm_num) (le_max_left _ _)
theorem codeZ_zero : codeZ 0 = 0 := by
  unfold codeZ Ideal.roundHalfEven
  norm_num
theorem codeB_coe (r : ℝ) : codeB (r : EReal) = (((codeZ r : ℤ) : ℝ) : EReal) := by
  unfold codeB codeZ
  rw [c7, cm7]
  show min ((7 : ℝ) : EReal) (max ((-7 : ℝ) : EReal) (((Ideal.roundHalfEven r : ℤ) : ℝ) : EReal)) = _
  rw [max_coe, min_coe]
  push_cast
  rfl

theorem fptosi_int {φ : FTy} (w : ℕ) (z : ℤ) (h0 : -((2 ^ (w - 1) : ℕ) : ℤ) ≤ z) (h1 : z ≤ ((2 ^ (w - 1) : ℕ) : ℤ) - 1) :
    FloatOps.fptosi (F := Ideal) (φ := φ) w (((z : ℤ) : ℝ) : EReal) = BitVec.ofInt w z := by
  show BitVec.ofInt w (Ideal.toIntClamped _ _ (((z : ℤ) : ℝ) : EReal)) = _
  rw [Ideal.toIntClamped_coe, Int.floor_intCast, Int.ceil_intCast, ite_self, min_eq_right h1, max_eq_right h0]

/-- A code's nibble is its low four bits. -/
theorem nibB_coe (r : ℝ) : nibB (codeB (r : EReal)) = IntOp.andi (FloatOps.fptosi (F := Ideal) (φ := .f32) 32 (codeB (r : EReal))) 15#32 := by
  rw [codeB_coe, fptosi_int 32 _ (by have := le_codeZ r; norm_num; omega) (by have := codeZ_le r; norm_num; omega)]
  unfold nibB
  rw [c144, ← EReal.coe_add, show ((codeZ r : ℤ) : ℝ) + 144 = ((codeZ r + 144 : ℤ) : ℝ) by push_cast; rfl,
    fptosi_int 16 _ (by have := le_codeZ r; norm_num; omega) (by have := codeZ_le r; norm_num; omega)]
  have h0 := le_codeZ r
  have h1 := codeZ_le r
  generalize codeZ r = z at *
  interval_cases z <;> decide +kernel

theorem sitofp_code (r : ℝ) : FloatOps.sitofp (F := Ideal) .f32 (FloatOps.fptosi (F := Ideal) (φ := .f32) 32 (codeB (r : EReal))) = (((codeZ r : ℤ) : ℝ) : EReal) := by
  rw [codeB_coe, fptosi_int 32 _ (by have := le_codeZ r; norm_num; omega) (by have := codeZ_le r; norm_num; omega)]
  show (((BitVec.ofInt 32 (codeZ r)).toInt : ℝ) : EReal) = _
  have h0 := le_codeZ r
  have h1 := codeZ_le r
  generalize codeZ r = z at *
  have e : (BitVec.ofInt 32 z).toInt = z := by
    interval_cases z <;> decide +kernel
  rw [e]

theorem absf_coe (r : ℝ) : FloatOps.absf (F := Ideal) (φ := .f32) (r : EReal) = ((|r| : ℝ) : EReal) := by
  show max (r : EReal) (-(r : EReal)) = _
  rw [← EReal.coe_neg, max_coe]
  rfl

variable {v : Fin 128 → EReal} {a : Fin 128 → ℝ}

/-- The largest magnitude of finite weights is one of the magnitudes, and bounds them. -/
theorem amx_real (hv : ∀ j, v j = (a j : EReal)) : ∃ m : ℝ, amx v = (m : EReal) ∧ 0 ≤ m ∧ ∀ j, |a j| ≤ m := by
  have e : amx v = Finset.univ.sup fun j : Fin 128 => ((|a j| : ℝ) : EReal) := by
    unfold amx
    rw [cbot]
    refine Finset.fold_congr fun j _ => ?_
    rw [hv, absf_coe]
  obtain ⟨i, _, hi⟩ := Finset.exists_mem_eq_sup Finset.univ Finset.univ_nonempty fun j : Fin 128 => ((|a j| : ℝ) : EReal)
  refine ⟨|a i|, e.trans hi, abs_nonneg _, fun j => ?_⟩
  have := Finset.le_sup (f := fun j : Fin 128 => ((|a j| : ℝ) : EReal)) (Finset.mem_univ j)
  rw [hi] at this
  exact EReal.coe_le_coe_iff.mp this

/-- The scales of finite weights. -/
theorem scl_real (hv : ∀ j, v j = (a j : EReal)) : ∃ u : ℝ, 0 < u ∧ unitV v = (u : EReal) ∧
    ∀ ρ : ℝ, 0 < ρ → ∃ s : ℝ, 0 < s ∧ scl v (ρ : EReal) = (s : EReal) ∧ ((∀ j, a j = 0) ∨ s = ρ * u) := by
  obtain ⟨m, hm, h0, hb⟩ := amx_real hv
  by_cases hz : m = 0
  · subst hz
    have hz' : amx v = 0 := hm
    refine ⟨1, one_pos, by unfold unitV; rw [if_pos hz']; rfl, fun ρ hρ => ⟨1, one_pos, by unfold scl; rw [if_pos hz']; rfl, Or.inl fun j => abs_nonpos_iff.mp (hb j)⟩⟩
  · have hp : 0 < m := lt_of_le_of_ne h0 (Ne.symm hz)
    have hz' : amx v ≠ 0 := by rw [hm]; exact fun h => hz (EReal.coe_eq_zero.mp h)
    refine ⟨m * (1 / 7), by positivity, ?_, fun ρ hρ => ⟨ρ * m * (1 / 7), by positivity, ?_, Or.inr (by ring)⟩⟩
    · unfold unitV
      rw [if_neg hz', hm, c7, Ideal.div_coe (by norm_num), ← EReal.coe_mul]
    · unfold scl
      rw [if_neg hz', hm, c7, ← EReal.coe_mul, Ideal.div_coe (by norm_num), ← EReal.coe_mul]

theorem ratW_pos : ∀ k : Fin 20, ∃ ρ : ℝ, 0 < ρ ∧ Ideal.ofBits .f32 (ratW k) = (ρ : EReal) := by
  intro k
  fin_cases k <;> (simp only [Ideal.ofBits, Ideal.ieee]; rw [if_neg (by decide), if_neg (by decide)]; refine ⟨_, ?_, rfl⟩; rw [if_neg (by decide)]; positivity)
end Cert.KernelIdeal.Pf
end
-- ==== Proof.KI.Pick.lean ====
module
public import proofs.«01_k».proof.Proof.KI.Scal
/-! The ratio an index word picks, in the kernel's sums over twenty-four rows and the reference's over twenty. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

theorem pick_low (k : Fin 20) (n : BitVec 32) : pickB ⟨k.val, by omega⟩ n = IntOp.cmpi .eq (BitVec.ofNat 32 k.val) n := by
  have e : IntOp.cmpi .slt (BitVec.ofNat 32 k.val) 20#32 = 1#1 := by
    revert k; decide +kernel
  unfold pickB
  simp only [e]
  show _ &&& 1#1 = _
  generalize IntOp.cmpi .eq (BitVec.ofNat 32 k.val) n = b
  revert b; decide
theorem pick_high (k : Fin 4) (n : BitVec 32) : pickB ⟨20 + k.val, by omega⟩ n = 0#1 := by
  have e : IntOp.cmpi .slt (BitVec.ofNat 32 (20 + k.val)) 20#32 = 0#1 := by
    revert k; decide +kernel
  unfold pickB
  simp only [e]
  show _ &&& 0#1 = _
  generalize IntOp.cmpi .eq (BitVec.ofNat 32 (20 + k.val)) n = b
  revert b; decide

theorem pick_sum (n : BitVec 32) (f : Fin 24 → EReal) : ∑ k : Fin 24, Scalar.select (pickB k n) (f k) 0
    = ∑ k : Fin 20, Scalar.select (IntOp.cmpi .eq (BitVec.ofNat 32 k.val) n) (f ⟨k.val, by omega⟩) 0 := by
  rw [Fin.sum_univ_two_halves 20 4 (by norm_num)]
  have e : ∀ k : Fin 4, Scalar.select (pickB ⟨20 + k.val, by omega⟩ n) (f ⟨20 + k.val, by omega⟩) 0 = 0 := fun k => by rw [pick_high]; rfl
  rw [Finset.sum_congr rfl fun k _ => e k, Finset.sum_const_zero, add_zero]
  exact Finset.sum_congr rfl fun k _ => by rw [pick_low]

theorem cmpi_eq (x y : BitVec 32) : IntOp.cmpi .eq x y = if x = y then 1#1 else 0#1 := by
  show BitVec.ofBool (x == y) = _
  by_cases h : x = y
  · subst h; simp
  · rw [if_neg h, beq_false_of_ne h]; rfl

theorem ofNat20_inj : ∀ k l : Fin 20, BitVec.ofNat 32 k.val = BitVec.ofNat 32 l.val → k = l := by decide +kernel

/-- At an index word that names a ratio, a sum over the ratios has one term. -/
theorem pick_one (k : Fin 20) (f : Fin 20 → EReal) : ∑ l : Fin 20, Scalar.select (IntOp.cmpi .eq (BitVec.ofNat 32 l.val) (BitVec.ofNat 32 k.val)) (f l) 0 = f k := by
  rw [Finset.sum_eq_single k]
  · rw [cmpi_eq, if_pos rfl]; rfl
  · intro l _ hl
    rw [cmpi_eq, if_neg fun e => hl (ofNat20_inj l k e)]; rfl
  · intro h; exact absurd (Finset.mem_univ k) h
theorem pick_none (n : BitVec 32) (h : ∀ k : Fin 20, BitVec.ofNat 32 k.val ≠ n) (f : Fin 20 → EReal) : ∑ l : Fin 20, Scalar.select (IntOp.cmpi .eq (BitVec.ofNat 32 l.val) n) (f l) 0 = 0 := by
  refine Finset.sum_eq_zero fun l _ => ?_
  rw [cmpi_eq, if_neg (h l)]; rfl

theorem fptosi_code (r : ℝ) : FloatOps.fptosi (F := Ideal) (φ := .f32) 32 (((codeZ r : ℤ) : ℝ) : EReal) = BitVec.ofInt 32 (codeZ r) :=
  fptosi_int 32 _ (by have := le_codeZ r; norm_num; omega) (by have := codeZ_le r; norm_num; omega)
theorem fold_none (s : Finset (Fin 20)) (f : Fin 20 → BitVec 32) (h : ∀ l ∈ s, f l = 0#32) : Finset.fold IntOp.addi 0#32 f s = 0#32 := by
  induction s using Finset.induction_on with
  | empty => rfl
  | insert l s hl ih =>
    rw [Finset.fold_insert hl, h l (Finset.mem_insert_self l s), ih fun j hj => h j (Finset.mem_insert_of_mem hj)]
    rfl
theorem fold_one (k : Fin 20) (f : Fin 20 → BitVec 32) (h : ∀ l, l ≠ k → f l = 0#32) : Finset.fold IntOp.addi 0#32 f Finset.univ = f k := by
  rw [← Finset.insert_erase (Finset.mem_univ k), Finset.fold_insert (Finset.notMem_erase k _), fold_none _ _ fun l hl => h l (Finset.ne_of_mem_erase hl)]
  exact BitVec.add_zero _

/-- The code of a weight at the scale an index word picks, in the kernel and in the reference. -/
theorem pick_code {v : Fin 128 → EReal} {a : Fin 128 → ℝ} (hv : ∀ j, v j = (a j : EReal)) (q : Fin 24 → EReal)
    (hq : ∀ k : Fin 20, ∃ ρ : ℝ, 0 < ρ ∧ q ⟨k.val, by omega⟩ = (ρ : EReal)) (n : BitVec 32) (j : Fin 128) :
    ∃ z : ℤ, -7 ≤ z ∧ z ≤ 7 ∧ codeB (v j * riSel v q n) = (((z : ℤ) : ℝ) : EReal)
      ∧ Finset.fold IntOp.addi 0#32 (fun k : Fin 20 => Scalar.select (IntOp.cmpi .eq (BitVec.ofNat 32 k.val) n)
          (FloatOps.fptosi (F := Ideal) (φ := .f32) 32 (codeB (Ideal.div (v j) (scl v (q ⟨k.val, by omega⟩))))) 0#32) Finset.univ = BitVec.ofInt 32 z := by
  unfold riSel
  rw [pick_sum]
  by_cases h : ∃ k : Fin 20, BitVec.ofNat 32 k.val = n
  · obtain ⟨k, rfl⟩ := h
    obtain ⟨ρ, hρ, eρ⟩ := hq k
    obtain ⟨u, hu, eu, H⟩ := scl_real hv
    obtain ⟨s, hs, es, -⟩ := H ρ hρ
    have hc : Ideal.div (v j) (s : EReal) = ((a j * (1 / s) : ℝ) : EReal) := by rw [Ideal.div_coe hs.ne', hv, ← EReal.coe_mul]
    refine ⟨codeZ (a j * (1 / s)), le_codeZ _, codeZ_le _, ?_, ?_⟩
    · rw [pick_one k fun k => Ideal.div 1 (scl v (q ⟨k.val, by omega⟩)), eρ, es, Ideal.div_coe hs.ne', one_mul, hv, ← EReal.coe_mul, codeB_coe]
    · rw [fold_one k]
      · rw [cmpi_eq, if_pos rfl, eρ, es, hc, codeB_coe, fptosi_code]
        rfl
      · intro l hl
        rw [cmpi_eq, if_neg fun e => hl (ofNat20_inj l k e)]
        rfl
  · have h' : ∀ k : Fin 20, BitVec.ofNat 32 k.val ≠ n := fun k e => h ⟨k, e⟩
    refine ⟨0, by norm_num, by norm_num, ?_, ?_⟩
    · rw [pick_none n h', mul_zero, show (0 : EReal) = ((0 : ℝ) : EReal) from rfl, codeB_coe, codeZ_zero]
    · refine fold_none _ _ fun l _ => ?_
      rw [cmpi_eq, if_neg (h' l)]
      rfl
end Cert.KernelIdeal.Pf
end
-- ==== Proof.KI.RefDefs.lean ====
module
public import proofs.«01_k».proof.Proof.Gen.ReferenceIdeal.Run
public import Idealize.ShloMosaic.Lib.Pointwise
/-! The reference's five results as a short chain of named tensors. Each definition is a stretch of the reference's own
    operations over variables; the last theorems say that the results the reference run ends in are their composition. -/
@[expose] public section
set_option maxRecDepth 16384
noncomputable section
namespace Cert.ReferenceIdeal.Pf
open Cert.ReferenceIdeal Cert.ReferenceIdeal.Gen
open Idealize.ShloMosaic
open Idealize.ShloMosaic.TcCoe Idealize.ShloMosaic.Tactic

/-- The activations by token, group and position in the group, in f32. -/
def xT (X : FVec Ideal S12x768x2048 .bf16) : FVec Ideal S9216x16x128 .f32 :=
  extf .f32 (shapeCast _ X shapeCasts_S12x768x2048_S9216x16x128) bitsLt_bf16_f32
/-- The weights by output row, group and position in the group, in f32. -/
def wT (W : FVec Ideal S6144x2048 .bf16) : FVec Ideal S6144x16x128 .f32 :=
  extf .f32 (shapeCast _ W shapeCasts_S6144x2048_S6144x16x128) bitsLt_bf16_f32
/-- The largest magnitude of each row and group. -/
def amaxT (w : FVec Ideal S6144x16x128 .f32) : FVec Ideal S6144x16x1 .f32 :=
  broadcastInDim S6144x16x1 ![0, 1] bcast_S6144x16_S6144x16x1_0_1 (Host.reduce FloatOps.maximumf (Host.absf w) (constant S_ .f32 0xFF800000#32) reducesTo_S6144x16x128_S6144x16_d2 h_S_)
/-- The scale of each row, group and ratio, from the largest magnitudes. -/
def scaleT (a : FVec Ideal S6144x16x1 .f32) : FVec Ideal S6144x16x20 .f32 :=
  select (broadcastInDim S6144x16x20 ![0, 1, 2] bcast_S6144x16x1_S6144x16x20_0_1_2 (cmpf .oeq a (broadcastInDim S6144x16x1 ![] bcast_S_S6144x16x1 (constant S_ .f32 0x00000000#32)))) (broadcastInDim S6144x16x20 ![] bcast_S_S6144x16x20 (constant S_ .f32 0x3F800000#32)) (Host.divf (mulf (broadcastInDim S6144x16x20 ![0, 1, 2] bcast_S1x1x20_S6144x16x20_0_1_2 (broadcastInDim S1x1x20 ![2] bcast_S20_S1x1x20_2 ((fun i => FloatOps.ofBits .f32 (lit0 (S20.rowMajor i)))))) (broadcastInDim S6144x16x20 ![0, 1, 2] bcast_S6144x16x1_S6144x16x20_0_1_2 a)) (broadcastInDim S6144x16x20 ![] bcast_S_S6144x16x20 (constant S_ .f32 0x40E00000#32)))
/-- The weights, repeated over the ratios. -/
def wRep (w : FVec Ideal S6144x16x128 .f32) : FVec Ideal S6144x16x20x128 .f32 :=
  broadcastInDim S6144x16x20x128 ![0, 1, 2, 3] bcast_S6144x16x1x128_S6144x16x20x128_0_1_2_3 (broadcastInDim S6144x16x1x128 ![0, 1, 3] bcast_S6144x16x128_S6144x16x1x128_0_1_3 w)
/-- The scales, repeated over a group's positions. -/
def sRep (s : FVec Ideal S6144x16x20 .f32) : FVec Ideal S6144x16x20x128 .f32 :=
  broadcastInDim S6144x16x20x128 ![0, 1, 2, 3] bcast_S6144x16x20x1_S6144x16x20x128_0_1_2_3 (broadcastInDim S6144x16x20x1 ![0, 1, 2] bcast_S6144x16x20_S6144x16x20x1_0_1_2 s)
/-- The integer codes. -/
def codeT (w s : FVec Ideal S6144x16x20x128 .f32) : IVec S6144x16x20x128 32 :=
  fptosi 32 (minimumf (broadcastInDim S6144x16x20x128 ![] bcast_S_S6144x16x20x128 (id (constant S_ .f32 0x40E00000#32))) (maximumf (broadcastInDim S6144x16x20x128 ![] bcast_S_S6144x16x20x128 (id (constant S_ .f32 0xC0E00000#32))) (Host.roundeven (Host.divf w s))))
/-- The error of each code. -/
def errT (w s : FVec Ideal S6144x16x20x128 .f32) (q : IVec S6144x16x20x128 32) : FVec Ideal S6144x16x20x128 .f32 :=
  subf w (mulf (sitofp .f32 q) s)
/-- The Gram matrix of each group. -/
def gramT (x : FVec Ideal S9216x16x128 .f32) : FVec Ideal S16x128x128 .f32 :=
  Host.dotGeneral dot_S9216x16x128_S9216x16x128_S16x128x128_0_0_2_2_1_1 (some .fp32) x x
/-- The Gram matrix applied to the errors. -/
def egT (G : FVec Ideal S16x128x128 .f32) (e : FVec Ideal S6144x16x20x128 .f32) : FVec Ideal S6144x16x20x128 .f32 :=
  transpose S6144x16x20x128 [2, 0, 3, 1] (Host.dotGeneral dot_S16x128x128_S6144x16x20x128_S16x128x6144x20_1_3_2_02_0_1 (some .fp32) G e) transposes_S16x128x6144x20_S6144x16x20x128_2_0_3_1
/-- The loss. -/
def lossT (eg e : FVec Ideal S6144x16x20x128 .f32) : FVec Ideal S6144x16x20 .f32 :=
  Host.reduceAdd (mulf eg e) (constant S_ .f32 0x00000000#32) reducesTo_S6144x16x20x128_S6144x16x20_d3 h_S_
/-- The low four bits of each code. -/
def nibT (q : IVec S6144x16x20x128 32) : IVec S6144x16x20x128 32 :=
  andi q (broadcastInDim S6144x16x20x128 ![] bcast_S_S6144x16x20x128 (constantI S_ 32 15#32))
/-- Two codes to a byte. -/
def packT (n : IVec S6144x16x20x128 32) : IVec S6144x16x20x64 8 :=
  trunci 8 (ori (Host.slice S6144x16x20x64 ![0, 0, 0, 0] ![1, 1, 1, 2] n slicesBy_S6144x16x20x128_S6144x16x20x64_0s1_0s1_0s1_0s2) (Host.shli (Host.slice S6144x16x20x64 ![0, 0, 0, 1] ![1, 1, 1, 2] n slicesBy_S6144x16x20x128_S6144x16x20x64_0s1_0s1_0s1_1s2) (broadcastInDim S6144x16x20x64 ![] bcast_S_S6144x16x20x64 (constantI S_ 32 4#32)))) natLt_8_32
/-- Which ratio is the chosen one. -/
def pickT (C : IVec S6144x16 32) : IVec S6144x16x20 1 :=
  cmpi .eq (broadcastInDim S6144x16x20 ![0, 1, 2] bcast_S1x1x20_S6144x16x20_0_1_2 (broadcastInDim S1x1x20 ![2] bcast_S20_S1x1x20_2 (iotaInDim S20 32 0))) (broadcastInDim S6144x16x20 ![0, 1, 2] bcast_S6144x16x1_S6144x16x20_0_1_2 (broadcastInDim S6144x16x1 ![0, 1] bcast_S6144x16_S6144x16x1_0_1 C))
/-- The chosen scale. -/
def sselT (p : IVec S6144x16x20 1) (s : FVec Ideal S6144x16x20 .f32) : FVec Ideal S16x6144 .f32 :=
  transpose S16x6144 [1, 0] (Host.reduceAdd (select p s (broadcastInDim S6144x16x20 ![] bcast_S_S6144x16x20 (constant S_ .f32 0x00000000#32))) (constant S_ .f32 0x00000000#32) reducesTo_S6144x16x20_S6144x16_d2 h_S_) transposes_S6144x16_S16x6144_1_0
/-- The chosen codes. -/
def selT (p : IVec S6144x16x20 1) (q : IVec S6144x16x20x128 32) : IVec S6144x16x128 32 :=
  Host.reduce IntOp.addi (select (broadcastInDim S6144x16x20x128 ![0, 1, 2, 3] bcast_S6144x16x20x1_S6144x16x20x128_0_1_2_3 (broadcastInDim S6144x16x20x1 ![0, 1, 2] bcast_S6144x16x20_S6144x16x20x1_0_1_2 p)) q (broadcastInDim S6144x16x20x128 ![] bcast_S_S6144x16x20x128 (id (constantI S_ 32 0#32)))) (constantI S_ 32 0#32) reducesTo_S6144x16x20x128_S6144x16x128_d2 h_S_
/-- The chosen codes' nibbles, eight rows at a time. -/
def snibT (q : IVec S6144x16x128 32) : IVec S768x8x2048 32 :=
  shapeCast _ (andi q (broadcastInDim S6144x16x128 ![] bcast_S_S6144x16x128 (constantI S_ 32 15#32))) shapeCasts_S6144x16x128_S768x8x2048
/-- The rows' order in a word. -/
def ordT : IVec S8x1 32 :=
  broadcastInDim S8x1 ![0] bcast_S8_S8x1_0 (select (constantI S8 1 0#1) (addi ((fun i => lit1 (S8.rowMajor i))) (broadcastInDim S8 ![] bcast_S_S8 (constantI S_ 32 8#32))) ((fun i => lit1 (S8.rowMajor i))))
/-- The shift of each place in a word. -/
def shT : IVec S768x8x2048 32 :=
  broadcastInDim S768x8x2048 ![0, 1, 2] bcast_S1x8x1_S768x8x2048_0_1_2 (broadcastInDim S1x8x1 ![1] bcast_S8_S1x8x1_1 (muli (iotaInDim S8 32 0) (broadcastInDim S8 ![] bcast_S_S8 (constantI S_ 32 4#32))))
/-- The nibbles in the words' order. -/
def ordNib (n : IVec S768x8x2048 32) : IVec S768x8x2048 32 :=
  Host.gather gather_S768x8x2048_S8x1_S768x8x2048_02_1_n_n_1_1_76812048 n ordT
/-- The packed words. -/
def qwT (n : IVec S768x8x2048 32) : IVec S2048x768 32 :=
  transpose S2048x768 [1, 0] (Host.reduce IntOp.addi (Host.shli n shT) (constantI S_ 32 0#32) reducesTo_S768x8x2048_S768x2048_d1 h_S_) transposes_S768x2048_S2048x768_1_0

variable (X : FVec Ideal S12x768x2048 .bf16) (W : FVec Ideal S6144x2048 .bf16) (C : IVec S6144x16 32)
/-- The scales of the weights. -/
def scaleR : FVec Ideal S6144x16x20 .f32 := scaleT (amaxT (wT W))
/-- The codes of the weights. -/
def codeR : IVec S6144x16x20x128 32 := codeT (wRep (wT W)) (sRep (scaleR W))
/-- The errors of the weights. -/
def errR : FVec Ideal S6144x16x20x128 .f32 := errT (wRep (wT W)) (sRep (scaleR W)) (codeR W)
/-- The losses. -/
def lossR : FVec Ideal S6144x16x20 .f32 := lossT (egT (gramT (xT X)) (errR W)) (errR W)
/-- The packed codes. -/
def packR : IVec S6144x16x20x64 8 := packT (nibT (codeR W))
/-- The chosen scales. -/
def sselR : FVec Ideal S16x6144 .f32 := sselT (pickT C) (scaleR W)
/-- The packed words of the chosen codes. -/
def qwR : IVec S2048x768 32 := qwT (ordNib (snibT (selT (pickT C) (codeR W))))

set_option maxHeartbeats 4000000 in
/-- The reference run ends with its five results equal to the named tensors of its arguments, and its arguments as they were. -/
theorem run (m : (ℓ : Loc nD τ sig) → Buf (Elt Ideal) ℓ) (ρ : Dev nD → PrngReg) :
    θ_run defs (onTc (τ := τ) (main (F := Ideal))) ⟨m, fun _ => 0, ρ⟩ fun r => ∀ c : Dev nD,
      r.2.mem ((c.tc : Thread nD τ).loc main_v35) = lossR (m ((c.tc : Thread nD τ).loc main_arg0)) (m ((c.tc : Thread nD τ).loc main_arg1))
      ∧ r.2.mem ((c.tc : Thread nD τ).loc main_v43) = packR (m ((c.tc : Thread nD τ).loc main_arg1))
      ∧ r.2.mem ((c.tc : Thread nD τ).loc main_v15) = scaleR (m ((c.tc : Thread nD τ).loc main_arg1))
      ∧ r.2.mem ((c.tc : Thread nD τ).loc main_v71) = qwR (m ((c.tc : Thread nD τ).loc main_arg1)) (m ((c.tc : Thread nD τ).loc main_arg2))
      ∧ r.2.mem ((c.tc : Thread nD τ).loc main_v55) = sselR (m ((c.tc : Thread nD τ).loc main_arg1)) (m ((c.tc : Thread nD τ).loc main_arg2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2) :=
  Value.run m ρ
end Cert.ReferenceIdeal.Pf
end
-- ==== Proof.KI.RefVal.lean ====
module
public import proofs.«01_k».proof.Proof.KI.RefDefs
public import proofs.«01_k».proof.Proof.KI.Tables
public import Idealize.ShloMosaic.Lib.IdealHost
/-! The reference's named tensors read at an index. -/
@[expose] public section
set_option maxRecDepth 16384
noncomputable section
namespace Cert.ReferenceIdeal.Pf
open Cert.ReferenceIdeal Cert.ReferenceIdeal.Gen
open Idealize.ShloMosaic
open Idealize.ShloMosaic.TcCoe Idealize.ShloMosaic.Tactic
open Cert.KernelIdeal.Pf (amx scl codeB ratW)

/-- The weights of one row and group. -/
def wR (W : FVec Ideal S6144x2048 .bf16) (r : Fin 6144) (g : Fin 16) : Fin 128 → EReal := fun j => W (ix2 r ⟨g.val * 128 + j.val, by omega⟩)

variable (X : FVec Ideal S12x768x2048 .bf16) (W : FVec Ideal S6144x2048 .bf16) (C : IVec S6144x16 32)

theorem wT_at (r : Fin 6144) (g : Fin 16) (j : Fin 128) : wT W (ix3 r g j) = wR W r g j := by
  pointwise [wT]
  unfold wR
  refine congrArg W ?_
  idx_ext
theorem amaxT_at (w : FVec Ideal S6144x16x128 .f32) (r : Fin 6144) (g : Fin 16) : amaxT w (ix3 r g 0) = amx (fun j => w (ix3 r g j)) := by
  pointwise [amaxT]
  rfl
theorem scaleT_at (a : FVec Ideal S6144x16x1 .f32) (r : Fin 6144) (g : Fin 16) (k : Fin 20) :
    scaleT a (ix3 r g k) = if a (ix3 r g 0) = 0 then 1 else Ideal.div (Ideal.ofBits .f32 (lit0 k) * a (ix3 r g 0)) (Ideal.ofBits .f32 0x40E00000#32) := by
  have e : lit0 (S20.rowMajor (ix1 k)) = lit0 k := congrArg lit0 (Fin.ext ((by decide +kernel : ∀ k : Fin 20, (S20.rowMajor (ix1 k)).val = k.val) k))
  pointwise [scaleT]
  rw [e]
theorem codeT_at (w s : FVec Ideal S6144x16x20x128 .f32) (i : S6144x16x20x128.Idx) :
    codeT w s i = FloatOps.fptosi (F := Ideal) (φ := .f32) 32 (codeB (Ideal.div (w i) (s i))) := by
  pointwise [codeT]
  rfl
theorem wRep_at (w : FVec Ideal S6144x16x128 .f32) (r : Fin 6144) (g : Fin 16) (k : Fin 20) (j : Fin 128) : wRep w (ix4 r g k j) = w (ix3 r g j) := by
  pointwise [wRep]
theorem sRep_at (s : FVec Ideal S6144x16x20 .f32) (r : Fin 6144) (g : Fin 16) (k : Fin 20) (j : Fin 128) : sRep s (ix4 r g k j) = s (ix3 r g k) := by
  pointwise [sRep]
theorem errT_at (w s : FVec Ideal S6144x16x20x128 .f32) (q : IVec S6144x16x20x128 32) (i : S6144x16x20x128.Idx) :
    errT w s q i = w i - FloatOps.sitofp (F := Ideal) .f32 (q i) * s i := by
  pointwise [errT]
theorem gramT_at (x : FVec Ideal S9216x16x128 .f32) (g : Fin 16) (a b : Fin 128) : gramT x (ix3 g a b) = ∑ t : Fin 9216, x (ix3 t g a) * x (ix3 t g b) := by
  pointwise [gramT]
theorem egT_at (G : FVec Ideal S16x128x128 .f32) (e : FVec Ideal S6144x16x20x128 .f32) (r : Fin 6144) (g : Fin 16) (k : Fin 20) (j : Fin 128) :
    egT G e (ix4 r g k j) = ∑ x : Fin 128, G (ix3 g x j) * e (ix4 r g k x) := by
  pointwise [egT]
theorem lossT_at (u e : FVec Ideal S6144x16x20x128 .f32) (r : Fin 6144) (g : Fin 16) (k : Fin 20) :
    lossT u e (ix3 r g k) = ∑ j : Fin 128, u (ix4 r g k j) * e (ix4 r g k j) := by
  pointwise [lossT]
theorem packT_at (q : IVec S6144x16x20x128 32) (r : Fin 6144) (g : Fin 16) (k : Fin 20) (i : Fin 64) :
    packT (nibT q) (ix4 r g k i) = BitVec.setWidth 8 (IntOp.ori (IntOp.andi (q (ix4 r g k ⟨2 * i.val, by omega⟩)) 15#32) (IntOp.shli .host (IntOp.andi (q (ix4 r g k ⟨1 + 2 * i.val, by omega⟩)) 15#32) 4#32)) := by
  pointwise [packT, nibT]
theorem pickT_at (r : Fin 6144) (g : Fin 16) (k : Fin 20) : pickT C (ix3 r g k) = IntOp.cmpi .eq (BitVec.ofNat 32 k.val) (C (ix2 r g)) := by
  pointwise [pickT]
theorem sselT_at (p : IVec S6144x16x20 1) (s : FVec Ideal S6144x16x20 .f32) (r : Fin 6144) (g : Fin 16) :
    sselT p s (ix2 g r) = ∑ k : Fin 20, Scalar.select (p (ix3 r g k)) (s (ix3 r g k)) 0 := by
  pointwise [sselT]
theorem selT_at (p : IVec S6144x16x20 1) (q : IVec S6144x16x20x128 32) (r : Fin 6144) (g : Fin 16) (j : Fin 128) :
    selT p q (ix3 r g j) = Finset.fold IntOp.addi 0#32 (fun k : Fin 20 => Scalar.select (p (ix3 r g k)) (q (ix4 r g k j)) 0#32) Finset.univ := by
  pointwise [selT]
  rfl
theorem snibT_at (q : IVec S6144x16x128 32) (a : Fin 768) (p : Fin 8) (i : Fin 2048) :
    snibT q (ix3 a p i) = IntOp.andi (q (ix3 ⟨a.val * 8 + p.val, by omega⟩ ⟨i.val / 128, by omega⟩ ⟨i.val % 128, by omega⟩)) 15#32 := by
  pointwise [snibT]
theorem ordT_at (p : Fin 8) : ordT (ix2 p 0) = lit1 p := by
  have e : lit1 (S8.rowMajor (ix1 p)) = lit1 p := congrArg lit1 (Fin.ext ((by decide +kernel : ∀ p : Fin 8, (S8.rowMajor (ix1 p)).val = p.val) p))
  pointwise [ordT]
  rw [e]
theorem shT_at (a : Fin 768) (p : Fin 8) (i : Fin 2048) : shT (ix3 a p i) = BitVec.ofNat 32 (4 * p.val) := by
  pointwise [shT]
  revert p
  decide +kernel
theorem qwT_at (n : IVec S768x8x2048 32) (a : Fin 768) (i : Fin 2048) :
    qwT n (ix2 i a) = Finset.fold IntOp.addi 0#32 (fun p : Fin 8 => IntOp.shli .host (n (ix3 a p i)) (shT (ix3 a p i))) Finset.univ := by
  pointwise [qwT]
theorem ordNib_at (n : IVec S768x8x2048 32) (a : Fin 768) (p : Fin 8) (i : Fin 2048) :
    ordNib n (ix3 a p i) = n (ix3 a ⟨min (lit1 p).toInt.toNat 7, by omega⟩ i) := by
  have e : ∀ (u : BitVec 32) (hu : lit1 p = u), (⟨min (lit1 p).toInt.toNat 7, by omega⟩ : Fin 8) = ⟨min u.toInt.toNat 7, by omega⟩ := fun u hu => by subst hu; rfl
  rw [e _ (ordT_at p).symm]
  unfold ordNib Host.gather
  refine congrArg n ?_
  funext b
  refine Fin.ext ?_
  show gather_S768x8x2048_S8x1_S768x8x2048_02_1_n_n_1_1_76812048.start (ix3 a p i) ordT b + gather_S768x8x2048_S8x1_S768x8x2048_02_1_n_n_1_1_76812048.batchCoord (ix3 a p i) b
    + gather_S768x8x2048_S8x1_S768x8x2048_02_1_n_n_1_1_76812048.offCoord (ix3 a p i) b = _
  rw [GatherDims.batchCoord_eq_zero _ _ _ List.not_mem_nil]
  match b with
  | ⟨0, _⟩ =>
    rw [show gather_S768x8x2048_S8x1_S768x8x2048_02_1_n_n_1_1_76812048.start (ix3 a p i) ordT ⟨0, _⟩ = 0 from dif_neg (show (0 : Fin 3) ∉ ([1] : List (Fin 3)) by decide)]
    exact Nat.zero_add _
  | ⟨1, _⟩ =>
    have hsi : gather_S768x8x2048_S8x1_S768x8x2048_02_1_n_n_1_1_76812048.siIdx (ix3 a p i) ⟨0, Nat.one_pos⟩ = ix2 p 0 := by
      funext d; refine Fin.ext ?_
      match d with
      | ⟨0, _⟩ => rfl
      | ⟨1, _⟩ => rfl
    rw [← hsi]
    rfl
  | ⟨2, _⟩ =>
    rw [show gather_S768x8x2048_S8x1_S768x8x2048_02_1_n_n_1_1_76812048.start (ix3 a p i) ordT ⟨2, _⟩ = 0 from dif_neg (show (2 : Fin 3) ∉ ([1] : List (Fin 3)) by decide)]
    exact Nat.zero_add _
end Cert.ReferenceIdeal.Pf
end
-- ==== Proof.KI.EqScale.lean ====
module
public import proofs.«01_k».proof.Proof.KI.Host
public import proofs.«01_k».proof.Proof.KI.Scal
public import proofs.«01_k».proof.Proof.KI.Pick
public import proofs.«01_k».proof.Proof.KI.RefVal
/-! The kernel's scales and packed codes are the reference's. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic
open Cert.ReferenceIdeal.Pf

theorem lit_kernel : ∀ k : Fin 20, Cert.KernelIdeal.lit1 ⟨k.val, by omega⟩ = ratW k := by decide +kernel
theorem lit_reference : ∀ k : Fin 20, Cert.ReferenceIdeal.lit0 k = ratW k := by decide +kernel

/-- The reference's scale. -/
theorem scaleR_at (W : FVec Ideal S6144x2048 .bf16) (r : Fin 6144) (g : Fin 16) (k : Fin 20) :
    scaleR W (ix3 r g k) = scl (wR W r g) (Ideal.ofBits .f32 (ratW k)) := by
  have e : (fun j => wT W (ix3 r g j)) = wR W r g := funext fun j => wT_at W r g j
  unfold scaleR scl
  rw [scaleT_at, amaxT_at, e, lit_reference]
/-- The reference's code. -/
theorem codeR_at (W : FVec Ideal S6144x2048 .bf16) (r : Fin 6144) (g : Fin 16) (k : Fin 20) (j : Fin 128) :
    codeR W (ix4 r g k j) = FloatOps.fptosi (F := Ideal) (φ := .f32) 32 (codeB (Ideal.div (wR W r g j) (scl (wR W r g) (Ideal.ofBits .f32 (ratW k))))) := by
  unfold codeR
  rw [codeT_at, wRep_at, sRep_at, wT_at, scaleR_at]
/-- The reference's error. -/
theorem errR_at (W : FVec Ideal S6144x2048 .bf16) (r : Fin 6144) (g : Fin 16) (k : Fin 20) (j : Fin 128) :
    errR W (ix4 r g k j) = wR W r g j - FloatOps.sitofp (F := Ideal) .f32 (FloatOps.fptosi (F := Ideal) (φ := .f32) 32 (codeB (Ideal.div (wR W r g j) (scl (wR W r g) (Ideal.ofBits .f32 (ratW k))))))
      * scl (wR W r g) (Ideal.ofBits .f32 (ratW k)) := by
  unfold errR
  rw [errT_at, wRep_at, sRep_at, wT_at, scaleR_at, codeR_at]

variable (m : (ℓ : Loc nD τ sig) → Buf (Elt Ideal) ℓ) (c : Dev nD)

theorem rV_rat (k : Fin 20) : rV (VB m) c ⟨k.val, by omega⟩ = Ideal.ofBits .f32 (ratW k) := by
  rw [v0_at, lit_kernel]
theorem wV_eq (r : Fin 6144) (g : Fin 16) : wV (VB m) c r g = wR (argW m c) r g := by
  unfold wV wR
  rw [VB_arg1]

theorem scale_eq (r : Fin 6144) (g : Fin 16) (k : Fin 20) : scaleA (VB m) c g r k = scaleR (argW m c) (ix3 r g k) := by
  unfold scaleA
  rw [rV_rat, wV_eq, scaleR_at]
theorem ssel_eq (g : Fin 16) (r : Fin 6144) : sselA (VB m) c g r = sselR (argW m c) (argN m c) (ix2 g r) := by
  unfold sselA sselK sselR
  rw [pick_sum, sselT_at]
  refine Finset.sum_congr rfl fun k _ => ?_
  rw [pickT_at, rV_rat, wV_eq, scaleR_at, v3_at]

variable (hW : ∀ i, ∃ r : ℝ, argW m c i = (r : EReal))
include hW
/-- The weights of one row and group are real numbers. -/
theorem wR_real (r : Fin 6144) (g : Fin 16) : ∃ a : Fin 128 → ℝ, ∀ j, wR (argW m c) r g j = (a j : EReal) :=
  ⟨fun j => (hW _).choose, fun j => (hW _).choose_spec⟩
theorem code_eq (r : Fin 6144) (g : Fin 16) (k : Fin 20) (j : Fin 128) : ∃ x : ℝ,
    codeA (VB m) c g r ⟨k.val, by omega⟩ j = codeB (x : EReal) ∧ codeR (argW m c) (ix4 r g k j) = FloatOps.fptosi (F := Ideal) (φ := .f32) 32 (codeB (x : EReal)) := by
  obtain ⟨a, ha⟩ := wR_real m c hW r g
  obtain ⟨u, hu, eu, H⟩ := scl_real ha
  obtain ⟨ρ, hρ, eρ⟩ := ratW_pos k
  obtain ⟨s, hs, es, _⟩ := H ρ hρ
  have hs' : (s : EReal) ≠ 0 := fun e => hs.ne' (EReal.coe_eq_zero.mp e)
  refine ⟨a j * (1 / s), ?_, ?_⟩
  · unfold codeA
    rw [rV_rat, wV_eq, eρ, es, Ideal.div_coe hs.ne', one_mul, ha, EReal.coe_mul]
  · rw [codeR_at, eρ, es, Ideal.div_coe hs.ne', ha, EReal.coe_mul]
theorem bytes_eq (r : Fin 6144) (g : Fin 16) (k : Fin 20) (i : Fin 64) : bytesA (VB m) c g r k i = packR (argW m c) (ix4 r g k i) := by
  unfold bytesA packR
  rw [packT_at]
  obtain ⟨x, hx, ex⟩ := code_eq m c hW r g k ⟨i.val * 2, by omega⟩
  obtain ⟨y, hy, ey⟩ := code_eq m c hW r g k ⟨i.val * 2 + 1, by omega⟩
  have i1 : (⟨2 * i.val, by omega⟩ : Fin 128) = ⟨i.val * 2, by omega⟩ := Fin.ext (Nat.mul_comm _ _)
  have i2 : (⟨1 + 2 * i.val, by omega⟩ : Fin 128) = ⟨i.val * 2 + 1, by omega⟩ := Fin.ext (by show 1 + 2 * i.val = i.val * 2 + 1; omega)
  rw [i1, i2, ex, ey, hx, hy, ← nibB_coe, ← nibB_coe]
  rfl
end Cert.KernelIdeal.Pf
end
-- ==== Proof.KI.Loss.lean ====
module
public import proofs.«01_k».proof.Proof.KI.Scal
/-! The loss of finite weights against a finite symmetric Gram matrix: the kernel's sum over errors in units of the scale is the
    quadratic form of the errors. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

theorem sum_coe {n : ℕ} (f : Fin n → ℝ) : (∑ x, ((f x : ℝ) : EReal)) = ((∑ x, f x : ℝ) : EReal) := by
  induction n with
  | zero => simp
  | succ n ih => rw [Fin.sum_univ_succ, Fin.sum_univ_succ, ih, EReal.coe_add]

/-- Only the first part of a split real matrix counts. -/
theorem split3_sum (P : Fin 128 → Fin 128 → EReal) (p : Fin 128 → Fin 128 → ℝ) (hP : ∀ a b, P a b = (p a b : EReal)) (t : Fin 128 → EReal) (j : Fin 128) :
    ∑ x : Fin 384, split3 P j x * t ⟨x.val % 128, Nat.mod_lt _ (by omega)⟩ = ∑ x : Fin 128, P j x * t x := by
  have hz : ∀ a b, P a b - P a b = 0 := fun a b => by rw [hP, ← EReal.coe_sub, sub_self]; rfl
  rw [Fin.sum_univ_two_halves 128 256 (by norm_num), Fin.sum_univ_two_halves (N := 256) 128 128 (by norm_num)]
  have e1 : ∀ x : Fin 128, split3 P j ⟨x.val, by omega⟩ * t ⟨x.val % 128, Nat.mod_lt _ (by omega)⟩ = P j x * t x := fun x => by
    unfold split3
    rw [dif_pos x.isLt]
    exact congrArg (fun z => P j x * t z) (Fin.ext (Nat.mod_eq_of_lt x.isLt))
  have e2 : ∀ x : Fin 128, split3 P j ⟨128 + x.val, by omega⟩ = 0 := fun x => by
    unfold split3
    rw [dif_neg (by simp only; omega), dif_pos (by simp only; omega), hz]
  have e3 : ∀ x : Fin 128, split3 P j ⟨128 + (128 + x.val), by omega⟩ = 0 := fun x => by
    unfold split3
    rw [dif_neg (by simp only; omega), dif_neg (by simp only; omega), hz]
    exact sub_zero _
  rw [Finset.sum_congr rfl fun x _ => e1 x]
  simp only [e2, e3, zero_mul, Finset.sum_const_zero, add_zero]

/-- The quadratic form in units of the scale. -/
theorem quad_real (g : Fin 128 → Fin 128 → ℝ) (hg : ∀ x y, g x y = g y x) (a c : Fin 128 → ℝ) (ρ s u : ℝ) (hs : 0 < s) (hu : 0 < u)
    (h : (∀ j, a j = 0 ∧ c j = 0) ∨ s = ρ * u) :
    (∑ j, (a j * (1 / s) - c j) * ((∑ x, g j x * a x) * (1 / u) - ∑ x, g j x * ρ * c x)) * (s * u)
      = ∑ j, (∑ x, g x j * (a x - c x * s)) * (a j - c j * s) := by
  rcases h with h | h
  · have ha : ∀ j, a j = 0 := fun j => (h j).1
    have hc : ∀ j, c j = 0 := fun j => (h j).2
    simp [ha, hc]
  · rw [Finset.sum_mul]
    refine Finset.sum_congr rfl fun j _ => ?_
    have e : ∑ x, g x j * (a x - c x * s) = (∑ x, g j x * a x) - (∑ x, g j x * ρ * c x) * u := by
      rw [Finset.sum_mul, ← Finset.sum_sub_distrib]
      refine Finset.sum_congr rfl fun x _ => ?_
      rw [hg x j, h]
      ring
    rw [e]
    generalize (∑ x, g j x * a x) = A
    generalize (∑ x, g j x * ρ * c x) = B
    have := hs.ne'
    have := hu.ne'
    field_simp

/-- The error of one weight at a scale. -/
def errV (v : Fin 128 → EReal) (s : EReal) (x : Fin 128) : EReal :=
  v x - FloatOps.sitofp (F := Ideal) .f32 (FloatOps.fptosi (F := Ideal) (φ := .f32) 32 (codeB (Ideal.div (v x) s))) * s

theorem loss_math {v : Fin 128 → EReal} {a : Fin 128 → ℝ} (hv : ∀ j, v j = (a j : EReal)) (G : Fin 128 → Fin 128 → EReal) (g : Fin 128 → Fin 128 → ℝ)
    (hG : ∀ x y, G x y = (g x y : EReal)) (hg : ∀ x y, g x y = g y x) (q : EReal) (ρ : ℝ) (hq : q = (ρ : EReal)) (hρ : 0 < ρ) :
    lossK (split3 fun x y => G x y * q) v G q = ∑ j, (∑ x, G x j * errV v (scl v q) x) * errV v (scl v q) j := by
  subst hq
  obtain ⟨u, hu, eu, H⟩ := scl_real hv
  obtain ⟨s, hs, es, h⟩ := H ρ hρ
  have hu' : (u : EReal) ≠ 0 := fun e => hu.ne' (EReal.coe_eq_zero.mp e)
  have hd : ∀ j, v j * Ideal.div 1 (s : EReal) = ((a j * (1 / s) : ℝ) : EReal) := fun j => by
    rw [Ideal.div_coe hs.ne', one_mul, hv, ← EReal.coe_mul]
  have hd' : ∀ j, Ideal.div (v j) (s : EReal) = ((a j * (1 / s) : ℝ) : EReal) := fun j => by
    rw [Ideal.div_coe hs.ne', hv, ← EReal.coe_mul]
  have hc : ∀ j, codeB (v j * Ideal.div 1 (s : EReal)) = (((codeZ (a j * (1 / s)) : ℤ) : ℝ) : EReal) := fun j => by rw [hd, codeB_coe]
  have he : ∀ j, errV v (s : EReal) j = ((a j - ((codeZ (a j * (1 / s)) : ℤ) : ℝ) * s : ℝ) : EReal) := fun j => by
    unfold errV
    rw [hd', sitofp_code, hv, ← EReal.coe_mul, ← EReal.coe_sub]
  unfold lossK
  rw [es, eu]
  have s1 : ∀ j, ∑ x : Fin 384, split3 G j x * v ⟨x.val % 128, Nat.mod_lt _ (by omega)⟩ = ((∑ x, g j x * a x : ℝ) : EReal) := fun j => by
    rw [split3_sum G g hG, ← sum_coe]
    exact Finset.sum_congr rfl fun x _ => by rw [hG, hv, ← EReal.coe_mul]
  have s2 : ∀ j, ∑ x : Fin 384, split3 (fun x y => G x y * (ρ : EReal)) j x * codeB (v ⟨x.val % 128, Nat.mod_lt _ (by omega)⟩ * Ideal.div 1 (s : EReal))
      = ((∑ x, g j x * ρ * ((codeZ (a x * (1 / s)) : ℤ) : ℝ) : ℝ) : EReal) := fun j => by
    rw [split3_sum (fun x y => G x y * (ρ : EReal)) (fun x y => g x y * ρ) (fun x y => by rw [hG, ← EReal.coe_mul]) (fun x => codeB (v x * Ideal.div 1 (s : EReal))), ← sum_coe]
    exact Finset.sum_congr rfl fun x _ => by rw [hc, hG, ← EReal.coe_mul, ← EReal.coe_mul]
  have L : ∀ j, (v j * Ideal.div 1 (s : EReal) - codeB (v j * Ideal.div 1 (s : EReal)))
      * ((∑ x : Fin 384, split3 G j x * v ⟨x.val % 128, Nat.mod_lt _ (by omega)⟩) * Ideal.div 1 (u : EReal)
        - ∑ x : Fin 384, split3 (fun x y => G x y * (ρ : EReal)) j x * codeB (v ⟨x.val % 128, Nat.mod_lt _ (by omega)⟩ * Ideal.div 1 (s : EReal)))
      = (((a j * (1 / s) - ((codeZ (a j * (1 / s)) : ℤ) : ℝ)) * ((∑ x, g j x * a x) * (1 / u) - ∑ x, g j x * ρ * ((codeZ (a x * (1 / s)) : ℤ) : ℝ)) : ℝ) : EReal) := fun j => by
    rw [s1, s2, hc, hd, Ideal.div_coe hu.ne', one_mul, ← EReal.coe_sub, ← EReal.coe_mul, ← EReal.coe_sub, ← EReal.coe_mul]
  have R : ∀ j, (∑ x, G x j * errV v (s : EReal) x) * errV v (s : EReal) j
      = (((∑ x, g x j * (a x - ((codeZ (a x * (1 / s)) : ℤ) : ℝ) * s)) * (a j - ((codeZ (a j * (1 / s)) : ℤ) : ℝ) * s) : ℝ) : EReal) := fun j => by
    rw [Finset.sum_congr rfl fun x _ => show G x j * errV v (s : EReal) x = ((g x j * (a x - ((codeZ (a x * (1 / s)) : ℤ) : ℝ) * s) : ℝ) : EReal) by rw [hG, he, ← EReal.coe_mul],
      sum_coe, he, ← EReal.coe_mul]
  rw [Finset.sum_congr rfl fun j _ => L j, Finset.sum_congr rfl fun j _ => R j, sum_coe, sum_coe, ← EReal.coe_mul, ← EReal.coe_mul]
  refine congrArg _ (quad_real g hg a (fun j => ((codeZ (a j * (1 / s)) : ℤ) : ℝ)) ρ s u hs hu ?_)
  exact h.imp (fun h j => ⟨h j, by rw [h j, zero_mul, codeZ_zero]; norm_num⟩) id
end Cert.KernelIdeal.Pf
end
-- ==== Proof.KI.EqLoss.lean ====
module
public import proofs.«01_k».proof.Proof.KI.EqScale
public import proofs.«01_k».proof.Proof.KI.Loss
/-! The kernel's losses are the reference's. -/
@[expose] public section
set_option maxRecDepth 16384
noncomputable section
namespace Cert.ReferenceIdeal.Pf
open Cert.ReferenceIdeal Cert.ReferenceIdeal.Gen
open Idealize.ShloMosaic
open Idealize.ShloMosaic.TcCoe Idealize.ShloMosaic.Tactic
theorem xT_at (X : FVec Ideal S12x768x2048 .bf16) (t : Fin 12) (u : Fin 768) (g : Fin 16) (j : Fin 128) :
    xT X (ix3 ⟨t.val * 768 + u.val, by omega⟩ g j) = X (ix3 t u ⟨g.val * 128 + j.val, by omega⟩) := by
  pointwise [xT]
end Cert.ReferenceIdeal.Pf
namespace Cert.KernelIdeal.Pf
open Cert.KernelIdeal Cert.KernelIdeal.Gen
open Idealize.ShloMosaic
open Idealize.ShloMosaic.TcCoe Idealize.ShloMosaic.Tactic
open Cert.ReferenceIdeal.Pf

variable (m : (ℓ : Loc nD τ sig) → Buf (Elt Ideal) ℓ) (c : Dev nD)

/-- The activations, in the kernel's rows of tokens and in the reference's. -/
theorem x_eq (t : Fin 9216) (g : Fin 16) (j : Fin 128) : xV (VA m) c t ⟨g.val * 128 + j.val, by omega⟩ = xT (argX m c) (ix3 t g j) := by
  have e : t = ⟨(⟨t.val / 768, by omega⟩ : Fin 12).val * 768 + (⟨t.val % 768, Nat.mod_lt _ (by omega)⟩ : Fin 768).val, by omega⟩ :=
    Fin.ext (by show t.val = t.val / 768 * 768 + t.val % 768; omega)
  rw [e, v1_at, xT_at]
/-- The Gram matrices. -/
theorem g_eq (g : Fin 16) (a b : Fin 128) : gV (VB m) c g a b = gramT (xT (argX m c)) (ix3 g a b) := by
  unfold gV
  rw [VB_v2, gramArr_at, gramT_at]
  exact Finset.sum_congr rfl fun t _ => congrArg₂ (· * ·) (x_eq m c t g a) (x_eq m c t g b)

variable (hX : ∀ i, ∃ r : ℝ, argX m c i = (r : EReal))
include hX
theorem xT_real (t : Fin 9216) (g : Fin 16) (j : Fin 128) : ∃ r : ℝ, xT (argX m c) (ix3 t g j) = (r : EReal) := by
  have e : t = ⟨(⟨t.val / 768, by omega⟩ : Fin 12).val * 768 + (⟨t.val % 768, Nat.mod_lt _ (by omega)⟩ : Fin 768).val, by omega⟩ :=
    Fin.ext (by show t.val = t.val / 768 * 768 + t.val % 768; omega)
  rw [e, xT_at]
  exact hX _
/-- A Gram matrix is real and symmetric. -/
theorem g_real (g : Fin 16) : ∃ p : Fin 128 → Fin 128 → ℝ, (∀ a b, gV (VB m) c g a b = (p a b : EReal)) ∧ ∀ a b, p a b = p b a := by
  choose x hx using fun (t : Fin 9216) (j : Fin 128) => xT_real m c hX t g j
  refine ⟨fun a b => ∑ t, x t a * x t b, fun a b => ?_, fun a b => Finset.sum_congr rfl fun t _ => mul_comm _ _⟩
  rw [g_eq, gramT_at, ← sum_coe]
  refine Finset.sum_congr rfl fun t _ => ?_
  rw [hx, hx, EReal.coe_mul]

variable (hW : ∀ i, ∃ r : ℝ, argW m c i = (r : EReal))
include hW
theorem loss_eq (r : Fin 6144) (g : Fin 16) (k : Fin 20) : lossA (VB m) c g r k = lossR (argX m c) (argW m c) (ix3 r g k) := by
  obtain ⟨a, ha⟩ := wR_real m c hW r g
  obtain ⟨p, hp, hs⟩ := g_real m c hX g
  obtain ⟨ρ, hρ, eρ⟩ := ratW_pos k
  unfold lossA lossR slotV
  rw [rV_rat, wV_eq, loss_math ha (gV (VB m) c g) p hp hs _ ρ eρ hρ, lossT_at]
  refine Finset.sum_congr rfl fun j _ => ?_
  rw [egT_at, errR_at]
  refine congrArg₂ (· * ·) (Finset.sum_congr rfl fun x _ => ?_) rfl
  rw [errR_at, g_eq]
  rfl
end Cert.KernelIdeal.Pf
end
-- ==== Proof.KI.Word.lean ====
module
public import proofs.«01_k».proof.Proof.KI.Tables
/-! The packed word: two biased sums of codes give the codes' nibbles at their places. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic

theorem nib_xor (m k n : ℕ) (hn : n < 16) : (16 * m + n) ^^^ (16 * k + 8) = 16 * (m ^^^ k) + (n ^^^ 8) := by
  have e1 : ((16 * m + n) ^^^ (16 * k + 8)) / 2 ^ 4 = m ^^^ k := by
    rw [Nat.xor_div_two_pow]; congr 1 <;> omega
  have e2 : ((16 * m + n) ^^^ (16 * k + 8)) % 2 ^ 4 = n ^^^ 8 := by
    rw [Nat.xor_mod_two_pow]; congr 1 <;> omega
  omega

theorem xor8 (z : ℤ) (h0 : -7 ≤ z) (h1 : z ≤ 7) : (z + 8).toNat ^^^ 8 = (IntOp.andi (BitVec.ofInt 32 z) 15#32).toNat := by
  interval_cases z <;> decide +kernel

/-- A sum of four codes at weights 1, 16, 256 and 4096, biased. -/
theorem half_eq (a b c d : ℤ) (ha : -7 ≤ a ∧ a ≤ 7) (hb : -7 ≤ b ∧ b ≤ 7) (hc : -7 ≤ c ∧ c ≤ 7) (hd : -7 ≤ d ∧ d ≤ 7) :
    (BitVec.ofInt 32 (a + 16 * b + 256 * c + 4096 * d) + 34952#32).toNat
      = (a + 8).toNat + 16 * (b + 8).toNat + 256 * (c + 8).toNat + 4096 * (d + 8).toNat := by
  rw [BitVec.toNat_add, BitVec.toNat_ofInt]
  simp only [BitVec.toNat_ofNat]
  omega

theorem word_nat (lo hi : BitVec 32) (hl : lo.toNat < 65536) (hh : hi.toNat < 65536) :
    (wordK lo hi).toNat = (65536 * hi.toNat + lo.toNat) ^^^ 2290649224 := by
  have e : IntOp.shli .vector hi 16#32 = hi <<< 16 := rfl
  unfold wordK
  rw [e]
  show ((hi <<< 16 ||| lo) ^^^ 2290649224#32).toNat = _
  rw [BitVec.toNat_xor, BitVec.toNat_or, BitVec.toNat_shiftLeft, Nat.mod_eq_of_lt (by rw [Nat.shiftLeft_eq]; omega),
    ← Nat.shiftLeft_add_eq_or_of_lt (by omega), Nat.shiftLeft_eq]
  congr 1
  omega

theorem shl_nat (y : BitVec 32) (hy : y.toNat < 16) (p : Fin 8) : (IntOp.shli .host y (BitVec.ofNat 32 (4 * p.val))).toNat = y.toNat * 16 ^ p.val := by
  have e : IntOp.shli .host y (BitVec.ofNat 32 (4 * p.val)) = y <<< (4 * p.val) := by
    revert p
    refine Fin.forall_fin_succ.mpr ⟨rfl, Fin.forall_fin_succ.mpr ⟨rfl, Fin.forall_fin_succ.mpr ⟨rfl, Fin.forall_fin_succ.mpr ⟨rfl, Fin.forall_fin_succ.mpr ⟨rfl, Fin.forall_fin_succ.mpr ⟨rfl, Fin.forall_fin_succ.mpr ⟨rfl, Fin.forall_fin_succ.mpr ⟨rfl, fun i => i.elim0⟩⟩⟩⟩⟩⟩⟩⟩
  rw [e, BitVec.toNat_shiftLeft, Nat.shiftLeft_eq, pow_mul]
  refine Nat.mod_eq_of_lt ?_
  have : (2 ^ 4) ^ p.val ≤ (16 : ℕ) ^ 7 := Nat.pow_le_pow_right (by norm_num) (by omega)
  calc y.toNat * (2 ^ 4) ^ p.val ≤ 15 * 16 ^ 7 := Nat.mul_le_mul (by omega) this
    _ < 2 ^ 32 := by norm_num

theorem fold8 (f : Fin 8 → BitVec 32) : Finset.fold IntOp.addi 0#32 f Finset.univ
    = f 0 + (f 1 + (f 2 + (f 3 + (f 4 + (f 5 + (f 6 + (f 7 + 0#32))))))) := rfl

/-- The packed word of eight codes. -/
theorem word_eq (z : Fin 8 → ℤ) (h : ∀ i, -7 ≤ z i ∧ z i ≤ 7) :
    wordK (BitVec.ofInt 32 (z 0 + 16 * z 2 + 256 * z 4 + 4096 * z 6) + 34952#32) (BitVec.ofInt 32 (z 1 + 16 * z 3 + 256 * z 5 + 4096 * z 7) + 34952#32)
      = Finset.fold IntOp.addi 0#32 (fun p : Fin 8 => IntOp.shli .host (IntOp.andi (BitVec.ofInt 32 (z (![0, 2, 4, 6, 1, 3, 5, 7] p))) 15#32) (BitVec.ofNat 32 (4 * p.val))) Finset.univ := by
  have hlo := half_eq _ _ _ _ (h 0) (h 2) (h 4) (h 6)
  have hhi := half_eq _ _ _ _ (h 1) (h 3) (h 5) (h 7)
  have hn : ∀ i, (z i + 8).toNat < 16 := fun i => by have := h i; omega
  have hx : ∀ i, (z i + 8).toNat ^^^ 8 = (IntOp.andi (BitVec.ofInt 32 (z i)) 15#32).toNat := fun i => xor8 (z i) (h i).1 (h i).2
  have hlt : ∀ i, (IntOp.andi (BitVec.ofInt 32 (z i)) 15#32).toNat < 16 := fun i => by
    rw [← hx]
    exact Nat.xor_lt_two_pow (n := 4) (hn i) (by norm_num)
  have h0 := hn 0; have h1 := hn 1; have h2 := hn 2; have h3 := hn 3; have h4 := hn 4; have h5 := hn 5; have h6 := hn 6; have h7 := hn 7
  refine BitVec.eq_of_toNat_eq ?_
  rw [word_nat _ _ (by rw [hlo]; omega) (by rw [hhi]; omega), hlo, hhi]
  have e : 65536 * ((z 1 + 8).toNat + 16 * (z 3 + 8).toNat + 256 * (z 5 + 8).toNat + 4096 * (z 7 + 8).toNat)
      + ((z 0 + 8).toNat + 16 * (z 2 + 8).toNat + 256 * (z 4 + 8).toNat + 4096 * (z 6 + 8).toNat)
      = 16 * (16 * (16 * (16 * (16 * (16 * (16 * (16 * 0 + (z 7 + 8).toNat) + (z 5 + 8).toNat) + (z 3 + 8).toNat) + (z 1 + 8).toNat) + (z 6 + 8).toNat) + (z 4 + 8).toNat) + (z 2 + 8).toNat) + (z 0 + 8).toNat := by omega
  have e' : 2290649224 = 16 * (16 * (16 * (16 * (16 * (16 * (16 * (16 * 0 + 8) + 8) + 8) + 8) + 8) + 8) + 8) + 8 := by norm_num
  rw [e, e', nib_xor _ _ _ h0, nib_xor _ _ _ h2, nib_xor _ _ _ h4, nib_xor _ _ _ h6, nib_xor _ _ _ h1, nib_xor _ _ _ h3, nib_xor _ _ _ h5, nib_xor _ _ _ h7,
    hx, hx, hx, hx, hx, hx, hx, hx, fold8]
  have s0 := shl_nat _ (hlt 0) 0
  have s1 := shl_nat _ (hlt 2) 1
  have s2 := shl_nat _ (hlt 4) 2
  have s3 := shl_nat _ (hlt 6) 3
  have s4 := shl_nat _ (hlt 1) 4
  have s5 := shl_nat _ (hlt 3) 5
  have s6 := shl_nat _ (hlt 5) 6
  have s7 := shl_nat _ (hlt 7) 7
  have l0 := hlt 0; have l1 := hlt 1; have l2 := hlt 2; have l3 := hlt 3; have l4 := hlt 4; have l5 := hlt 5; have l6 := hlt 6; have l7 := hlt 7
  simp only [BitVec.toNat_add]
  show _ = ((IntOp.shli .host (IntOp.andi (BitVec.ofInt 32 (z 0)) 15#32) (BitVec.ofNat 32 (4 * (0 : Fin 8).val))).toNat
    + ((IntOp.shli .host (IntOp.andi (BitVec.ofInt 32 (z 2)) 15#32) (BitVec.ofNat 32 (4 * (1 : Fin 8).val))).toNat
    + ((IntOp.shli .host (IntOp.andi (BitVec.ofInt 32 (z 4)) 15#32) (BitVec.ofNat 32 (4 * (2 : Fin 8).val))).toNat
    + ((IntOp.shli .host (IntOp.andi (BitVec.ofInt 32 (z 6)) 15#32) (BitVec.ofNat 32 (4 * (3 : Fin 8).val))).toNat
    + ((IntOp.shli .host (IntOp.andi (BitVec.ofInt 32 (z 1)) 15#32) (BitVec.ofNat 32 (4 * (4 : Fin 8).val))).toNat
    + ((IntOp.shli .host (IntOp.andi (BitVec.ofInt 32 (z 3)) 15#32) (BitVec.ofNat 32 (4 * (5 : Fin 8).val))).toNat
    + ((IntOp.shli .host (IntOp.andi (BitVec.ofInt 32 (z 5)) 15#32) (BitVec.ofNat 32 (4 * (6 : Fin 8).val))).toNat
    + ((IntOp.shli .host (IntOp.andi (BitVec.ofInt 32 (z 7)) 15#32) (BitVec.ofNat 32 (4 * (7 : Fin 8).val))).toNat + (0#32).toNat) % 2 ^ 32) % 2 ^ 32) % 2 ^ 32) % 2 ^ 32) % 2 ^ 32) % 2 ^ 32) % 2 ^ 32) % 2 ^ 32
  rw [s0, s1, s2, s3, s4, s5, s6, s7]
  simp only [Fin.val_zero, Fin.val_one, Fin.val_two, Fin.isValue, Nat.xor_self, BitVec.toNat_ofNat,
    show (3 : Fin 8).val = 3 from rfl, show (4 : Fin 8).val = 4 from rfl, show (5 : Fin 8).val = 5 from rfl, show (6 : Fin 8).val = 6 from rfl, show (7 : Fin 8).val = 7 from rfl,
    show (1 : Fin 8).val = 1 from rfl, show (2 : Fin 8).val = 2 from rfl]
  omega
end Cert.KernelIdeal.Pf
end
-- ==== Proof.KI.EqWord.lean ====
module
public import proofs.«01_k».proof.Proof.KI.EqScale
public import proofs.«01_k».proof.Proof.KI.Word
/-! The kernel's packed words are the reference's: the pack matrix puts eight rows' codes into the sixteen-bit halves. -/
@[expose] public section
set_option maxRecDepth 16384
noncomputable section
namespace Cert.KernelIdeal.Pf
open Cert.KernelIdeal Cert.KernelIdeal.Gen
open Idealize.ShloMosaic
open Idealize.ShloMosaic.TcCoe Idealize.ShloMosaic.Tactic
open Cert.ReferenceIdeal.Pf

/-- The pack matrix's entries as integers. -/
def pw : Fin 8 → Fin 2 → ℤ := ![![1, 0], ![0, 1], ![16, 0], ![0, 16], ![256, 0], ![0, 256], ![4096, 0], ![0, 4096]]
/-- Their words. -/
def pwB : Fin 8 → Fin 2 → BitVec 16 := ![![0x3F80#16, 0#16], ![0#16, 0x3F80#16], ![0x4180#16, 0#16], ![0#16, 0x4180#16], ![0x4380#16, 0#16], ![0#16, 0x4380#16], ![0x4580#16, 0#16], ![0#16, 0x4580#16]]
theorem lit_pack : ∀ (i : Fin 8) (h : Fin 2), Cert.KernelIdeal.lit2 (S8x2.rowMajor (ix2 i h)) = pwB i h := by decide +kernel
theorem pb0 : Ideal.ofBits .bf16 0#16 = (((0 : ℤ) : ℝ) : EReal) := by simp [Ideal.ofBits, Ideal.ieee]
theorem pb1 : Ideal.ofBits .bf16 0x3F80#16 = (((1 : ℤ) : ℝ) : EReal) := by simp [Ideal.ofBits, Ideal.ieee, -EReal.coe_mul]; norm_num
theorem pb2 : Ideal.ofBits .bf16 0x4180#16 = (((16 : ℤ) : ℝ) : EReal) := by simp [Ideal.ofBits, Ideal.ieee, -EReal.coe_mul]; norm_num
theorem pb3 : Ideal.ofBits .bf16 0x4380#16 = (((256 : ℤ) : ℝ) : EReal) := by simp [Ideal.ofBits, Ideal.ieee, -EReal.coe_mul]; norm_num
theorem pb4 : Ideal.ofBits .bf16 0x4580#16 = (((4096 : ℤ) : ℝ) : EReal) := by simp [Ideal.ofBits, Ideal.ieee, -EReal.coe_mul]; norm_num
theorem packW_at (i : Fin 8) (h : Fin 2) : packW (ix2 i h) = (((pw i h : ℤ) : ℝ) : EReal) := by
  unfold packW
  rw [lit_pack]
  fin_cases i <;> fin_cases h <;> first | exact pb0 | exact pb1 | exact pb2 | exact pb3 | exact pb4

theorem sum_intCast {n : ℕ} (f : Fin n → ℤ) : (∑ x, (((f x : ℤ) : ℝ) : EReal)) = (((∑ x, f x : ℤ) : ℝ) : EReal) := by
  induction n with
  | zero => simp
  | succ n ih => rw [Fin.sum_univ_succ, Fin.sum_univ_succ, ih, Int.cast_add, EReal.coe_add]

variable (m : (ℓ : Loc nD τ sig) → Buf (Elt Ideal) ℓ) (c : Dev nD)

/-- A column of the pack matrix takes the eight codes of one word. -/
theorem half_sum (t : Fin 1024 → EReal) (z : Fin 1024 → ℤ) (hz : ∀ x, codeB (t x) = (((z x : ℤ) : ℝ) : EReal)) (h : Fin 2) (o : Fin 128) :
    ∑ x, codeB (t x) * pV (VB m) c x ⟨h.val * 128 + o.val, by omega⟩ = (((∑ i : Fin 8, z ⟨o.val * 8 + i.val, by omega⟩ * pw i h : ℤ) : ℝ) : EReal) := by
  rw [Fin.sum_univ_tiles (N := 1024) 128 8 (by norm_num), Finset.sum_eq_single o]
  · rw [← sum_intCast]
    refine Finset.sum_congr rfl fun i _ => ?_
    rw [v9_at, if_pos rfl, packW_at, hz, Int.cast_mul, EReal.coe_mul]
  · intro a _ ha
    refine Finset.sum_eq_zero fun i _ => ?_
    rw [v9_at, if_neg ha, mul_zero]
  · intro ho; exact absurd (Finset.mem_univ o) ho

theorem half_lo (t : Fin 1024 → EReal) (z : Fin 1024 → ℤ) (hz : ∀ x, codeB (t x) = (((z x : ℤ) : ℝ) : EReal)) (o : Fin 128)
    (y : Fin 8 → ℤ) (hy : ∀ i : Fin 8, z ⟨o.val * 8 + i.val, by omega⟩ = y i) (hb : ∀ i, -7 ≤ y i ∧ y i ≤ 7) :
    halfK t (fun x => pV (VB m) c x ⟨o.val, by omega⟩) = BitVec.ofInt 32 (y 0 + 16 * y 2 + 256 * y 4 + 4096 * y 6) + 34952#32 := by
  have e := half_sum m c t z hz 0 o
  rw [Finset.sum_congr rfl fun i _ => congrArg (· * pw i 0) (hy i)] at e
  rw [show (∑ i : Fin 8, y i * pw i 0) = y 0 + 16 * y 2 + 256 * y 4 + 4096 * y 6 by rw [Fin.sum_univ_eight]; simp [pw]; ring] at e
  have i0 : (⟨o.val, by omega⟩ : Fin 256) = ⟨(0 : Fin 2).val * 128 + o.val, by simp; omega⟩ := Fin.ext (by simp)
  unfold halfK
  rw [i0, e, fptosi_int 32 _ (by have := hb 0; have := hb 2; have := hb 4; have := hb 6; norm_num; omega) (by have := hb 0; have := hb 2; have := hb 4; have := hb 6; norm_num; omega)]
  rfl
theorem half_hi (t : Fin 1024 → EReal) (z : Fin 1024 → ℤ) (hz : ∀ x, codeB (t x) = (((z x : ℤ) : ℝ) : EReal)) (o : Fin 128)
    (y : Fin 8 → ℤ) (hy : ∀ i : Fin 8, z ⟨o.val * 8 + i.val, by omega⟩ = y i) (hb : ∀ i, -7 ≤ y i ∧ y i ≤ 7) :
    halfK t (fun x => pV (VB m) c x ⟨128 + o.val, by omega⟩) = BitVec.ofInt 32 (y 1 + 16 * y 3 + 256 * y 5 + 4096 * y 7) + 34952#32 := by
  have e := half_sum m c t z hz 1 o
  rw [Finset.sum_congr rfl fun i _ => congrArg (· * pw i 1) (hy i)] at e
  rw [show (∑ i : Fin 8, y i * pw i 1) = y 1 + 16 * y 3 + 256 * y 5 + 4096 * y 7 by rw [Fin.sum_univ_eight]; simp [pw]; ring] at e
  have i0 : (⟨128 + o.val, by omega⟩ : Fin 256) = ⟨(1 : Fin 2).val * 128 + o.val, by simp; omega⟩ := Fin.ext (by simp)
  unfold halfK
  rw [i0, e, fptosi_int 32 _ (by have := hb 1; have := hb 3; have := hb 5; have := hb 7; norm_num; omega) (by have := hb 1; have := hb 3; have := hb 5; have := hb 7; norm_num; omega)]
  rfl

theorem ord_place : ∀ p : Fin 8, (⟨min (Cert.ReferenceIdeal.lit1 p).toInt.toNat 7, by omega⟩ : Fin 8) = ![0, 2, 4, 6, 1, 3, 5, 7] p := by decide +kernel

variable (hW : ∀ i, ∃ r : ℝ, argW m c i = (r : EReal))
include hW
/-- The chosen code, in the kernel and in the reference. -/
theorem sel_eq (r : Fin 6144) (g : Fin 16) (j : Fin 128) : ∃ z : ℤ, (-7 ≤ z ∧ z ≤ 7)
    ∧ codeB (wV (VB m) c r g j * riSel (wV (VB m) c r g) (rV (VB m) c) (nV (VB m) c g r)) = (((z : ℤ) : ℝ) : EReal)
    ∧ selT (pickT (argN m c)) (codeR (argW m c)) (ix3 r g j) = BitVec.ofInt 32 z := by
  obtain ⟨a, ha⟩ := wR_real m c hW r g
  obtain ⟨z, h0, h1, e1, e2⟩ := pick_code ha (rV (VB m) c) (fun k => by rw [rV_rat]; exact ratW_pos k) (argN m c (ix2 r g)) j
  refine ⟨z, ⟨h0, h1⟩, ?_, ?_⟩
  · rw [wV_eq, v3_at]; exact e1
  · rw [selT_at, ← e2]
    refine Finset.fold_congr fun k _ => ?_
    rw [pickT_at, codeR_at, rV_rat]

theorem qw_eq (i : Fin 2048) (q : Fin 768) :
    qwA (VB m) c ⟨i.val / 128, by omega⟩ ⟨q.val / 128, by omega⟩ ⟨i.val % 128, Nat.mod_lt _ (by omega)⟩ ⟨q.val % 128, Nat.mod_lt _ (by omega)⟩
      = qwR (argW m c) (argN m c) (ix2 i q) := by
  choose z hb hz hs using fun r => sel_eq m c hW r ⟨i.val / 128, by omega⟩ ⟨i.val % 128, Nat.mod_lt _ (by omega)⟩
  have hy : ∀ p : Fin 8, z ⟨q.val / 128 * 1024 + (q.val % 128 * 8 + p.val), by omega⟩ = z ⟨q.val * 8 + p.val, by omega⟩ := fun p =>
    congrArg z (Fin.ext (by show q.val / 128 * 1024 + (q.val % 128 * 8 + p.val) = q.val * 8 + p.val; omega))
  unfold qwA qwR
  rw [half_lo m c _ (fun x => z ⟨q.val / 128 * 1024 + x.val, by omega⟩) (fun x => hz _) _ (fun p => z ⟨q.val * 8 + p.val, by omega⟩) hy (fun p => hb _),
    half_hi m c _ (fun x => z ⟨q.val / 128 * 1024 + x.val, by omega⟩) (fun x => hz _) _ (fun p => z ⟨q.val * 8 + p.val, by omega⟩) hy (fun p => hb _)]
  refine (word_eq (fun p : Fin 8 => z ⟨q.val * 8 + p.val, by omega⟩) (fun p => hb _)).trans ?_
  rw [qwT_at]
  refine Finset.fold_congr fun p _ => ?_
  rw [shT_at, ordNib_at, snibT_at, ord_place, hs]
end Cert.KernelIdeal.Pf
end
-- ==== Proof.KI.Value.lean ====
module
public import proofs.«01_k».proof.Proof.KI.Results
public import proofs.«01_k».proof.Proof.KI.EqLoss
public import proofs.«01_k».proof.Proof.KI.EqWord
/-! The kernel's run ends with its five results equal to the reference's tensors of its arguments, when those are real. -/
@[expose] public section
set_option maxRecDepth 16384
noncomputable section
namespace Cert.KernelIdeal.Pf
open Cert.KernelIdeal Cert.KernelIdeal.Gen
open Idealize.ShloMosaic Idealize.SL.Sem
open Idealize.ShloMosaic.TcCoe Idealize.ShloMosaic.Tactic
open Cert.ReferenceIdeal.Pf (lossR packR scaleR qwR sselR)

theorem at2 {α : Type} {a b : ℕ} {x y : (⟨2, ![a, b]⟩ : Shape).Idx → α} (h : ∀ i j, x (ix2 i j) = y (ix2 i j)) : x = y := by
  funext i
  have e : i = ix2 (i 0) (i 1) := by funext k; match k with | 0 => rfl | 1 => rfl
  rw [e]; exact h _ _
theorem at3 {α : Type} {a b d : ℕ} {x y : (⟨3, ![a, b, d]⟩ : Shape).Idx → α} (h : ∀ i j k, x (ix3 i j k) = y (ix3 i j k)) : x = y := by
  funext i
  have e : i = ix3 (i 0) (i 1) (i 2) := by funext k; match k with | 0 => rfl | 1 => rfl | 2 => rfl
  rw [e]; exact h _ _ _
theorem at4 {α : Type} {a b d f : ℕ} {x y : (⟨4, ![a, b, d, f]⟩ : Shape).Idx → α} (h : ∀ i j k l, x (ix4 i j k l) = y (ix4 i j k l)) : x = y := by
  funext i
  have e : i = ix4 (i 0) (i 1) (i 2) (i 3) := by funext k; match k with | 0 => rfl | 1 => rfl | 2 => rfl | 3 => rfl
  rw [e]; exact h _ _ _ _

variable (m : (ℓ : Loc nD τ sig) → Buf (Elt Ideal) ℓ) (c : Dev nD) (γ : Gam m c)
  (hX : ∀ i, ∃ r : ℝ, argX m c i = (r : EReal)) (hW : ∀ i, ∃ r : ℝ, argW m c i = (r : EReal))

theorem end_v13 : (VD m (I1v (VB m)) (Rlv (VB m)) c γ main_v13 : FVec Ideal S6144x16x20 .f32) = scaleR (argW m c) :=
  at3 fun r g k => (res_v13 m c γ r g k).trans (scale_eq m c r g k)
theorem end_v10_4 : (VD m (I1v (VB m)) (Rlv (VB m)) c γ main_v10_4 : FVec Ideal S16x6144 .f32) = sselR (argW m c) (argN m c) :=
  at2 fun g r => (res_v10_4 m c γ g r).trans (ssel_eq m c g r)
include hW in
theorem end_v12 : (VD m (I1v (VB m)) (Rlv (VB m)) c γ main_v12 : IVec S6144x16x20x64 8) = packR (argW m c) :=
  at4 fun r g k i => (res_v12 m c γ r g k i).trans (bytes_eq m c hW r g k i)
include hW in
theorem end_v10_3 : (VD m (I1v (VB m)) (Rlv (VB m)) c γ main_v10_3 : IVec S2048x768 32) = qwR (argW m c) (argN m c) :=
  at2 fun i q => (res_v10_3 m c γ i q).trans (qw_eq m c hW i q)
include hX hW in
theorem end_v11 : (VD m (I1v (VB m)) (Rlv (VB m)) c γ main_v11 : FVec Ideal S6144x16x20 .f32) = lossR (argX m c) (argW m c) :=
  at3 fun r g k => (res_v11 m c γ r g k).trans (loss_eq m c hX hW r g k)

theorem run_value (ρ : Dev nD → PrngReg) (h : ∀ c, (∀ i, ∃ r : ℝ, argX m c i = (r : EReal)) ∧ ∀ i, ∃ r : ℝ, argW m c i = (r : EReal)) :
    θ_run defs (onTc (τ := τ) (main (F := Ideal))) ⟨m, fun _ => 0, ρ⟩ (fun r => ∀ c : Dev nD,
      r.2.mem ((c.tc : Thread nD τ).loc main_v11) = lossR (argX m c) (argW m c)
      ∧ r.2.mem ((c.tc : Thread nD τ).loc main_v12) = packR (argW m c)
      ∧ r.2.mem ((c.tc : Thread nD τ).loc main_v13) = scaleR (argW m c)
      ∧ r.2.mem ((c.tc : Thread nD τ).loc main_v10_3) = qwR (argW m c) (argN m c)
      ∧ r.2.mem ((c.tc : Thread nD τ).loc main_v10_4) = sselR (argW m c) (argN m c)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) := by
  refine (θ_run _ _ _).mono ?_ (run_main m ρ (I1v (VB m)) (Rlv (VB m)) (stepA (VB m)) (stepB (VB m)) (slots0 m))
  rintro r ⟨hr, hs⟩ c
  obtain ⟨γ, hγ⟩ := hr c
  obtain ⟨hX, hW⟩ := h c
  exact ⟨(hγ _ (mem_uc main_v11 (by decide))).trans (end_v11 m c γ hX hW),
    (hγ _ (mem_uc main_v12 (by decide))).trans (end_v12 m c γ hW),
    (hγ _ (mem_uc main_v13 (by decide))).trans (end_v13 m c γ),
    (hγ _ (mem_uc main_v10_3 (by decide))).trans (end_v10_3 m c γ hW),
    (hγ _ (mem_uc main_v10_4 (by decide))).trans (end_v10_4 m c γ),
    (hγ _ (mem_uc main_arg0 (by decide))).trans (VD_arg m _ _ c γ main_arg0 (by decide) (by decide) (by decide) (by decide) (by decide) (by decide) (by decide)),
    (hγ _ (mem_uc main_arg1 (by decide))).trans (VD_arg m _ _ c γ main_arg1 (by decide) (by decide) (by decide) (by decide) (by decide) (by decide) (by decide)),
    (hγ _ (mem_uc main_arg2 (by decide))).trans (VD_arg m _ _ c γ main_arg2 (by decide) (by decide) (by decide) (by decide) (by decide) (by decide) (by decide))⟩
end Cert.KernelIdeal.Pf
end
-- ==== Proof.PreFin.lean ====
module
public import proofs.«01_k».proof.Pre_finite
public import Idealize.ShloMosaic.Lib.ValueIdxCore
public import Idealize.ShloMosaic.Lib.IdealHost
/-! The precondition says that every activation and every weight is a real number. -/
@[expose] public section
set_option maxRecDepth 16384
noncomputable section
namespace Cert.Pre_finite
open Idealize.ShloMosaic

/-- The side conditions of the predicate's operations. -/
instance facts : Facts where
  bitsLt_bf16_f32 := by decide
  bcast_S_S12x768x2048 := by decide
  reducesTo_S12x768x2048_S_d0_1_2 := by decide
  h_S_ := by decide
  bcast_S_S6144x2048 := by decide
  reducesTo_S6144x2048_S_d0_1 := by decide

theorem andi_one : ∀ x y : BitVec 1, IntOp.andi x y = 1#1 → x = 1#1 ∧ y = 1#1 := by decide

/-- A conjunction that holds has only conjuncts that hold. -/
theorem foldl_and {α : Type} (f : α → BitVec 1) (l : List α) (b : BitVec 1) (h : l.foldl (fun r n => IntOp.andi r (f n)) b = 1#1) :
    b = 1#1 ∧ ∀ n ∈ l, f n = 1#1 := by
  induction l generalizing b with
  | nil => exact ⟨h, fun n hn => absurd hn List.not_mem_nil⟩
  | cons a l ih =>
    obtain ⟨h1, h2⟩ := ih _ h
    obtain ⟨h3, h4⟩ := andi_one _ _ h1
    refine ⟨h3, fun n hn => ?_⟩
    rcases List.mem_cons.mp hn with rfl | hn
    · exact h4
    · exact h2 n hn

theorem reduce_and {s : Shape} {axes : List (Fin s.rank)} (x : IVec s 1) (init : IVec S_ 1) (h : s.ReducesTo axes S_) (hu : 0 < S_.numel) (j : S_.Idx)
    (e : Host.reduce IntOp.andi x init h hu j = 1#1) (i : s.Idx) : x i = 1#1 := by
  have := (foldl_and (fun n => x (s.rowMajor.symm n)) _ _ e).2 (s.rowMajor i)
    (List.mem_filter.mpr ⟨List.mem_finRange _, decide_eq_true (funext fun a => a.elim0)⟩)
  simpa using this

/-- A value of magnitude below infinity is a real number. -/
theorem real_of (x : EReal) (h : FloatOps.cmpf (F := Ideal) (φ := .f32) .olt (FloatOps.absf (F := Ideal) (φ := .f32) x) (Ideal.ofBits .f32 0x7F800000#32) = 1#1) :
    ∃ r : ℝ, x = (r : EReal) := by
  have e : Ideal.ofBits .f32 0x7F800000#32 = (⊤ : EReal) := by simp [Ideal.ofBits, Ideal.ieee, -EReal.coe_mul]
  rw [e] at h
  change BitVec.ofBool (decide (max x (-x) < ⊤)) = 1#1 at h
  induction x using EReal.rec with
  | bot => simp at h
  | coe r => exact ⟨r, rfl⟩
  | top => simp at h

theorem real_args (X : FVec Ideal S12x768x2048 .bf16) (W : FVec Ideal S6144x2048 .bf16) (C : IVec S6144x16 32) (h : fn (F := Ideal) X W C = fun _ => 1#1) :
    (∀ i, ∃ r : ℝ, X i = (r : EReal)) ∧ ∀ i, ∃ r : ℝ, W i = (r : EReal) := by
  have h0 := congrFun h (fun a => a.elim0)
  obtain ⟨h1, h2⟩ := andi_one _ _ h0
  exact ⟨fun i => real_of _ (reduce_and _ _ _ _ _ h1 i), fun i => real_of _ (reduce_and _ _ _ _ _ h2 i)⟩
end Cert.Pre_finite
end
-- ==== Proof.lean ====
module

public import proofs.«01_k».proof.Defs
public import proofs.«01_k».proof.Proof.K.Run
public import proofs.«01_k».proof.Proof.KI.Run
public import proofs.«01_k».proof.Proof.KI.Value
public import proofs.«01_k».proof.Proof.PreFin
public import proofs.«01_k».proof.Proof.Gen.ReferenceIdeal.Run

@[expose] public section

noncomputable section

namespace Cert.Proof

open Idealize.ShloMosaic Idealize.SL.Sem

/-- Every execution of the reference ends with the arguments as they were; it has no semaphore. -/
theorem frame_reference (m : (ℓ : Loc Cert.ReferenceIdeal.nD Cert.ReferenceIdeal.τ Cert.ReferenceIdeal.sig) → Buf (Elt Ideal) ℓ)
    (g : Dev Cert.ReferenceIdeal.nD → PrngReg) :
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))
      ∧ r.2.sem = fun _ => 0) :=
  (θ_run _ _ _).mono (fun r h => ⟨fun c => (h c).2.2.2.2.2, sem_eq_zero_of_no_sems rfl _⟩) (Cert.ReferenceIdeal.Value.run m g)

/-- On real activations and weights the kernel's five results are the reference's. -/
theorem algebraic : Cert.algebraic_KernelIdeal_ReferenceIdeal_pre_finite (hKernelIdeal := Cert.KernelIdeal.Gen.facts) (hReferenceIdeal := Cert.ReferenceIdeal.Gen.facts) (hPre_finite := Cert.Pre_finite.facts) := by
  intro m g m' g' hp ha
  refine ⟨fun c => Cert.ReferenceIdeal.Pf.lossR (Cert.KernelIdeal.Pf.argX m c) (Cert.KernelIdeal.Pf.argW m c),
    fun c => Cert.ReferenceIdeal.Pf.packR (Cert.KernelIdeal.Pf.argW m c),
    fun c => Cert.ReferenceIdeal.Pf.scaleR (Cert.KernelIdeal.Pf.argW m c),
    fun c => Cert.ReferenceIdeal.Pf.qwR (Cert.KernelIdeal.Pf.argW m c) (Cert.KernelIdeal.Pf.argN m c),
    fun c => Cert.ReferenceIdeal.Pf.sselR (Cert.KernelIdeal.Pf.argW m c) (Cert.KernelIdeal.Pf.argN m c), ?_, ?_⟩
  · exact Cert.KernelIdeal.Pf.run_value m g fun c => Cert.Pre_finite.real_args _ _ _ (hp c)
  · refine (θ_run _ _ _).mono (fun r h c => ?_) (Cert.ReferenceIdeal.Pf.run m' g')
    obtain ⟨h0, h1, h2, h3, h4, h5⟩ := h c
    obtain ⟨a0, a1, a2⟩ := ha c
    rw [a0, a1] at h0
    rw [a1] at h1 h2
    rw [a1, a2] at h3 h4
    exact ⟨h0, h1, h2, h3, h4, h5⟩

theorem claim : Cert.Claim := ⟨Cert.Kernel.Gen.facts, Cert.KernelIdeal.Gen.facts, Cert.ReferenceIdeal.Gen.facts, Cert.Pre_finite.facts,
  fun m g _ => Cert.Kernel.Pf.frame m g, fun m g _ => Cert.KernelIdeal.Pf.frame m g, fun m g _ => Cert.KernelIdeal.Pf.frame m g,
  fun m g _ => frame_reference m g, fun m g _ => frame_reference m g, trivial, algebraic⟩

end Cert.Proof

end
